-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_projections [hPre_finite_projections : Cert.Pre_finite_projections.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_projections.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_projections [hPre_finite_projections : Cert.Pre_finite_projections.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_projections.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_keys [hPre_finite_keys : Cert.Pre_finite_keys.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_keys.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_keys [hPre_finite_keys : Cert.Pre_finite_keys.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_keys.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_projections [hKernel11Ideal : Cert.Kernel11Ideal.Facts] [hPre_finite_projections : Cert.Pre_finite_projections.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_projections m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_projections [hReference11Ideal : Cert.Reference11Ideal.Facts] [hPre_finite_projections : Cert.Pre_finite_projections.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_projections m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite_keys [hKernel12Ideal : Cert.Kernel12Ideal.Facts] [hPre_finite_keys : Cert.Pre_finite_keys.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_keys m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite_keys [hReference12Ideal : Cert.Reference12Ideal.Facts] [hPre_finite_keys : Cert.Pre_finite_keys.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_keys m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_values)) (v2 : (c : Dev Cert.Kernel8Ideal.nD) → Buf (Elt Ideal) ((c.tc : Thread Cert.Kernel8Ideal.nD Cert.Kernel8Ideal.τ).loc Cert.Kernel8Ideal.main_indices)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_values) = v1 c
          ∧ r.2.mem ((c.tc : Thread Cert.Kernel8Ideal.nD Cert.Kernel8Ideal.τ).loc Cert.Kernel8Ideal.main_indices) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_values) = v1 c
          ∧ r.2.mem ((c.tc : Thread Cert.Reference8Ideal.nD Cert.Reference8Ideal.τ).loc Cert.Reference8Ideal.main_indices) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite_projections [hKernel11Ideal : Cert.Kernel11Ideal.Facts] [hReference11Ideal : Cert.Reference11Ideal.Facts] [hPre_finite_projections : Cert.Pre_finite_projections.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_projections m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v61_0)) (v1 : (c : Dev Cert.Kernel11Ideal.nD) → Buf (Elt Ideal) ((c.tc : Thread Cert.Kernel11Ideal.nD Cert.Kernel11Ideal.τ).loc Cert.Kernel11Ideal.main_v61_1)) (v2 : (c : Dev Cert.Kernel11Ideal.nD) → Buf (Elt Ideal) ((c.tc : Thread Cert.Kernel11Ideal.nD Cert.Kernel11Ideal.τ).loc Cert.Kernel11Ideal.main_v61_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v61_0) = v0 c
          ∧ r.2.mem ((c.tc : Thread Cert.Kernel11Ideal.nD Cert.Kernel11Ideal.τ).loc Cert.Kernel11Ideal.main_v61_1) = v1 c
          ∧ r.2.mem ((c.tc : Thread Cert.Kernel11Ideal.nD Cert.Kernel11Ideal.τ).loc Cert.Kernel11Ideal.main_v61_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v98) = v0 c
          ∧ r.2.mem ((c.tc : Thread Cert.Reference11Ideal.nD Cert.Reference11Ideal.τ).loc Cert.Reference11Ideal.main_v100) = v1 c
          ∧ r.2.mem ((c.tc : Thread Cert.Reference11Ideal.nD Cert.Reference11Ideal.τ).loc Cert.Reference11Ideal.main_v102) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite_keys [hKernel12Ideal : Cert.Kernel12Ideal.Facts] [hReference12Ideal : Cert.Reference12Ideal.Facts] [hPre_finite_keys : Cert.Pre_finite_keys.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_keys m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v13_0)) (v1 : (c : Dev Cert.Kernel12Ideal.nD) → Buf (Elt Ideal) ((c.tc : Thread Cert.Kernel12Ideal.nD Cert.Kernel12Ideal.τ).loc Cert.Kernel12Ideal.main_v13_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13_0) = v0 c
          ∧ r.2.mem ((c.tc : Thread Cert.Kernel12Ideal.nD Cert.Kernel12Ideal.τ).loc Cert.Kernel12Ideal.main_v13_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v32) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v9)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v9) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v35) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4)) (v1 : (c : Dev Cert.Kernel17Ideal.nD) → Buf (Elt Ideal) ((c.tc : Thread Cert.Kernel17Ideal.nD Cert.Kernel17Ideal.τ).loc Cert.Kernel17Ideal.main_values)) (v2 : (c : Dev Cert.Kernel17Ideal.nD) → Buf (Elt Ideal) ((c.tc : Thread Cert.Kernel17Ideal.nD Cert.Kernel17Ideal.τ).loc Cert.Kernel17Ideal.main_indices)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_values) = v1 c
          ∧ r.2.mem ((c.tc : Thread Cert.Kernel17Ideal.nD Cert.Kernel17Ideal.τ).loc Cert.Kernel17Ideal.main_indices) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v20) = v0 c
          ∧ r.2.mem ((c.tc : Thread Cert.Reference17Ideal.nD Cert.Reference17Ideal.τ).loc Cert.Reference17Ideal.main_values) = v1 c
          ∧ r.2.mem ((c.tc : Thread Cert.Reference17Ideal.nD Cert.Reference17Ideal.τ).loc Cert.Reference17Ideal.main_indices) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v36) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_scores : Cert.Pre_finite_scores.Facts) (hPre_finite_projections : Cert.Pre_finite_projections.Facts) (hPre_finite_keys : Cert.Pre_finite_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_projections (hKernel11Ideal := hKernel11Ideal) (hPre_finite_projections := hPre_finite_projections)
    ∧ quiescent_Reference11Ideal (hReference11Ideal := hReference11Ideal)
    ∧ quiescent_Reference11Ideal_pre_finite_projections (hReference11Ideal := hReference11Ideal) (hPre_finite_projections := hPre_finite_projections)
    ∧ quiescent_Kernel12 (hKernel12 := hKernel12)
    ∧ quiescent_Kernel12Ideal (hKernel12Ideal := hKernel12Ideal)
    ∧ quiescent_Kernel12Ideal_pre_finite_keys (hKernel12Ideal := hKernel12Ideal) (hPre_finite_keys := hPre_finite_keys)
    ∧ quiescent_Reference12Ideal (hReference12Ideal := hReference12Ideal)
    ∧ quiescent_Reference12Ideal_pre_finite_keys (hReference12Ideal := hReference12Ideal) (hPre_finite_keys := hPre_finite_keys)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_projections (hKernel11Ideal := hKernel11Ideal) (hReference11Ideal := hReference11Ideal) (hPre_finite_projections := hPre_finite_projections)
    ∧ preserves_Kernel12_Kernel12Ideal
    ∧ algebraic_Kernel12Ideal_Reference12Ideal_pre_finite_keys (hKernel12Ideal := hKernel12Ideal) (hReference12Ideal := hReference12Ideal) (hPre_finite_keys := hPre_finite_keys)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite_keys.lean ====
abbrev S4x256x512 : Shape := ⟨3, ![4, 256, 512]⟩
abbrev S1x64 : Shape := ⟨2, ![1, 64]⟩
abbrev S4x256x256 : Shape := ⟨3, ![4, 256, 256]⟩
abbrev S_ : Shape := ⟨0, ![]⟩

class Facts : Prop where
  slices_S4x256x512_S4x256x256_0_0_0 : S4x256x512.Slices ![0, 0, 0] S4x256x256
  bcast_S_S4x256x256 : S_.BroadcastsInDim S4x256x256 (![] : Fin 0 → Fin S4x256x256.rank)

variable [Facts]

def fn {F : FTy → Type} [FloatOps F] (main_arg0 : FVec F S4x256x512 .f32) (main_arg1 : FVec F S1x64 .f32) : IVec S4x256x256 1 :=
  let main_v0 : FVec F S4x256x256 .f32 := (extractStridedSlice S4x256x256 ![0, 0, 0] · slices_S4x256x512_S4x256x256_0_0_0) main_arg0
  let main_v1 : FVec F S4x256x256 .f32 := Host.absf main_v0
  let main_cst : FVec F S_ .f32 := constant S_ .f32 0x7F800000#32
  let main_v2 : FVec F S4x256x256 .f32 := broadcastInDim S4x256x256 ![] bcast_S_S4x256x256 main_cst
  let main_v3 : IVec S4x256x256 1 := cmpf .olt main_v1 main_v2
  main_v3
-- ==== Pre_finite_projections.lean ====
abbrev S4x4096x1536 : Shape := ⟨3, ![4, 4096, 1536]⟩
abbrev S1x64 : Shape := ⟨2, ![1, 64]⟩
abbrev S4x4096x1280 : Shape := ⟨3, ![4, 4096, 1280]⟩
abbrev S_ : Shape := ⟨0, ![]⟩

class Facts : Prop where
  slices_S4x4096x1536_S4x4096x1280_0_0_0 : S4x4096x1536.Slices ![0, 0, 0] S4x4096x1280
  bcast_S_S4x4096x1280 : S_.BroadcastsInDim S4x4096x1280 (![] : Fin 0 → Fin S4x4096x1280.rank)

variable [Facts]

def fn {F : FTy → Type} [FloatOps F] (main_arg0 : FVec F S4x4096x1536 .f32) (main_arg1 : FVec F S1x64 .f32) (main_arg2 : FVec F S1x64 .f32) : IVec S4x4096x1280 1 :=
  let main_v0 : FVec F S4x4096x1280 .f32 := (extractStridedSlice S4x4096x1280 ![0, 0, 0] · slices_S4x4096x1536_S4x4096x1280_0_0_0) main_arg0
  let main_v1 : FVec F S4x4096x1280 .f32 := Host.absf main_v0
  let main_cst : FVec F S_ .f32 := constant S_ .f32 0x7F800000#32
  let main_v2 : FVec F S4x4096x1280 .f32 := broadcastInDim S4x4096x1280 ![] bcast_S_S4x4096x1280 main_cst
  let main_v3 : IVec S4x4096x1280 1 := cmpf .olt main_v1 main_v2
  main_v3
-- ==== Pre_finite_scores.lean ====
abbrev S4x4096x4x4x64 : Shape := ⟨5, ![4, 4096, 4, 4, 64]⟩
abbrev S4x256x4x64 : Shape := ⟨4, ![4, 256, 4, 64]⟩
abbrev S4x4096x4x64 : Shape := ⟨4, ![4, 4096, 4, 64]⟩
abbrev S_ : Shape := ⟨0, ![]⟩

class Facts : Prop where
  bcast_S_S4x4096x4x4x64 : S_.BroadcastsInDim S4x4096x4x4x64 (![] : Fin 0 → Fin S4x4096x4x4x64.rank)
  bcast_S_S4x256x4x64 : S_.BroadcastsInDim S4x256x4x64 (![] : Fin 0 → Fin S4x256x4x64.rank)
  bcast_S_S4x4096x4x64 : S_.BroadcastsInDim S4x4096x4x64 (![] : Fin 0 → Fin S4x4096x4x64.rank)

variable [Facts]

def fn {F : FTy → Type} [FloatOps F] (main_arg0 : FVec F S4x4096x4x4x64 .f32) (main_arg1 : FVec F S4x256x4x64 .f32) (main_arg2 : FVec F S4x256x4x64 .f32) (main_arg3 : FVec F S4x4096x4x64 .f32) (main_arg4 : FVec F S4x4096x4x64 .f32) : IVec S4x4096x4x4x64 1 × IVec S4x256x4x64 1 × IVec S4x4096x4x64 1 :=
  let main_v0 : FVec F S4x4096x4x4x64 .f32 := Host.absf main_arg0
  let main_cst : FVec F S_ .f32 := constant S_ .f32 0x7F800000#32
  let main_v1 : FVec F S4x4096x4x4x64 .f32 := broadcastInDim S4x4096x4x4x64 ![] bcast_S_S4x4096x4x4x64 main_cst
  let main_v2 : IVec S4x4096x4x4x64 1 := cmpf .olt main_v0 main_v1
  let main_v3 : FVec F S4x256x4x64 .f32 := Host.absf main_arg1
  let main_cst_0 : FVec F S_ .f32 := constant S_ .f32 0x7F800000#32
  let main_v4 : FVec F S4x256x4x64 .f32 := broadcastInDim S4x256x4x64 ![] bcast_S_S4x256x4x64 main_cst_0
  let main_v5 : IVec S4x256x4x64 1 := cmpf .olt main_v3 main_v4
  let main_v6 : FVec F S4x4096x4x64 .f32 := Host.absf main_arg3
  let main_cst_1 : FVec F S_ .f32 := constant S_ .f32 0x7F800000#32
  let main_v7 : FVec F S4x4096x4x64 .f32 := broadcastInDim S4x4096x4x64 ![] bcast_S_S4x4096x4x64 main_cst_1
  let main_v8 : IVec S4x4096x4x64 1 := cmpf .olt main_v6 main_v7
  (main_v2, main_v5, main_v8)
-- ==== Kernel.lean ====
abbrev S4x4096x4x4x64 : Shape := ⟨5, ![4, 4096, 4, 4, 64]⟩
abbrev S4x256x4x64 : Shape := ⟨4, ![4, 256, 4, 64]⟩
abbrev S4x4096x4x64 : Shape := ⟨4, ![4, 4096, 4, 64]⟩
abbrev S_ : Shape := ⟨0, ![]⟩
abbrev S4x4096x16x64 : Shape := ⟨4, ![4, 4096, 16, 64]⟩
abbrev S4x16x4096x64 : Shape := ⟨4, ![4, 16, 4096, 64]⟩
abbrev S4x4x256x64 : Shape := ⟨4, ![4, 4, 256, 64]⟩
abbrev S4x256x4x1 : Shape := ⟨4, ![4, 256, 4, 1]⟩
abbrev S4x256x4x63 : Shape := ⟨4, ![4, 256, 4, 63]⟩
abbrev S4x256x4x128 : Shape := ⟨4, ![4, 256, 4, 128]⟩
abbrev S4x4x256x128 : Shape := ⟨4, ![4, 4, 256, 128]⟩
abbrev S4x4x4096x64 : Shape := ⟨4, ![4, 4, 4096, 64]⟩
abbrev S4x4096x4x1 : Shape := ⟨4, ![4, 4096, 4, 1]⟩
abbrev S4x4096x4x63 : Shape := ⟨4, ![4, 4096, 4, 63]⟩
abbrev S4x4096x4x128 : Shape := ⟨4, ![4, 4096, 4, 128]⟩
abbrev S4x4x4096x128 : Shape := ⟨4, ![4, 4, 4096, 128]⟩
abbrev S1x4x256x64 : Shape := ⟨4, ![1, 4, 256, 64]⟩
abbrev S1x1x256x64 : Shape := ⟨4, ![1, 1, 256, 64]⟩
abbrev S1x1x256x128 : Shape := ⟨4, ![1, 1, 256, 128]⟩
abbrev S1x1x4096x64 : Shape := ⟨4, ![1, 1, 4096, 64]⟩
abbrev S1x1x4096x128 : Shape := ⟨4, ![1, 1, 4096, 128]⟩
abbrev S256x64 : Shape := ⟨2, ![256, 64]⟩
abbrev S256x256 : Shape := ⟨2, ![256, 256]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S4096x128 : Shape := ⟨2, ![4096, 128]⟩

abbrev nBuf : Space → Nat
  | .hbm => 30
  | .vmem => 12
  | .smem => 0
  | _ => 0

abbrev bufTy : (tb : Table) → Fin (tcTables nBuf tb) → BufTy
  | .hbm, ⟨0, _⟩ => ⟨S4x4096x4x4x64, .f32⟩
  | .hbm, ⟨1, _⟩ => ⟨S4x256x4x64, .f32⟩
  | .hbm, ⟨2, _⟩ => ⟨S4x256x4x64, .f32⟩
  | .hbm, ⟨3, _⟩ => ⟨S4x4096x4x64, .f32⟩
  | .hbm, ⟨4, _⟩ => ⟨S4x4096x4x64, .f32⟩
  | .hbm, ⟨5, _⟩ => ⟨S_, .f32⟩
  | .hbm, ⟨6, _⟩ => ⟨S4x4096x4x4x64, .f32⟩
  | .hbm, ⟨7, _⟩ => ⟨S4x4096x4x4x64, .f32⟩
  | .hbm, ⟨8, _⟩ => ⟨S4x4096x16x64, .f32⟩
  | .hbm, ⟨9, _⟩ => ⟨S4x16x4096x64, .f32⟩
  | .hbm, ⟨10, _⟩ => ⟨S4x16x4096x64, .bf16⟩
  | .hbm, ⟨11, _⟩ => ⟨S4x4x256x64, .f32⟩
  | .hbm, ⟨12, _⟩ => ⟨S4x4x256x64, .bf16⟩
  | .hbm, ⟨13, _⟩ => ⟨S_, .f32⟩
  | .hbm, ⟨14, _⟩ => ⟨S4x256x4x1, .f32⟩
  | .hbm, ⟨15, _⟩ => ⟨S_, .f32⟩
  | .hbm, ⟨16, _⟩ => ⟨S4x256x4x63, .f32⟩
  | .hbm, ⟨17, _⟩ => ⟨S4x256x4x128, .f32⟩
  | .hbm, ⟨18, _⟩ => ⟨S4x4x256x128, .f32⟩
  | .hbm, ⟨19, _⟩ => ⟨S4x4x256x128, .bf16⟩
  | .hbm, ⟨20, _⟩ => ⟨S4x4x4096x64, .f32⟩
  | .hbm, ⟨21, _⟩ => ⟨S4x4x4096x64, .bf16⟩
  | .hbm, ⟨22, _⟩ => ⟨S_, .f32⟩
  | .hbm, ⟨23, _⟩ => ⟨S4x4096x4x1, .f32⟩
  | .hbm, ⟨24, _⟩ => ⟨S_, .f32⟩
  | .hbm, ⟨25, _⟩ => ⟨S4x4096x4x63, .f32⟩
  | .hbm, ⟨26, _⟩ => ⟨S4x4096x4x128, .f32⟩
  | .hbm, ⟨27, _⟩ => ⟨S4x4x4096x128, .f32⟩
  | .hbm, ⟨28, _⟩ => ⟨S4x4x4096x128, .bf16⟩
  | .hbm, ⟨29, _⟩ => ⟨S4x16x4096x64, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x4x256x64, .bf16⟩
  | .local _ .vmem, ⟨11, _⟩ => ⟨S1x4x256x64, .bf16⟩
  | _, _ => ⟨S4x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x4x4x64 : Shape := ⟨5, ![4, 4096, 4, 4, 64]⟩
abbrev S4x256x4x64 : Shape := ⟨4, ![4, 256, 4, 64]⟩
abbrev S4x4096x4x64 : Shape := ⟨4, ![4, 4096, 4, 64]⟩
abbrev S4x4352x4x64 : Shape := ⟨4, ![4, 4352, 4, 64]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x4x4096x64 : Shape := ⟨5, ![4, 4, 4, 4096, 64]⟩
abbrev S4x16x4096x64 : Shape := ⟨4, ![4, 16, 4096, 64]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x4x4x64, .f32⟩
  | .hbm, ⟨1, _⟩ => ⟨S4x256x4x64, .f32⟩
  | .hbm, ⟨2, _⟩ => ⟨S4x256x4x64, .f32⟩
  | .hbm, ⟨3, _⟩ => ⟨S4x4096x4x64, .f32⟩
  | .hbm, ⟨4, _⟩ => ⟨S4x4096x4x64, .f32⟩
  | .hbm, ⟨5, _⟩ => ⟨S4x4352x4x64, .f32⟩
  | .hbm, ⟨6, _⟩ => ⟨S4x4352x4x64, .f32⟩
  | .hbm, ⟨7, _⟩ => ⟨S4x4x4352x4096x4, .f32⟩
  | .hbm, ⟨8, _⟩ => ⟨S4x4x4x4096x4352, .f32⟩
  | .hbm, ⟨9, _⟩ => ⟨S_, .f32⟩
  | .hbm, ⟨10, _⟩ => ⟨S4x4x4x4096x4352, .f32⟩
  | .hbm, ⟨11, _⟩ => ⟨S4x4x4x4096x4352, .f32⟩
  | .hbm, ⟨12, _⟩ => ⟨S_, .f32⟩
  | .hbm, ⟨13, _⟩ => ⟨S4x4x4x4096, .f32⟩
  | .hbm, ⟨14, _⟩ => ⟨S_, .f32⟩
  | .hbm, ⟨15, _⟩ => ⟨S4x4x4x4096, .f32⟩
  | .hbm, ⟨16, _⟩ => ⟨S4x4x4x4096, .f32⟩
  | .hbm, ⟨17, _⟩ => ⟨S4x4x4x4096x1, .f32⟩
  | .hbm, ⟨18, _⟩ => ⟨S4x4x4x4096x4352, .f32⟩
  | .hbm, ⟨19, _⟩ => ⟨S4x4x4x4096x4352, .f32⟩
  | .hbm, ⟨20, _⟩ => ⟨S4x4x4x4096x4352, .f32⟩
  | .hbm, ⟨21, _⟩ => ⟨S_, .f32⟩
  | .hbm, ⟨22, _⟩ => ⟨S4x4x4x4096, .f32⟩
  | .hbm, ⟨23, _⟩ => ⟨S4x4x4x4096x1, .f32⟩
  | .hbm, ⟨24, _⟩ => ⟨S4x4x4x4096x4352, .f32⟩
  | .hbm, ⟨25, _⟩ => ⟨S4x4x4x4096x4352, .f32⟩
  | .hbm, ⟨26, _⟩ => ⟨S4x4x4x4096x64, .f32⟩
  | .hbm, ⟨27, _⟩ => ⟨S4x16x4096x64, .f32⟩
  | .hbm, ⟨28, _⟩ => ⟨S4x16x4096x64, .bf16⟩
  | _, _ => ⟨S4x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S4x16x512x1024 : Shape := ⟨4, ![4, 16, 512, 1024]⟩
abbrev S4x16x1024x2048 : Shape := ⟨4, ![4, 16, 1024, 2048]⟩
abbrev S4x16x2048x1024 : Shape := ⟨4, ![4, 16, 2048, 1024]⟩
abbrev S4x16x512 : Shape := ⟨3, ![4, 16, 512]⟩
abbrev S16x4x512x1024 : Shape := ⟨4, ![16, 4, 512, 1024]⟩
abbrev S16x2048x1024 : Shape := ⟨3, ![16, 2048, 1024]⟩
abbrev S16x4x512 : Shape := ⟨3, ![16, 4, 512]⟩
abbrev S16x2048x1 : Shape := ⟨3, ![16, 2048, 1]⟩
abbrev S1x2048x1024 : Shape := ⟨3, ![1, 2048, 1024]⟩
abbrev S1x1x1024x512 : Shape := ⟨4, ![1, 1, 1024, 512]⟩
abbrev S1x1x512x1024 : Shape := ⟨4, ![1, 1, 512, 1024]⟩
abbrev S1x2048x1 : Shape := ⟨3, ![1, 2048, 1]⟩
abbrev S1024x512 : Shape := ⟨2, ![1024, 512]⟩
abbrev S512x1024 : Shape := ⟨2, ![512, 1024]⟩
abbrev S1x1024x1024 : Shape := ⟨3, ![1, 1024, 1024]⟩
abbrev S1024x1024 : Shape := ⟨2, ![1024, 1024]⟩
abbrev S2048x1024 : Shape := ⟨2, ![2048, 1024]⟩
abbrev S2048x1 : Shape := ⟨2, ![2048, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x16x512x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S4x16x512, .f32⟩
  | .hbm, ⟨5, _⟩ => ⟨S16x4x512x1024, .f32⟩
  | .hbm, ⟨6, _⟩ => ⟨S16x4x512x1024, .bf16⟩
  | .hbm, ⟨7, _⟩ => ⟨S16x2048x1024, .bf16⟩
  | .hbm, ⟨8, _⟩ => ⟨S16x4x512, .f32⟩
  | .hbm, ⟨9, _⟩ => ⟨S16x2048x1, .f32⟩
  | .hbm, ⟨10, _⟩ => ⟨S16x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x1024, .f32⟩
  | .local _ .vmem, ⟨11, _⟩ => ⟨S1x2048x1024, .f32⟩
  | _, _ => ⟨S4x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_16 : BitVec 32 := 0#32
  let v20 : BitVec 1 := Scalar.cmpi .ne v19 c0_i32_16
  v20

def k0_cond2 (i : grid0.Coords) : BitVec 1 :=
  let arg1 : BitVec 32 := BitVec.ofNat 32 (i 1).val
  let c0_i32_17 : BitVec 32 := 0#32
  let v21 : BitVec 1 := Scalar.cmpi .sgt arg1 c0_i32_17
  let v22 : BitVec 32 := Scalar.extui v21
  let c0_i32_18 : BitVec 32 := 0#32
  let v23 : BitVec 1 := Scalar.cmpi .ne v22 c0_i32_18
  v23

def k0_cond3 (i : grid0.Coords) : BitVec 1 :=
  let arg1 : BitVec 32 := BitVec.ofNat 32 (i 1).val
  let c0_i32_24 : BitVec 32 := 0#32
  let v33 : BitVec 1 := Scalar.cmpi .eq arg1 c0_i32_24
  let v34 : BitVec 32 := Scalar.extui v33
  let c0_i32_25 : BitVec 32 := 0#32
  let v35 : BitVec 1 := Scalar.cmpi .ne v34 c0_i32_25
  v35

def k0_cond4 (i : grid0.Coords) : BitVec 1 :=
  let arg1 : BitVec 32 := BitVec.ofNat 32 (i 1).val
  let c0_i32_26 : BitVec 32 := 0#32
  let v36 : BitVec 1 := Scalar.cmpi .sgt arg1 c0_i32_26
  let v37 : BitVec 32 := Scalar.extui v36
  let c0_i32_27 : BitVec 32 := 0#32
  let v38 : BitVec 1 := Scalar.cmpi .ne v37 c0_i32_27
  v38

def k0_cond5 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_28 : BitVec 32 := 0#32
  let v41 : BitVec 1 := Scalar.cmpi .ne v40 c0_i32_28
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x16x512x1024 : Shape := ⟨4, ![4, 16, 512, 1024]⟩
abbrev S4x16x1024x2048 : Shape := ⟨4, ![4, 16, 1024, 2048]⟩
abbrev S4x16x2048x1024 : Shape := ⟨4, ![4, 16, 2048, 1024]⟩
abbrev S4x16x512 : Shape := ⟨3, ![4, 16, 512]⟩
abbrev S1x16x1024x2048 : Shape := ⟨4, ![1, 16, 1024, 2048]⟩
abbrev S16x1024x2048 : Shape := ⟨3, ![16, 1024, 2048]⟩
abbrev S16x2048x4x512 : Shape := ⟨4, ![16, 2048, 4, 512]⟩
abbrev S4x16x512x2048 : Shape := ⟨4, ![4, 16, 512, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x4x512 : Shape := ⟨4, ![16, 1024, 4, 512]⟩
abbrev S4x16x512x1 : Shape := ⟨4, ![4, 16, 512, 1]⟩
abbrev S16x4x512x1024 : Shape := ⟨4, ![16, 4, 512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x16x512x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S4x16x512, .f32⟩
  | .hbm, ⟨5, _⟩ => ⟨S1x16x1024x2048, .f32⟩
  | .hbm, ⟨6, _⟩ => ⟨S16x1024x2048, .f32⟩
  | .hbm, ⟨7, _⟩ => ⟨S16x2048x4x512, .f32⟩
  | .hbm, ⟨8, _⟩ => ⟨S4x16x512x2048, .f32⟩
  | .hbm, ⟨9, _⟩ => ⟨S1x16x1024x2048, .f32⟩
  | .hbm, ⟨10, _⟩ => ⟨S16x1024x2048, .f32⟩
  | .hbm, ⟨11, _⟩ => ⟨S16x2048x4x512, .f32⟩
  | .hbm, ⟨12, _⟩ => ⟨S4x16x512x2048, .f32⟩
  | .hbm, ⟨13, _⟩ => ⟨S4x16x512x2048, .f32⟩
  | .hbm, ⟨14, _⟩ => ⟨S4x16x512x2048, .f32⟩
  | .hbm, ⟨15, _⟩ => ⟨S_, .f32⟩
  | .hbm, ⟨16, _⟩ => ⟨S4x16x512x2048, .f32⟩
  | .hbm, ⟨17, _⟩ => ⟨S4x16x512x2048, .f32⟩
  | .hbm, ⟨18, _⟩ => ⟨S_, .f32⟩
  | .hbm, ⟨19, _⟩ => ⟨S4x16x512x2048, .f32⟩
  | .hbm, ⟨20, _⟩ => ⟨S4x16x512x2048, .f32⟩
  | .hbm, ⟨21, _⟩ => ⟨S4x16x512x2048, .f32⟩
  | .hbm, ⟨22, _⟩ => ⟨S4x16x512x2048, .f32⟩
  | .hbm, ⟨23, _⟩ => ⟨S1x16x2048x1024, .f32⟩
  | .hbm, ⟨24, _⟩ => ⟨S16x2048x1024, .f32⟩
  | .hbm, ⟨25, _⟩ => ⟨S16x1024x4x512, .f32⟩
  | .hbm, ⟨26, _⟩ => ⟨S4x16x512x1024, .f32⟩
  | .hbm, ⟨27, _⟩ => ⟨S4x16x512x1, .f32⟩
  | .hbm, ⟨28, _⟩ => ⟨S4x16x512x1024, .f32⟩
  | .hbm, ⟨29, _⟩ => ⟨S4x16x512x1024, .f32⟩
  | .hbm, ⟨30, _⟩ => ⟨S16x4x512x1024, .f32⟩
  | .hbm, ⟨31, _⟩ => ⟨S16x2048x1024, .f32⟩
  | _, _ => ⟨S4x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1x1024 : Shape := ⟨3, ![4, 1, 1024]⟩
abbrev S4x2x1024 : Shape := ⟨3, ![4, 2, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x1x1024, .f32⟩
  | .hbm, ⟨3, _⟩ => ⟨S4x2x1024, .f32⟩
  | .hbm, ⟨4, _⟩ => ⟨S4x2x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4096x1024 : Shape := ⟨3, ![4, 4096, 1024]⟩
abbrev S4x1x1024 : Shape := ⟨3, ![4, 1, 1024]⟩
abbrev S4x2x1024 : Shape := ⟨3, ![4, 2, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x1x1024, .f32⟩
  | .hbm, ⟨3, _⟩ => ⟨S4x2x1024, .f32⟩
  | .hbm, ⟨4, _⟩ => ⟨S4x2x1024, .f32⟩
  | .hbm, ⟨5, _⟩ => ⟨S4x4096x1024, .f32⟩
  | .hbm, ⟨6, _⟩ => ⟨S4x4096x1024, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x1x1024 : Shape := ⟨3, ![4, 1, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S4x4096x3072 : Shape := ⟨3, ![4, 4096, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S1x1024 : Shape := ⟨2, ![1, 1024]⟩
abbrev S256x3072 : Shape := ⟨2, ![256, 3072]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S2x1024x3072, .f32⟩
  | .hbm, ⟨4, _⟩ => ⟨S1x1024x3072, .f32⟩
  | .hbm, ⟨5, _⟩ => ⟨S1024x3072, .f32⟩
  | .hbm, ⟨6, _⟩ => ⟨S1024x3072, .bf16⟩
  | .hbm, ⟨7, _⟩ => ⟨S4x4096x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x256x3072, .f32⟩
  | .local _ .vmem, ⟨8, _⟩ => ⟨S1x256x3072, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x1024 : Shape := ⟨3, ![4, 4096, 1024]⟩
abbrev S4x1x1024 : Shape := ⟨3, ![4, 1, 1024]⟩
abbrev S2x1024x3072 : Shape := ⟨3, ![2, 1024, 3072]⟩
abbrev S_ : Shape := ⟨0, ![]⟩
abbrev S1x1024x3072 : Shape := ⟨3, ![1, 1024, 3072]⟩
abbrev S1024x3072 : Shape := ⟨2, ![1024, 3072]⟩
abbrev S4x4096x3072 : Shape := ⟨3, ![4, 4096, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S2x1024x3072, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1x1024x3072, .f32⟩
  | .hbm, ⟨12, _⟩ => ⟨S1024x3072, .f32⟩
  | .hbm, ⟨13, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4x4096x1024 : Shape := ⟨3, ![4, 4096, 1024]⟩
abbrev S2x1024x1024 : Shape := ⟨3, ![2, 1024, 1024]⟩
abbrev S4x1x1024 : Shape := ⟨3, ![4, 1, 1024]⟩
abbrev S4x2x1024 : Shape := ⟨3, ![4, 2, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S2x1024x1024, .f32⟩
  | .hbm, ⟨2, _⟩ => ⟨S4x4096x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x4096x1024 : Shape := ⟨3, ![4, 4096, 1024]⟩
abbrev S2x1024x1024 : Shape := ⟨3, ![2, 1024, 1024]⟩
abbrev S4x1x1024 : Shape := ⟨3, ![4, 1, 1024]⟩
abbrev S4x2x1024 : Shape := ⟨3, ![4, 2, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024x1024, .f32⟩
  | .hbm, ⟨2, _⟩ => ⟨S4x4096x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S1x1024x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x1x1024 : Shape := ⟨3, ![4, 1, 1024]⟩
abbrev S1x1024x4096 : Shape := ⟨3, ![1, 1024, 4096]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S4x2x1024 : Shape := ⟨3, ![4, 2, 1024]⟩
abbrev S1024x4096 : Shape := ⟨2, ![1024, 4096]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S2048x1024 : Shape := ⟨2, ![2048, 1024]⟩
abbrev S1x1x1024 : Shape := ⟨3, ![1, 1, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x2048 : Shape := ⟨2, ![128, 2048]⟩

abbrev nBuf : Space → Nat
  | .hbm => 31
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x4096, .f32⟩
  | .hbm, ⟨4, _⟩ => ⟨S1x2048, .f32⟩
  | .hbm, ⟨5, _⟩ => ⟨S1x2048, .f32⟩
  | .hbm, ⟨6, _⟩ => ⟨S1x16x128x128, .f32⟩
  | .hbm, ⟨7, _⟩ => ⟨S1x16x128, .f32⟩
  | .hbm, ⟨8, _⟩ => ⟨S1x2048x1024, .f32⟩
  | .hbm, ⟨9, _⟩ => ⟨S4x1x1024, .f32⟩
  | .hbm, ⟨10, _⟩ => ⟨S4x2x1024, .f32⟩
  | .hbm, ⟨11, _⟩ => ⟨S4x2x1024, .f32⟩
  | .hbm, ⟨12, _⟩ => ⟨S1024x4096, .f32⟩
  | .hbm, ⟨13, _⟩ => ⟨S1024x4096, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S16x128x128, .f32⟩
  | .hbm, ⟨19, _⟩ => ⟨S16x128x128, .bf16⟩
  | .hbm, ⟨20, _⟩ => ⟨S16x128, .f32⟩
  | .hbm, ⟨21, _⟩ => ⟨S128x16, .f32⟩
  | .hbm, ⟨22, _⟩ => ⟨S2048x1024, .f32⟩
  | .hbm, ⟨23, _⟩ => ⟨S2048x1024, .bf16⟩
  | .hbm, ⟨24, _⟩ => ⟨S1x1x1024, .f32⟩
  | .hbm, ⟨25, _⟩ => ⟨S1024, .f32⟩
  | .hbm, ⟨26, _⟩ => ⟨S1x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x4096, .bf16⟩
  | .local _ .vmem, ⟨7, _⟩ => ⟨S1x2048, .f32⟩
  | .local _ .vmem, ⟨8, _⟩ => ⟨S1x2048, .f32⟩
  | .local _ .vmem, ⟨9, _⟩ => ⟨S16x128x128, .bf16⟩
  | .local _ .vmem, ⟨10, _⟩ => ⟨S128x16, .f32⟩
  | .local _ .vmem, ⟨11, _⟩ => ⟨S2048x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S4x4096x1024 : Shape := ⟨3, ![4, 4096, 1024]⟩
abbrev S4x1x1024 : Shape := ⟨3, ![4, 1, 1024]⟩
abbrev S1x1024x4096 : Shape := ⟨3, ![1, 1024, 4096]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S4x2x1024 : Shape := ⟨3, ![4, 2, 1024]⟩
abbrev S_ : Shape := ⟨0, ![]⟩
abbrev S1024x4096 : Shape := ⟨2, ![1024, 4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4x4096x4096 : Shape := ⟨3, ![4, 4096, 4096]⟩
abbrev S4x4096x2048 : Shape := ⟨3, ![4, 4096, 2048]⟩
abbrev S4x4096 : Shape := ⟨2, ![4, 4096]⟩
abbrev S4x4096x1 : Shape := ⟨3, ![4, 4096, 1]⟩
abbrev S1x1x2048 : Shape := ⟨3, ![1, 1, 2048]⟩
abbrev S4x32x128x16x128 : Shape := ⟨5, ![4, 32, 128, 16, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩
abbrev S1x1x1024 : Shape := ⟨3, ![1, 1, 1024]⟩
abbrev S1024 : Shape := ⟨1, ![1024]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x4096, .f32⟩
  | .hbm, ⟨4, _⟩ => ⟨S1x2048, .f32⟩
  | .hbm, ⟨5, _⟩ => ⟨S1x2048, .f32⟩
  | .hbm, ⟨6, _⟩ => ⟨S1x16x128x128, .f32⟩
  | .hbm, ⟨7, _⟩ => ⟨S1x16x128, .f32⟩
  | .hbm, ⟨8, _⟩ => ⟨S1x2048x1024, .f32⟩
  | .hbm, ⟨9, _⟩ => ⟨S4x1x1024, .f32⟩
  | .hbm, ⟨10, _⟩ => ⟨S4x2x1024, .f32⟩
  | .hbm, ⟨11, _⟩ => ⟨S4x2x1024, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S1024x4096, .f32⟩
  | .hbm, ⟨20, _⟩ => ⟨S2048, .f32⟩
  | .hbm, ⟨21, _⟩ => ⟨S2048, .f32⟩
  | .hbm, ⟨22, _⟩ => ⟨S16x128x128, .f32⟩
  | .hbm, ⟨23, _⟩ => ⟨S16x128, .f32⟩
  | .hbm, ⟨24, _⟩ => ⟨S2048x1024, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x2048, .f32⟩
  | .hbm, ⟨53, _⟩ => ⟨S4x4096x2048, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x2048, .f32⟩
  | .hbm, ⟨59, _⟩ => ⟨S4x4096x2048, .f32⟩
  | .hbm, ⟨60, _⟩ => ⟨S1x1x2048, .f32⟩
  | .hbm, ⟨61, _⟩ => ⟨S4x4096x2048, .f32⟩
  | .hbm, ⟨62, _⟩ => ⟨S4x4096x2048, .f32⟩
  | .hbm, ⟨63, _⟩ => ⟨S1x1x2048, .f32⟩
  | .hbm, ⟨64, _⟩ => ⟨S4x4096x2048, .f32⟩
  | .hbm, ⟨65, _⟩ => ⟨S4x4096x2048, .f32⟩
  | .hbm, ⟨66, _⟩ => ⟨S4x32x128x16x128, .f32⟩
  | .hbm, ⟨67, _⟩ => ⟨S16x4x32x128x128, .f32⟩
  | .hbm, ⟨68, _⟩ => ⟨S4x32x128x16x128, .f32⟩
  | .hbm, ⟨69, _⟩ => ⟨S128x16, .f32⟩
  | .hbm, ⟨70, _⟩ => ⟨S1x1x128x16x1, .f32⟩
  | .hbm, ⟨71, _⟩ => ⟨S4x32x128x16x128, .f32⟩
  | .hbm, ⟨72, _⟩ => ⟨S4x32x128x16x128, .f32⟩
  | .hbm, ⟨73, _⟩ => ⟨S4x4096x2048, .f32⟩
  | .hbm, ⟨74, _⟩ => ⟨S4x4096x2048, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S1024, .f32⟩
  | .hbm, ⟨80, _⟩ => ⟨S1x1x1024, .f32⟩
  | .hbm, ⟨81, _⟩ => ⟨S1024, .f32⟩
  | .hbm, ⟨82, _⟩ => ⟨S_, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S4x4096x1024, .f32⟩
  | .hbm, ⟨102, _⟩ => ⟨S4x4096x1024, .f32⟩
  | .hbm, ⟨103, _⟩ => ⟨S_, .f32⟩
  | .hbm, ⟨104, _⟩ => ⟨S4x4096x1, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S1x1x1024, .f32⟩
  | .hbm, ⟨110, _⟩ => ⟨S4x4096x1024, .f32⟩
  | .hbm, ⟨111, _⟩ => ⟨S4x4096x1024, .f32⟩
  | .hbm, ⟨112, _⟩ => ⟨S1x1x1024, .f32⟩
  | .hbm, ⟨113, _⟩ => ⟨S4x4096x1024, .f32⟩
  | .hbm, ⟨114, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_12 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== Kernel7.lean ====
abbrev S4x16x4096x64 : Shape := ⟨4, ![4, 16, 4096, 64]⟩
abbrev S1x1024x1024 : Shape := ⟨3, ![1, 1024, 1024]⟩
abbrev S4x4096x1024 : Shape := ⟨3, ![4, 4096, 1024]⟩
abbrev S4x1x1024 : Shape := ⟨3, ![4, 1, 1024]⟩
abbrev S4x2x1024 : Shape := ⟨3, ![4, 2, 1024]⟩
abbrev S1024x1024 : Shape := ⟨2, ![1024, 1024]⟩
abbrev S16x64x1024 : Shape := ⟨3, ![16, 64, 1024]⟩
abbrev S1x1x1024 : Shape := ⟨3, ![1, 1, 1024]⟩
abbrev S1024 : Shape := ⟨1, ![1024]⟩
abbrev S1x1024 : Shape := ⟨2, ![1, 1024]⟩
abbrev S1x16x512x64 : Shape := ⟨4, ![1, 16, 512, 64]⟩
abbrev S1x512x1024 : Shape := ⟨3, ![1, 512, 1024]⟩
abbrev S1x1x512x64 : Shape := ⟨4, ![1, 1, 512, 64]⟩
abbrev S512x64 : Shape := ⟨2, ![512, 64]⟩
abbrev S1x64x1024 : Shape := ⟨3, ![1, 64, 1024]⟩
abbrev S64x1024 : Shape := ⟨2, ![64, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x16x4096x64, .bf16⟩
  | .hbm, ⟨1, _⟩ => ⟨S1x1024x1024, .f32⟩
  | .hbm, ⟨2, _⟩ => ⟨S4x4096x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S1024x1024, .f32⟩
  | .hbm, ⟨7, _⟩ => ⟨S1024x1024, .bf16⟩
  | .hbm, ⟨8, _⟩ => ⟨S16x64x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S4x4096x1024, .f32⟩
  | .local _ .vmem, ⟨0, _⟩ => ⟨S1x16x512x64, .bf16⟩
  | .local _ .vmem, ⟨1, _⟩ => ⟨S1x16x512x64, .bf16⟩
  | .local _ .vmem, ⟨2, _⟩ => ⟨S16x64x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S4x16x4096x64 : Shape := ⟨4, ![4, 16, 4096, 64]⟩
abbrev S1x1024x1024 : Shape := ⟨3, ![1, 1024, 1024]⟩
abbrev S4x4096x1024 : Shape := ⟨3, ![4, 4096, 1024]⟩
abbrev S4x1x1024 : Shape := ⟨3, ![4, 1, 1024]⟩
abbrev S4x2x1024 : Shape := ⟨3, ![4, 2, 1024]⟩
abbrev S4x4096x16x64 : Shape := ⟨4, ![4, 4096, 16, 64]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x16x4096x64, .bf16⟩
  | .hbm, ⟨1, _⟩ => ⟨S1x1024x1024, .f32⟩
  | .hbm, ⟨2, _⟩ => ⟨S4x4096x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S4x4096x16x64, .bf16⟩
  | .hbm, ⟨7, _⟩ => ⟨S4x4096x1024, .bf16⟩
  | .hbm, ⟨8, _⟩ => ⟨S4x4096x1024, .f32⟩
  | .hbm, ⟨9, _⟩ => ⟨S1024x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | _, _ => ⟨S4x16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel8.lean ====
abbrev S4x4096x1024 : Shape := ⟨3, ![4, 4096, 1024]⟩
abbrev S4x1x1024 : Shape := ⟨3, ![4, 1, 1024]⟩
abbrev S4x1024x16 : Shape := ⟨3, ![4, 1024, 16]⟩
abbrev S1x1024x16 : Shape := ⟨3, ![1, 1024, 16]⟩
abbrev S1024x16 : Shape := ⟨2, ![1024, 16]⟩
abbrev S16x1024 : Shape := ⟨2, ![16, 1024]⟩
abbrev S4x16x4096 : Shape := ⟨3, ![4, 16, 4096]⟩
abbrev S1x512x1024 : Shape := ⟨3, ![1, 512, 1024]⟩
abbrev S1x1x1024 : Shape := ⟨3, ![1, 1, 1024]⟩
abbrev S1x16x512 : Shape := ⟨3, ![1, 16, 512]⟩
abbrev S512x1024 : Shape := ⟨2, ![512, 1024]⟩
abbrev S1x1024 : Shape := ⟨2, ![1, 1024]⟩
abbrev S16x512 : Shape := ⟨2, ![16, 512]⟩
abbrev S512 : Shape := ⟨1, ![512]⟩
abbrev S1x512 : Shape := ⟨2, ![1, 512]⟩
abbrev S4x16x512 : Shape := ⟨3, ![4, 16, 512]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1024x16, .f32⟩
  | .hbm, ⟨4, _⟩ => ⟨S1x1024x16, .f32⟩
  | .hbm, ⟨5, _⟩ => ⟨S1024x16, .f32⟩
  | .hbm, ⟨6, _⟩ => ⟨S16x1024, .f32⟩
  | .hbm, ⟨7, _⟩ => ⟨S16x1024, .bf16⟩
  | .hbm, ⟨8, _⟩ => ⟨S4x16x4096, .f32⟩
  | .hbm, ⟨9, _⟩ => ⟨S4x16x512, .f32⟩
  | .hbm, ⟨10, _⟩ => ⟨S4x16x512, .i32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S16x1024, .bf16⟩
  | .local _ .vmem, ⟨7, _⟩ => ⟨S1x16x512, .f32⟩
  | .local _ .vmem, ⟨8, _⟩ => ⟨S1x16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S4x4096x1024 : Shape := ⟨3, ![4, 4096, 1024]⟩
abbrev S4x1x1024 : Shape := ⟨3, ![4, 1, 1024]⟩
abbrev S4x1024x16 : Shape := ⟨3, ![4, 1024, 16]⟩
abbrev S_ : Shape := ⟨0, ![]⟩
abbrev S1x1024x16 : Shape := ⟨3, ![1, 1024, 16]⟩
abbrev S1024x16 : Shape := ⟨2, ![1024, 16]⟩
abbrev S4x4096x16 : Shape := ⟨3, ![4, 4096, 16]⟩
abbrev S4x4096 : Shape := ⟨2, ![4, 4096]⟩
abbrev S4x4096x1 : Shape := ⟨3, ![4, 4096, 1]⟩
abbrev S4x16x4096 : Shape := ⟨3, ![4, 16, 4096]⟩
abbrev S4x16x512 : Shape := ⟨3, ![4, 16, 512]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1024x16, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1x1024x16, .f32⟩
  | .hbm, ⟨12, _⟩ => ⟨S1024x16, .f32⟩
  | .hbm, ⟨13, _⟩ => ⟨S4x4096x16, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x16, .f32⟩
  | .hbm, ⟨27, _⟩ => ⟨S4x4096x16, .f32⟩
  | .hbm, ⟨28, _⟩ => ⟨S4x16x4096, .f32⟩
  | .hbm, ⟨29, _⟩ => ⟨S4x16x512, .f32⟩
  | .hbm, ⟨30, _⟩ => ⟨S4x16x512, .i32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩

abbrev nD : Nat := 1
abbrev τ : Topo := Topo.v7x

variable {F : FTy → Type} [FloatOps F]
-- ==== Kernel9.lean ====
abbrev S4x4096x1024 : Shape := ⟨3, ![4, 4096, 1024]⟩
abbrev S4x1x1024 : Shape := ⟨3, ![4, 1, 1024]⟩
abbrev S1x1024x1536 : Shape := ⟨3, ![1, 1024, 1536]⟩
abbrev S1024x1536 : Shape := ⟨2, ![1024, 1536]⟩
abbrev S4x4096x1536 : Shape := ⟨3, ![4, 4096, 1536]⟩
abbrev S1x512x1024 : Shape := ⟨3, ![1, 512, 1024]⟩
abbrev S1x1x1024 : Shape := ⟨3, ![1, 1, 1024]⟩
abbrev S1x512x1536 : Shape := ⟨3, ![1, 512, 1536]⟩
abbrev S512x1024 : Shape := ⟨2, ![512, 1024]⟩
abbrev S1x1024 : Shape := ⟨2, ![1, 1024]⟩
abbrev S512x1536 : Shape := ⟨2, ![512, 1536]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x1536, .f32⟩
  | .hbm, ⟨4, _⟩ => ⟨S1024x1536, .f32⟩
  | .hbm, ⟨5, _⟩ => ⟨S1024x1536, .bf16⟩
  | .hbm, ⟨6, _⟩ => ⟨S4x4096x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1x512x1536, .f32⟩
  | .local _ .vmem, ⟨8, _⟩ => ⟨S1x512x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x4096x1024 : Shape := ⟨3, ![4, 4096, 1024]⟩
abbrev S4x1x1024 : Shape := ⟨3, ![4, 1, 1024]⟩
abbrev S1x1024x1536 : Shape := ⟨3, ![1, 1024, 1536]⟩
abbrev S_ : Shape := ⟨0, ![]⟩
abbrev S1024x1536 : Shape := ⟨2, ![1024, 1536]⟩
abbrev S4x4096x1536 : Shape := ⟨3, ![4, 4096, 1536]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024x1536, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S1024x1536, .f32⟩
  | .hbm, ⟨12, _⟩ => ⟨S4x4096x1536, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel10.lean ====
abbrev S4x4096x3072 : Shape := ⟨3, ![4, 4096, 3072]⟩
abbrev S2x3x3072 : Shape := ⟨3, ![2, 3, 3072]⟩
abbrev S2x3072 : Shape := ⟨2, ![2, 3072]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S3x4x4096x1024 : Shape := ⟨4, ![3, 4, 4096, 1024]⟩
abbrev S1x4096x256 : Shape := ⟨3, ![1, 4096, 256]⟩
abbrev S3x256 : Shape := ⟨2, ![3, 256]⟩
abbrev S1x256 : Shape := ⟨2, ![1, 256]⟩
abbrev S1x1x4096x256 : Shape := ⟨4, ![1, 1, 4096, 256]⟩
abbrev S4096x256 : Shape := ⟨2, ![4096, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x3072, .f32⟩
  | .hbm, ⟨1, _⟩ => ⟨S2x3x3072, .f32⟩
  | .hbm, ⟨2, _⟩ => ⟨S2x3072, .f32⟩
  | .hbm, ⟨3, _⟩ => ⟨S1x3x3072, .f32⟩
  | .hbm, ⟨4, _⟩ => ⟨S3x3072, .f32⟩
  | .hbm, ⟨5, _⟩ => ⟨S1x3072, .f32⟩
  | .hbm, ⟨6, _⟩ => ⟨S3072, .f32⟩
  | .hbm, ⟨7, _⟩ => ⟨S1x3072, .f32⟩
  | .hbm, ⟨8, _⟩ => ⟨S3x4x4096x1024, .f32⟩
  | .local _ .vmem, ⟨0, _⟩ => ⟨S1x4096x256, .f32⟩
  | .local _ .vmem, ⟨1, _⟩ => ⟨S1x4096x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x1x4096x256, .f32⟩
  | .local _ .vmem, ⟨7, _⟩ => ⟨S1x1x4096x256, .f32⟩
  | _, _ => ⟨S4x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference10Ideal.lean ====
abbrev S4x4096x3072 : Shape := ⟨3, ![4, 4096, 3072]⟩
abbrev S2x3x3072 : Shape := ⟨3, ![2, 3, 3072]⟩
abbrev S2x3072 : Shape := ⟨2, ![2, 3072]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S_ : Shape := ⟨0, ![]⟩
abbrev S4x4098x3072 : Shape := ⟨3, ![4, 4098, 3072]⟩
abbrev S1x1x3072 : Shape := ⟨3, ![1, 1, 3072]⟩
abbrev S4x4096x1024 : Shape := ⟨3, ![4, 4096, 1024]⟩
abbrev S1x4x4096x1024 : Shape := ⟨4, ![1, 4, 4096, 1024]⟩
abbrev S3x4x4096x1024 : Shape := ⟨4, ![3, 4, 4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x3072, .f32⟩
  | .hbm, ⟨1, _⟩ => ⟨S2x3x3072, .f32⟩
  | .hbm, ⟨2, _⟩ => ⟨S2x3072, .f32⟩
  | .hbm, ⟨3, _⟩ => ⟨S1x3x3072, .f32⟩
  | .hbm, ⟨4, _⟩ => ⟨S3x3072, .f32⟩
  | .hbm, ⟨5, _⟩ => ⟨S1x3072, .f32⟩
  | .hbm, ⟨6, _⟩ => ⟨S3072, .f32⟩
  | .hbm, ⟨7, _⟩ => ⟨S_, .i32⟩
  | .hbm, ⟨8, _⟩ => ⟨S_, .f32⟩
  | .hbm, ⟨9, _⟩ => ⟨S4x4098x3072, .f32⟩
  | .hbm, ⟨10, _⟩ => ⟨S4x4096x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S4x4096x3072, .f32⟩
  | .hbm, ⟨15, _⟩ => ⟨S4x4096x3072, .f32⟩
  | .hbm, ⟨16, _⟩ => ⟨S_, .f32⟩
  | .hbm, ⟨17, _⟩ => ⟨S4x4096x3072, .f32⟩
  | .hbm, ⟨18, _⟩ => ⟨S4x4096x3072, .f32⟩
  | .hbm, ⟨19, _⟩ => ⟨S4x4096x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S4x4096x3072, .f32⟩
  | .hbm, ⟨24, _⟩ => ⟨S4x4096x3072, .f32⟩
  | .hbm, ⟨25, _⟩ => ⟨S4x4096x3072, .f32⟩
  | .hbm, ⟨26, _⟩ => ⟨S4x4096x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S4x4096x3072, .f32⟩
  | .hbm, ⟨31, _⟩ => ⟨S4x4096x3072, .f32⟩
  | .hbm, ⟨32, _⟩ => ⟨S4x4096x3072, .f32⟩
  | .hbm, ⟨33, _⟩ => ⟨S1x1x3072, .f32⟩
  | .hbm, ⟨34, _⟩ => ⟨S4x4096x3072, .f32⟩
  | .hbm, ⟨35, _⟩ => ⟨S4x4096x3072, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1x4x4096x1024, .f32⟩
  | .hbm, ⟨40, _⟩ => ⟨S1x4x4096x1024, .f32⟩
  | .hbm, ⟨41, _⟩ => ⟨S1x4x4096x1024, .f32⟩
  | .hbm, ⟨42, _⟩ => ⟨S3x4x4096x1024, .f32⟩
  | _, _ => ⟨S4x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel11.lean ====
abbrev S4x4096x1536 : Shape := ⟨3, ![4, 4096, 1536]⟩
abbrev S1x64 : Shape := ⟨2, ![1, 64]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S16x64 : Shape := ⟨2, ![16, 64]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x16x4096x64 : Shape := ⟨4, ![4, 16, 4096, 64]⟩
abbrev S4x4x4096x64 : Shape := ⟨4, ![4, 4, 4096, 64]⟩
abbrev S4x4x4096x128 : Shape := ⟨4, ![4, 4, 4096, 128]⟩
abbrev S1x256x1536 : Shape := ⟨3, ![1, 256, 1536]⟩
abbrev S256x128 : Shape := ⟨2, ![256, 128]⟩
abbrev S1x16x256x64 : Shape := ⟨4, ![1, 16, 256, 64]⟩
abbrev S1x4x256x64 : Shape := ⟨4, ![1, 4, 256, 64]⟩
abbrev S1x4x256x128 : Shape := ⟨4, ![1, 4, 256, 128]⟩
abbrev S256x1536 : Shape := ⟨2, ![256, 1536]⟩
abbrev S256x1024 : Shape := ⟨2, ![256, 1024]⟩
abbrev S256x64 : Shape := ⟨2, ![256, 64]⟩
abbrev S1x1x256x64 : Shape := ⟨4, ![1, 1, 256, 64]⟩
abbrev S1x1x256x128 : Shape := ⟨4, ![1, 1, 256, 128]⟩

abbrev nBuf : Space → Nat
  | .hbm => 103
  | .vmem => 16
  | .smem => 0
  | _ => 0

abbrev bufTy : (tb : Table) → Fin (tcTables nBuf tb) → BufTy
  | .hbm, ⟨0, _⟩ => ⟨S4x4096x1536, .f32⟩
  | .hbm, ⟨1, _⟩ => ⟨S1x64, .f32⟩
  | .hbm, ⟨2, _⟩ => ⟨S1x64, .f32⟩
  | .hbm, ⟨3, _⟩ => ⟨S64, .f32⟩
  | .hbm, ⟨4, _⟩ => ⟨S64x1, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x1, .f32⟩
  | .hbm, ⟨25, _⟩ => ⟨S1x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x4096x1x32, .f32⟩
  | .hbm, ⟨33, _⟩ => ⟨S1x4096x4x32, .f32⟩
  | .hbm, ⟨34, _⟩ => ⟨S4096x128, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S16x64, .f32⟩
  | .hbm, ⟨44, _⟩ => ⟨S1024, .f32⟩
  | .hbm, ⟨45, _⟩ => ⟨S1x1024, .f32⟩
  | .hbm, ⟨46, _⟩ => ⟨S1024, .i32⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1x1024, .i32⟩
  | .hbm, ⟨67, _⟩ => ⟨S1024x1024, .i32⟩
  | .hbm, ⟨68, _⟩ => ⟨S1024x1024, .i32⟩
  | .hbm, ⟨69, _⟩ => ⟨S1024x1024, .i1⟩
  | .hbm, ⟨70, _⟩ => ⟨S1024x1024, .bf16⟩
  | .hbm, ⟨71, _⟩ => ⟨S1x64, .f32⟩
  | .hbm, ⟨72, _⟩ => ⟨S4x64, .f32⟩
  | .hbm, ⟨73, _⟩ => ⟨S256, .f32⟩
  | .hbm, ⟨74, _⟩ => ⟨S1x256, .f32⟩
  | .hbm, ⟨75, _⟩ => ⟨S256, .i32⟩
  | .hbm, ⟨76, _⟩ => ⟨S_, .i32⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S256, .i32⟩
  | .hbm, ⟨81, _⟩ => ⟨S_, .i32⟩
  | .hbm, ⟨82, _⟩ => ⟨S256, .i32⟩
  | .hbm, ⟨83, _⟩ => ⟨S256, .i1⟩
  | .hbm, ⟨84, _⟩ => ⟨S256, .i32⟩
  | .hbm, ⟨85, _⟩ => ⟨S256, .i32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S256, .i1⟩
  | .hbm, ⟨90, _⟩ => ⟨S_, .i32⟩
  | .hbm, ⟨91, _⟩ => ⟨S256, .i32⟩
  | .hbm, ⟨92, _⟩ => ⟨S256, .i32⟩
  | .hbm, ⟨93, _⟩ => ⟨S256, .i32⟩
  | .hbm, ⟨94, _⟩ => ⟨S256x1, .i32⟩
  | .hbm, ⟨95, _⟩ => ⟨S1x256, .i32⟩
  | .hbm, ⟨96, _⟩ => ⟨S256x256, .i32⟩
  | .hbm, ⟨97, _⟩ => ⟨S256x256, .i32⟩
  | .hbm, ⟨98, _⟩ => ⟨S256x256, .i1⟩
  | .hbm, ⟨99, _⟩ => ⟨S256x256, .bf16⟩
  | .hbm, ⟨100, _⟩ => ⟨S4x16x4096x64, .bf16⟩
  | .hbm, ⟨101, _⟩ => ⟨S4x4x4096x64, .bf16⟩
  | .hbm, ⟨102, _⟩ => ⟨S4x4x4096x128, .bf16⟩
  | .local _ .vmem, ⟨0, _⟩ => ⟨S1x256x1536, .f32⟩
  | .local _ .vmem, ⟨1, _⟩ => ⟨S1x256x1536, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S1024x1024, .bf16⟩
  | .local _ .vmem, ⟨8, _⟩ => ⟨S1x256, .f32⟩
  | .local _ .vmem, ⟨9, _⟩ => ⟨S256x256, .bf16⟩
  | .local _ .vmem, ⟨10, _⟩ => ⟨S1x16x256x64, .bf16⟩
  | .local _ .vmem, ⟨11, _⟩ => ⟨S1x16x256x64, .bf16⟩
  | .local _ .vmem, ⟨12, _⟩ => ⟨S1x4x256x64, .bf16⟩
  | .local _ .vmem, ⟨13, _⟩ => ⟨S1x4x256x64, .bf16⟩
  | .local _ .vmem, ⟨14, _⟩ => ⟨S1x4x256x128, .bf16⟩
  | .local _ .vmem, ⟨15, _⟩ => ⟨S1x4x256x128, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_1 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61_0 : Ref sig .tc := ⟨.hbm, 100, rfl⟩
abbrev main_v61_1 : Ref sig .tc := ⟨.hbm, 101, rfl⟩
abbrev main_v61_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S4x4096x1536 : Shape := ⟨3, ![4, 4096, 1536]⟩
abbrev S1x64 : Shape := ⟨2, ![1, 64]⟩
abbrev S4x4096x1024 : Shape := ⟨3, ![4, 4096, 1024]⟩
abbrev S4x4096x16x64 : Shape := ⟨4, ![4, 4096, 16, 64]⟩
abbrev S64 : Shape := ⟨1, ![64]⟩
abbrev S_ : Shape := ⟨0, ![]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x512 : Shape := ⟨3, ![4, 4096, 512]⟩
abbrev S4x4096x256 : Shape := ⟨3, ![4, 4096, 256]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S64x1 : Shape := ⟨2, ![64, 1]⟩
abbrev S64x64 : Shape := ⟨2, ![64, 64]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x4096x1x32 : Shape := ⟨4, ![1, 4096, 1, 32]⟩
abbrev S4x4096x16x32 : Shape := ⟨4, ![4, 4096, 16, 32]⟩
abbrev S4x4096x4x32 : Shape := ⟨4, ![4, 4096, 4, 32]⟩
abbrev S4x4096x4x63 : Shape := ⟨4, ![4, 4096, 4, 63]⟩
abbrev S4x4096x4x128 : Shape := ⟨4, ![4, 4096, 4, 128]⟩
abbrev S4x16x4096x64 : Shape := ⟨4, ![4, 16, 4096, 64]⟩
abbrev S4x4x4096x64 : Shape := ⟨4, ![4, 4, 4096, 64]⟩
abbrev S4x4x4096x128 : Shape := ⟨4, ![4, 4, 4096, 128]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S1x64, .f32⟩
  | .hbm, ⟨2, _⟩ => ⟨S1x64, .f32⟩
  | .hbm, ⟨3, _⟩ => ⟨S4x4096x1024, .f32⟩
  | .hbm, ⟨4, _⟩ => ⟨S4x4096x16x64, .f32⟩
  | .hbm, ⟨5, _⟩ => ⟨S64, .f32⟩
  | .hbm, ⟨6, _⟩ => ⟨S4x4096x16x64, .f32⟩
  | .hbm, ⟨7, _⟩ => ⟨S_, .f32⟩
  | .hbm, ⟨8, _⟩ => ⟨S4x4096x16, .f32⟩
  | .hbm, ⟨9, _⟩ => ⟨S4x4096x16x1, .f32⟩
  | .hbm, ⟨10, _⟩ => ⟨S_, .f32⟩
  | .hbm, ⟨11, _⟩ => ⟨S4x4096x16x1, .f32⟩
  | .hbm, ⟨12, _⟩ => ⟨S4x4096x16x1, .f32⟩
  | .hbm, ⟨13, _⟩ => ⟨S_, .f32⟩
  | .hbm, ⟨14, _⟩ => ⟨S4x4096x16x1, .f32⟩
  | .hbm, ⟨15, _⟩ => ⟨S4x4096x16x1, .f32⟩
  | .hbm, ⟨16, _⟩ => ⟨S4x4096x16x1, .f32⟩
  | .hbm, ⟨17, _⟩ => ⟨S4x4096x16x64, .f32⟩
  | .hbm, ⟨18, _⟩ => ⟨S4x4096x16x64, .f32⟩
  | .hbm, ⟨19, _⟩ => ⟨S1x1x1x64, .f32⟩
  | .hbm, ⟨20, _⟩ => ⟨S4x4096x16x64, .f32⟩
  | .hbm, ⟨21, _⟩ => ⟨S4x4096x16x64, .f32⟩
  | .hbm, ⟨22, _⟩ => ⟨S4x4096x512, .f32⟩
  | .hbm, ⟨23, _⟩ => ⟨S4x4096x256, .f32⟩
  | .hbm, ⟨24, _⟩ => ⟨S4x4096x256, .f32⟩
  | .hbm, ⟨25, _⟩ => ⟨S4x4096x4x64, .f32⟩
  | .hbm, ⟨26, _⟩ => ⟨S64, .f32⟩
  | .hbm, ⟨27, _⟩ => ⟨S4x4096x4x64, .f32⟩
  | .hbm, ⟨28, _⟩ => ⟨S_, .f32⟩
  | .hbm, ⟨29, _⟩ => ⟨S4x4096x4, .f32⟩
  | .hbm, ⟨30, _⟩ => ⟨S4x4096x4x1, .f32⟩
  | .hbm, ⟨31, _⟩ => ⟨S_, .f32⟩
  | .hbm, ⟨32, _⟩ => ⟨S4x4096x4x1, .f32⟩
  | .hbm, ⟨33, _⟩ => ⟨S4x4096x4x1, .f32⟩
  | .hbm, ⟨34, _⟩ => ⟨S_, .f32⟩
  | .hbm, ⟨35, _⟩ => ⟨S4x4096x4x1, .f32⟩
  | .hbm, ⟨36, _⟩ => ⟨S4x4096x4x1, .f32⟩
  | .hbm, ⟨37, _⟩ => ⟨S4x4096x4x1, .f32⟩
  | .hbm, ⟨38, _⟩ => ⟨S4x4096x4x64, .f32⟩
  | .hbm, ⟨39, _⟩ => ⟨S4x4096x4x64, .f32⟩
  | .hbm, ⟨40, _⟩ => ⟨S1x1x1x64, .f32⟩
  | .hbm, ⟨41, _⟩ => ⟨S4x4096x4x64, .f32⟩
  | .hbm, ⟨42, _⟩ => ⟨S4x4096x4x64, .f32⟩
  | .hbm, ⟨43, _⟩ => ⟨S4x4096x4x64, .f32⟩
  | .hbm, ⟨44, _⟩ => ⟨S64, .f32⟩
  | .hbm, ⟨45, _⟩ => ⟨S64x1, .f32⟩
  | .hbm, ⟨46, _⟩ => ⟨S64x64, .f32⟩
  | .hbm, ⟨47, _⟩ => ⟨S4096, .f32⟩
  | .hbm, ⟨48, _⟩ => ⟨S64, .f32⟩
  | .hbm, ⟨49, _⟩ => ⟨S1x64, .f32⟩
  | .hbm, ⟨50, _⟩ => ⟨S64x64, .f32⟩
  | .hbm, ⟨51, _⟩ => ⟨S4096, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4096x1, .f32⟩
  | .hbm, ⟨61, _⟩ => ⟨S1x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x1, .f32⟩
  | .hbm, ⟨66, _⟩ => ⟨S1x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S1x4096x1x32, .f32⟩
  | .hbm, ⟨74, _⟩ => ⟨S1x4096x1x32, .f32⟩
  | .hbm, ⟨75, _⟩ => ⟨S4x4096x16x32, .f32⟩
  | .hbm, ⟨76, _⟩ => ⟨S4x4096x16x32, .f32⟩
  | .hbm, ⟨77, _⟩ => ⟨S4x4096x16x32, .f32⟩
  | .hbm, ⟨78, _⟩ => ⟨S4x4096x16x32, .f32⟩
  | .hbm, ⟨79, _⟩ => ⟨S4x4096x16x32, .f32⟩
  | .hbm, ⟨80, _⟩ => ⟨S4x4096x16x32, .f32⟩
  | .hbm, ⟨81, _⟩ => ⟨S4x4096x16x32, .f32⟩
  | .hbm, ⟨82, _⟩ => ⟨S4x4096x16x32, .f32⟩
  | .hbm, ⟨83, _⟩ => ⟨S4x4096x16x32, .f32⟩
  | .hbm, ⟨84, _⟩ => ⟨S4x4096x16x32, .f32⟩
  | .hbm, ⟨85, _⟩ => ⟨S4x4096x16x32, .f32⟩
  | .hbm, ⟨86, _⟩ => ⟨S4x4096x16x32, .f32⟩
  | .hbm, ⟨87, _⟩ => ⟨S4x4096x16x64, .f32⟩
  | .hbm, ⟨88, _⟩ => ⟨S_, .f32⟩
  | .hbm, ⟨89, _⟩ => ⟨S4x4096x16x64, .f32⟩
  | .hbm, ⟨90, _⟩ => ⟨S4x4096x16x64, .f32⟩
  | .hbm, ⟨91, _⟩ => ⟨S1x4096x1x32, .f32⟩
  | .hbm, ⟨92, _⟩ => ⟨S1x4096x1x32, .f32⟩
  | .hbm, ⟨93, _⟩ => ⟨S4x4096x4x32, .f32⟩
  | .hbm, ⟨94, _⟩ => ⟨S4x4096x4x32, .f32⟩
  | .hbm, ⟨95, _⟩ => ⟨S4x4096x4x32, .f32⟩
  | .hbm, ⟨96, _⟩ => ⟨S4x4096x4x32, .f32⟩
  | .hbm, ⟨97, _⟩ => ⟨S4x4096x4x32, .f32⟩
  | .hbm, ⟨98, _⟩ => ⟨S4x4096x4x32, .f32⟩
  | .hbm, ⟨99, _⟩ => ⟨S4x4096x4x32, .f32⟩
  | .hbm, ⟨100, _⟩ => ⟨S4x4096x4x32, .f32⟩
  | .hbm, ⟨101, _⟩ => ⟨S4x4096x4x32, .f32⟩
  | .hbm, ⟨102, _⟩ => ⟨S4x4096x4x32, .f32⟩
  | .hbm, ⟨103, _⟩ => ⟨S4x4096x4x32, .f32⟩
  | .hbm, ⟨104, _⟩ => ⟨S4x4096x4x32, .f32⟩
  | .hbm, ⟨105, _⟩ => ⟨S4x4096x4x64, .f32⟩
  | .hbm, ⟨106, _⟩ => ⟨S_, .f32⟩
  | .hbm, ⟨107, _⟩ => ⟨S4x4096x4x1, .f32⟩
  | .hbm, ⟨108, _⟩ => ⟨S_, .f32⟩
  | .hbm, ⟨109, _⟩ => ⟨S4x4096x4x63, .f32⟩
  | .hbm, ⟨110, _⟩ => ⟨S4x4096x4x128, .f32⟩
  | .hbm, ⟨111, _⟩ => ⟨S4x16x4096x64, .f32⟩
  | .hbm, ⟨112, _⟩ => ⟨S4x16x4096x64, .bf16⟩
  | .hbm, ⟨113, _⟩ => ⟨S4x4x4096x64, .f32⟩
  | .hbm, ⟨114, _⟩ => ⟨S4x4x4096x64, .bf16⟩
  | .hbm, ⟨115, _⟩ => ⟨S4x4x4096x128, .f32⟩
  | .hbm, ⟨116, _⟩ => ⟨S4x4x4096x128, .bf16⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_7 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_8 : Ref sig .tc := ⟨.hbm, 106, rfl⟩
abbrev main_v94 : Ref sig .tc := ⟨.hbm, 107, rfl⟩
abbrev main_cst_9 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩

abbrev nD : Nat := 1
abbrev τ : Topo := Topo.v7x

variable {F : FTy → Type} [FloatOps F]
-- ==== Kernel12.lean ====
abbrev S4x256x512 : Shape := ⟨3, ![4, 256, 512]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S_ : Shape := ⟨0, ![]⟩
abbrev S256x1 : Shape := ⟨2, ![256, 1]⟩
abbrev S256x256 : Shape := ⟨2, ![256, 256]⟩
abbrev S4x4x256x64 : Shape := ⟨4, ![4, 4, 256, 64]⟩
abbrev S4x4x256x128 : Shape := ⟨4, ![4, 4, 256, 128]⟩
abbrev S1x256x512 : Shape := ⟨3, ![1, 256, 512]⟩
abbrev S1x4x256x64 : Shape := ⟨4, ![1, 4, 256, 64]⟩
abbrev S1x4x256x128 : Shape := ⟨4, ![1, 4, 256, 128]⟩
abbrev S256x512 : Shape := ⟨2, ![256, 512]⟩
abbrev S256x128 : Shape := ⟨2, ![256, 128]⟩
abbrev S256x64 : Shape := ⟨2, ![256, 64]⟩
abbrev S1x1x256x64 : Shape := ⟨4, ![1, 1, 256, 64]⟩
abbrev S1x1x256x128 : Shape := ⟨4, ![1, 1, 256, 128]⟩

abbrev nBuf : Space → Nat
  | .hbm => 34
  | .vmem => 8
  | .smem => 0
  | _ => 0

abbrev bufTy : (tb : Table) → Fin (tcTables nBuf tb) → BufTy
  | .hbm, ⟨0, _⟩ => ⟨S4x256x512, .f32⟩
  | .hbm, ⟨1, _⟩ => ⟨S1x64, .f32⟩
  | .hbm, ⟨2, _⟩ => ⟨S64, .f32⟩
  | .hbm, ⟨3, _⟩ => ⟨S1x64, .f32⟩
  | .hbm, ⟨4, _⟩ => ⟨S4x64, .f32⟩
  | .hbm, ⟨5, _⟩ => ⟨S256, .f32⟩
  | .hbm, ⟨6, _⟩ => ⟨S1x256, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S4x4x256x64, .bf16⟩
  | .hbm, ⟨33, _⟩ => ⟨S4x4x256x128, .bf16⟩
  | .local _ .vmem, ⟨0, _⟩ => ⟨S1x256x512, .f32⟩
  | .local _ .vmem, ⟨1, _⟩ => ⟨S1x256x512, .f32⟩
  | .local _ .vmem, ⟨2, _⟩ => ⟨S1x256, .f32⟩
  | .local _ .vmem, ⟨3, _⟩ => ⟨S256x256, .bf16⟩
  | .local _ .vmem, ⟨4, _⟩ => ⟨S1x4x256x64, .bf16⟩
  | .local _ .vmem, ⟨5, _⟩ => ⟨S1x4x256x64, .bf16⟩
  | .local _ .vmem, ⟨6, _⟩ => ⟨S1x4x256x128, .bf16⟩
  | .local _ .vmem, ⟨7, _⟩ => ⟨S1x4x256x128, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S4x256x512 : Shape := ⟨3, ![4, 256, 512]⟩
abbrev S1x64 : Shape := ⟨2, ![1, 64]⟩
abbrev S4x256x256 : Shape := ⟨3, ![4, 256, 256]⟩
abbrev S4x256x4x64 : Shape := ⟨4, ![4, 256, 4, 64]⟩
abbrev S64 : Shape := ⟨1, ![64]⟩
abbrev S_ : Shape := ⟨0, ![]⟩
abbrev S4x256x4 : Shape := ⟨3, ![4, 256, 4]⟩
abbrev S4x256x4x1 : Shape := ⟨4, ![4, 256, 4, 1]⟩
abbrev S1x1x1x64 : Shape := ⟨4, ![1, 1, 1, 64]⟩
abbrev S4x256x4x63 : Shape := ⟨4, ![4, 256, 4, 63]⟩
abbrev S4x256x4x128 : Shape := ⟨4, ![4, 256, 4, 128]⟩
abbrev S4x4x256x64 : Shape := ⟨4, ![4, 4, 256, 64]⟩
abbrev S4x4x256x128 : Shape := ⟨4, ![4, 4, 256, 128]⟩

abbrev nBuf : Space → Nat
  | .hbm => 32
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S1x64, .f32⟩
  | .hbm, ⟨2, _⟩ => ⟨S4x256x256, .f32⟩
  | .hbm, ⟨3, _⟩ => ⟨S4x256x256, .f32⟩
  | .hbm, ⟨4, _⟩ => ⟨S4x256x4x64, .f32⟩
  | .hbm, ⟨5, _⟩ => ⟨S64, .f32⟩
  | .hbm, ⟨6, _⟩ => ⟨S4x256x4x64, .f32⟩
  | .hbm, ⟨7, _⟩ => ⟨S_, .f32⟩
  | .hbm, ⟨8, _⟩ => ⟨S4x256x4, .f32⟩
  | .hbm, ⟨9, _⟩ => ⟨S4x256x4x1, .f32⟩
  | .hbm, ⟨10, _⟩ => ⟨S_, .f32⟩
  | .hbm, ⟨11, _⟩ => ⟨S4x256x4x1, .f32⟩
  | .hbm, ⟨12, _⟩ => ⟨S4x256x4x1, .f32⟩
  | .hbm, ⟨13, _⟩ => ⟨S_, .f32⟩
  | .hbm, ⟨14, _⟩ => ⟨S4x256x4x1, .f32⟩
  | .hbm, ⟨15, _⟩ => ⟨S4x256x4x1, .f32⟩
  | .hbm, ⟨16, _⟩ => ⟨S4x256x4x1, .f32⟩
  | .hbm, ⟨17, _⟩ => ⟨S4x256x4x64, .f32⟩
  | .hbm, ⟨18, _⟩ => ⟨S4x256x4x64, .f32⟩
  | .hbm, ⟨19, _⟩ => ⟨S1x1x1x64, .f32⟩
  | .hbm, ⟨20, _⟩ => ⟨S4x256x4x64, .f32⟩
  | .hbm, ⟨21, _⟩ => ⟨S4x256x4x64, .f32⟩
  | .hbm, ⟨22, _⟩ => ⟨S4x256x4x64, .f32⟩
  | .hbm, ⟨23, _⟩ => ⟨S_, .f32⟩
  | .hbm, ⟨24, _⟩ => ⟨S4x256x4x1, .f32⟩
  | .hbm, ⟨25, _⟩ => ⟨S_, .f32⟩
  | .hbm, ⟨26, _⟩ => ⟨S4x256x4x63, .f32⟩
  | .hbm, ⟨27, _⟩ => ⟨S4x256x4x128, .f32⟩
  | .hbm, ⟨28, _⟩ => ⟨S4x4x256x64, .f32⟩
  | .hbm, ⟨29, _⟩ => ⟨S4x4x256x64, .bf16⟩
  | .hbm, ⟨30, _⟩ => ⟨S4x4x256x128, .f32⟩
  | .hbm, ⟨31, _⟩ => ⟨S4x4x256x128, .bf16⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel13.lean ====
abbrev S4x16x32x1024 : Shape := ⟨4, ![4, 16, 32, 1024]⟩
abbrev S4x16x1024x2048 : Shape := ⟨4, ![4, 16, 1024, 2048]⟩
abbrev S4x16x2048x1024 : Shape := ⟨4, ![4, 16, 2048, 1024]⟩
abbrev S4x16x32 : Shape := ⟨3, ![4, 16, 32]⟩
abbrev S16x4x32x1024 : Shape := ⟨4, ![16, 4, 32, 1024]⟩
abbrev S16x128x1024 : Shape := ⟨3, ![16, 128, 1024]⟩
abbrev S16x4x32 : Shape := ⟨3, ![16, 4, 32]⟩
abbrev S16x128x1 : Shape := ⟨3, ![16, 128, 1]⟩
abbrev S1x128x1024 : Shape := ⟨3, ![1, 128, 1024]⟩
abbrev S1x1x1024x512 : Shape := ⟨4, ![1, 1, 1024, 512]⟩
abbrev S1x1x512x1024 : Shape := ⟨4, ![1, 1, 512, 1024]⟩
abbrev S1x128x1 : Shape := ⟨3, ![1, 128, 1]⟩
abbrev S1024x512 : Shape := ⟨2, ![1024, 512]⟩
abbrev S512x1024 : Shape := ⟨2, ![512, 1024]⟩
abbrev S1x64x1024 : Shape := ⟨3, ![1, 64, 1024]⟩
abbrev S64x1024 : Shape := ⟨2, ![64, 1024]⟩
abbrev S64x512 : Shape := ⟨2, ![64, 512]⟩
abbrev S128x1024 : Shape := ⟨2, ![128, 1024]⟩
abbrev S128x1 : Shape := ⟨2, ![128, 1]⟩

abbrev nBuf : Space → Nat
  | .hbm => 11
  | .vmem => 12
  | .smem => 0
  | _ => 0

abbrev bufTy : (tb : Table) → Fin (tcTables nBuf tb) → BufTy
  | .hbm, ⟨0, _⟩ => ⟨S4x16x32x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S4x16x32, .f32⟩
  | .hbm, ⟨5, _⟩ => ⟨S16x4x32x1024, .f32⟩
  | .hbm, ⟨6, _⟩ => ⟨S16x4x32x1024, .bf16⟩
  | .hbm, ⟨7, _⟩ => ⟨S16x128x1024, .bf16⟩
  | .hbm, ⟨8, _⟩ => ⟨S16x4x32, .f32⟩
  | .hbm, ⟨9, _⟩ => ⟨S16x128x1, .f32⟩
  | .hbm, ⟨10, _⟩ => ⟨S16x128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x128x1, .f32⟩
  | .local _ .vmem, ⟨9, _⟩ => ⟨S1x128x1, .f32⟩
  | .local _ .vmem, ⟨10, _⟩ => ⟨S1x128x1024, .f32⟩
  | .local _ .vmem, ⟨11, _⟩ => ⟨S1x128x1024, .f32⟩
  | _, _ => ⟨S4x16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_16 : BitVec 32 := 0#32
  let v20 : BitVec 1 := Scalar.cmpi .ne v19 c0_i32_16
  v20

def k0_cond2 (i : grid0.Coords) : BitVec 1 :=
  let arg1 : BitVec 32 := BitVec.ofNat 32 (i 1).val
  let c0_i32_17 : BitVec 32 := 0#32
  let v21 : BitVec 1 := Scalar.cmpi .sgt arg1 c0_i32_17
  let v22 : BitVec 32 := Scalar.extui v21
  let c0_i32_18 : BitVec 32 := 0#32
  let v23 : BitVec 1 := Scalar.cmpi .ne v22 c0_i32_18
  v23

def k0_cond3 (i : grid0.Coords) : BitVec 1 :=
  let arg1 : BitVec 32 := BitVec.ofNat 32 (i 1).val
  let c0_i32_24 : BitVec 32 := 0#32
  let v33 : BitVec 1 := Scalar.cmpi .eq arg1 c0_i32_24
  let v34 : BitVec 32 := Scalar.extui v33
  let c0_i32_25 : BitVec 32 := 0#32
  let v35 : BitVec 1 := Scalar.cmpi .ne v34 c0_i32_25
  v35

def k0_cond4 (i : grid0.Coords) : BitVec 1 :=
  let arg1 : BitVec 32 := BitVec.ofNat 32 (i 1).val
  let c0_i32_26 : BitVec 32 := 0#32
  let v36 : BitVec 1 := Scalar.cmpi .sgt arg1 c0_i32_26
  let v37 : BitVec 32 := Scalar.extui v36
  let c0_i32_27 : BitVec 32 := 0#32
  let v38 : BitVec 1 := Scalar.cmpi .ne v37 c0_i32_27
  v38

def k0_cond5 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_28 : BitVec 32 := 0#32
  let v41 : BitVec 1 := Scalar.cmpi .ne v40 c0_i32_28
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S4x16x32x1024 : Shape := ⟨4, ![4, 16, 32, 1024]⟩
abbrev S4x16x1024x2048 : Shape := ⟨4, ![4, 16, 1024, 2048]⟩
abbrev S4x16x2048x1024 : Shape := ⟨4, ![4, 16, 2048, 1024]⟩
abbrev S4x16x32 : Shape := ⟨3, ![4, 16, 32]⟩
abbrev S1x16x1024x2048 : Shape := ⟨4, ![1, 16, 1024, 2048]⟩
abbrev S16x1024x2048 : Shape := ⟨3, ![16, 1024, 2048]⟩
abbrev S16x2048x4x32 : Shape := ⟨4, ![16, 2048, 4, 32]⟩
abbrev S4x16x32x2048 : Shape := ⟨4, ![4, 16, 32, 2048]⟩
abbrev S_ : Shape := ⟨0, ![]⟩
abbrev S1x16x2048x1024 : Shape := ⟨4, ![1, 16, 2048, 1024]⟩
abbrev S16x2048x1024 : Shape := ⟨3, ![16, 2048, 1024]⟩
abbrev S16x1024x4x32 : Shape := ⟨4, ![16, 1024, 4, 32]⟩
abbrev S4x16x32x1 : Shape := ⟨4, ![4, 16, 32, 1]⟩
abbrev S16x4x32x1024 : Shape := ⟨4, ![16, 4, 32, 1024]⟩
abbrev S16x128x1024 : Shape := ⟨3, ![16, 128, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x16x32x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S4x16x32, .f32⟩
  | .hbm, ⟨5, _⟩ => ⟨S1x16x1024x2048, .f32⟩
  | .hbm, ⟨6, _⟩ => ⟨S16x1024x2048, .f32⟩
  | .hbm, ⟨7, _⟩ => ⟨S16x2048x4x32, .f32⟩
  | .hbm, ⟨8, _⟩ => ⟨S4x16x32x2048, .f32⟩
  | .hbm, ⟨9, _⟩ => ⟨S1x16x1024x2048, .f32⟩
  | .hbm, ⟨10, _⟩ => ⟨S16x1024x2048, .f32⟩
  | .hbm, ⟨11, _⟩ => ⟨S16x2048x4x32, .f32⟩
  | .hbm, ⟨12, _⟩ => ⟨S4x16x32x2048, .f32⟩
  | .hbm, ⟨13, _⟩ => ⟨S4x16x32x2048, .f32⟩
  | .hbm, ⟨14, _⟩ => ⟨S4x16x32x2048, .f32⟩
  | .hbm, ⟨15, _⟩ => ⟨S_, .f32⟩
  | .hbm, ⟨16, _⟩ => ⟨S4x16x32x2048, .f32⟩
  | .hbm, ⟨17, _⟩ => ⟨S4x16x32x2048, .f32⟩
  | .hbm, ⟨18, _⟩ => ⟨S_, .f32⟩
  | .hbm, ⟨19, _⟩ => ⟨S4x16x32x2048, .f32⟩
  | .hbm, ⟨20, _⟩ => ⟨S4x16x32x2048, .f32⟩
  | .hbm, ⟨21, _⟩ => ⟨S4x16x32x2048, .f32⟩
  | .hbm, ⟨22, _⟩ => ⟨S4x16x32x2048, .f32⟩
  | .hbm, ⟨23, _⟩ => ⟨S1x16x2048x1024, .f32⟩
  | .hbm, ⟨24, _⟩ => ⟨S16x2048x1024, .f32⟩
  | .hbm, ⟨25, _⟩ => ⟨S16x1024x4x32, .f32⟩
  | .hbm, ⟨26, _⟩ => ⟨S4x16x32x1024, .f32⟩
  | .hbm, ⟨27, _⟩ => ⟨S4x16x32x1, .f32⟩
  | .hbm, ⟨28, _⟩ => ⟨S4x16x32x1024, .f32⟩
  | .hbm, ⟨29, _⟩ => ⟨S4x16x32x1024, .f32⟩
  | .hbm, ⟨30, _⟩ => ⟨S16x4x32x1024, .f32⟩
  | .hbm, ⟨31, _⟩ => ⟨S16x128x1024, .f32⟩
  | _, _ => ⟨S4x16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Kernel14.lean ====
abbrev S4x256x1024 : Shape := ⟨3, ![4, 256, 1024]⟩
abbrev S4x1x1024 : Shape := ⟨3, ![4, 1, 1024]⟩
abbrev S4x2x1024 : Shape := ⟨3, ![4, 2, 1024]⟩
abbrev S1x1x1024 : Shape := ⟨3, ![1, 1, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S4x2x1024, .f32⟩
  | .hbm, ⟨4, _⟩ => ⟨S4x2x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S1x1x1024, .f32⟩
  | .hbm, ⟨9, _⟩ => ⟨S1024, .f32⟩
  | .hbm, ⟨10, _⟩ => ⟨S1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S4x256x1024 : Shape := ⟨3, ![4, 256, 1024]⟩
abbrev S4x1x1024 : Shape := ⟨3, ![4, 1, 1024]⟩
abbrev S4x2x1024 : Shape := ⟨3, ![4, 2, 1024]⟩
abbrev S1x1x1024 : Shape := ⟨3, ![1, 1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x1x1024, .f32⟩
  | .hbm, ⟨3, _⟩ => ⟨S4x2x1024, .f32⟩
  | .hbm, ⟨4, _⟩ => ⟨S4x2x1024, .f32⟩
  | .hbm, ⟨5, _⟩ => ⟨S4x256x1024, .f32⟩
  | .hbm, ⟨6, _⟩ => ⟨S4x256x1024, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256, .f32⟩
  | .hbm, ⟨26, _⟩ => ⟨S4x256x1, .f32⟩
  | .hbm, ⟨27, _⟩ => ⟨S_, .f32⟩
  | .hbm, ⟨28, _⟩ => ⟨S4x256x1, .f32⟩
  | .hbm, ⟨29, _⟩ => ⟨S4x256x1, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1, .f32⟩
  | .hbm, ⟨34, _⟩ => ⟨S4x256x1, .f32⟩
  | .hbm, ⟨35, _⟩ => ⟨S4x256x1, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1x1x1024, .f32⟩
  | .hbm, ⟨42, _⟩ => ⟨S4x256x1024, .f32⟩
  | .hbm, ⟨43, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel15.lean ====
abbrev S4x256x1024 : Shape := ⟨3, ![4, 256, 1024]⟩
abbrev S4x1x1024 : Shape := ⟨3, ![4, 1, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S4x256x3072 : Shape := ⟨3, ![4, 256, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S1x1024 : Shape := ⟨2, ![1, 1024]⟩
abbrev S256x3072 : Shape := ⟨2, ![256, 3072]⟩

abbrev nBuf : Space → Nat
  | .hbm => 8
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S2x1024x3072, .f32⟩
  | .hbm, ⟨4, _⟩ => ⟨S1x1024x3072, .f32⟩
  | .hbm, ⟨5, _⟩ => ⟨S1024x3072, .f32⟩
  | .hbm, ⟨6, _⟩ => ⟨S1024x3072, .bf16⟩
  | .hbm, ⟨7, _⟩ => ⟨S4x256x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x256x3072, .f32⟩
  | .local _ .vmem, ⟨8, _⟩ => ⟨S1x256x3072, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4x256x1024 : Shape := ⟨3, ![4, 256, 1024]⟩
abbrev S4x1x1024 : Shape := ⟨3, ![4, 1, 1024]⟩
abbrev S2x1024x3072 : Shape := ⟨3, ![2, 1024, 3072]⟩
abbrev S_ : Shape := ⟨0, ![]⟩
abbrev S1x1024x3072 : Shape := ⟨3, ![1, 1024, 3072]⟩
abbrev S1024x3072 : Shape := ⟨2, ![1024, 3072]⟩
abbrev S4x256x3072 : Shape := ⟨3, ![4, 256, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S2x1024x3072, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S1x1024x3072, .f32⟩
  | .hbm, ⟨12, _⟩ => ⟨S1024x3072, .f32⟩
  | .hbm, ⟨13, _⟩ => ⟨S4x256x3072, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel16.lean ====
abbrev S4x256x1024 : Shape := ⟨3, ![4, 256, 1024]⟩
abbrev S2x1024x1024 : Shape := ⟨3, ![2, 1024, 1024]⟩
abbrev S4x1x1024 : Shape := ⟨3, ![4, 1, 1024]⟩
abbrev S4x2x1024 : Shape := ⟨3, ![4, 2, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S4x256x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4x256x1024 : Shape := ⟨3, ![4, 256, 1024]⟩
abbrev S2x1024x1024 : Shape := ⟨3, ![2, 1024, 1024]⟩
abbrev S4x1x1024 : Shape := ⟨3, ![4, 1, 1024]⟩
abbrev S4x2x1024 : Shape := ⟨3, ![4, 2, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S4x256x1024, .f32⟩
  | .hbm, ⟨3, _⟩ => ⟨S4x1x1024, .f32⟩
  | .hbm, ⟨4, _⟩ => ⟨S4x2x1024, .f32⟩
  | .hbm, ⟨5, _⟩ => ⟨S4x2x1024, .f32⟩
  | .hbm, ⟨6, _⟩ => ⟨S1x1024x1024, .f32⟩
  | .hbm, ⟨7, _⟩ => ⟨S1024x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256, .f32⟩
  | .hbm, ⟨21, _⟩ => ⟨S4x256x1, .f32⟩
  | .hbm, ⟨22, _⟩ => ⟨S_, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256, .f32⟩
  | .hbm, ⟨30, _⟩ => ⟨S4x256x1, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x1024, .f32⟩
  | .hbm, ⟨41, _⟩ => ⟨S4x256x1024, .f32⟩
  | .hbm, ⟨42, _⟩ => ⟨S1x1x1024, .f32⟩
  | .hbm, ⟨43, _⟩ => ⟨S4x256x1024, .f32⟩
  | .hbm, ⟨44, _⟩ => ⟨S4x256x1024, .f32⟩
  | .hbm, ⟨45, _⟩ => ⟨S1x1x1024, .f32⟩
  | .hbm, ⟨46, _⟩ => ⟨S4x256x1024, .f32⟩
  | .hbm, ⟨47, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel17.lean ====
abbrev S4x256x1024 : Shape := ⟨3, ![4, 256, 1024]⟩
abbrev S4x1x1024 : Shape := ⟨3, ![4, 1, 1024]⟩
abbrev S4x1024x16 : Shape := ⟨3, ![4, 1024, 16]⟩
abbrev S1x1024x16 : Shape := ⟨3, ![1, 1024, 16]⟩
abbrev S1024x16 : Shape := ⟨2, ![1024, 16]⟩
abbrev S16x1024 : Shape := ⟨2, ![16, 1024]⟩
abbrev S4x16x256 : Shape := ⟨3, ![4, 16, 256]⟩
abbrev S1x256x1024 : Shape := ⟨3, ![1, 256, 1024]⟩
abbrev S1x1x1024 : Shape := ⟨3, ![1, 1, 1024]⟩
abbrev S1x16x256 : Shape := ⟨3, ![1, 16, 256]⟩
abbrev S256x1024 : Shape := ⟨2, ![256, 1024]⟩
abbrev S1x1024 : Shape := ⟨2, ![1, 1024]⟩
abbrev S16x256 : Shape := ⟨2, ![16, 256]⟩
abbrev S256 : Shape := ⟨1, ![256]⟩
abbrev S1x256 : Shape := ⟨2, ![1, 256]⟩
abbrev S4x16x32 : Shape := ⟨3, ![4, 16, 32]⟩

abbrev nBuf : Space → Nat
  | .hbm => 11
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S4x1024x16, .f32⟩
  | .hbm, ⟨4, _⟩ => ⟨S1x1024x16, .f32⟩
  | .hbm, ⟨5, _⟩ => ⟨S1024x16, .f32⟩
  | .hbm, ⟨6, _⟩ => ⟨S16x1024, .f32⟩
  | .hbm, ⟨7, _⟩ => ⟨S16x1024, .bf16⟩
  | .hbm, ⟨8, _⟩ => ⟨S4x16x256, .f32⟩
  | .hbm, ⟨9, _⟩ => ⟨S4x16x32, .f32⟩
  | .hbm, ⟨10, _⟩ => ⟨S4x16x32, .i32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S16x1024, .bf16⟩
  | .local _ .vmem, ⟨7, _⟩ => ⟨S1x16x256, .f32⟩
  | .local _ .vmem, ⟨8, _⟩ => ⟨S1x16x256, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S4x256x1024 : Shape := ⟨3, ![4, 256, 1024]⟩
abbrev S4x1x1024 : Shape := ⟨3, ![4, 1, 1024]⟩
abbrev S4x1024x16 : Shape := ⟨3, ![4, 1024, 16]⟩
abbrev S_ : Shape := ⟨0, ![]⟩
abbrev S1x1024x16 : Shape := ⟨3, ![1, 1024, 16]⟩
abbrev S1024x16 : Shape := ⟨2, ![1024, 16]⟩
abbrev S4x256x16 : Shape := ⟨3, ![4, 256, 16]⟩
abbrev S4x256 : Shape := ⟨2, ![4, 256]⟩
abbrev S4x256x1 : Shape := ⟨3, ![4, 256, 1]⟩
abbrev S4x16x256 : Shape := ⟨3, ![4, 16, 256]⟩
abbrev S4x16x32 : Shape := ⟨3, ![4, 16, 32]⟩

abbrev nBuf : Space → Nat
  | .hbm => 31
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S4x1024x16, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S1x1024x16, .f32⟩
  | .hbm, ⟨12, _⟩ => ⟨S1024x16, .f32⟩
  | .hbm, ⟨13, _⟩ => ⟨S4x256x16, .f32⟩
  | .hbm, ⟨14, _⟩ => ⟨S_, .f32⟩
  | .hbm, ⟨15, _⟩ => ⟨S4x256, .f32⟩
  | .hbm, ⟨16, _⟩ => ⟨S_, .f32⟩
  | .hbm, ⟨17, _⟩ => ⟨S4x256, .f32⟩
  | .hbm, ⟨18, _⟩ => ⟨S4x256, .f32⟩
  | .hbm, ⟨19, _⟩ => ⟨S4x256x1, .f32⟩
  | .hbm, ⟨20, _⟩ => ⟨S4x256x16, .f32⟩
  | .hbm, ⟨21, _⟩ => ⟨S4x256x16, .f32⟩
  | .hbm, ⟨22, _⟩ => ⟨S4x256x16, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x16, .f32⟩
  | .hbm, ⟨27, _⟩ => ⟨S4x256x16, .f32⟩
  | .hbm, ⟨28, _⟩ => ⟨S4x16x256, .f32⟩
  | .hbm, ⟨29, _⟩ => ⟨S4x16x32, .f32⟩
  | .hbm, ⟨30, _⟩ => ⟨S4x16x32, .i32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_values : Ref sig .tc := ⟨.hbm, 29, rfl⟩
abbrev main_indices : Ref sig .tc := ⟨.hbm, 30, rfl⟩

abbrev nD : Nat := 1
abbrev τ : Topo := Topo.v7x

variable {F : FTy → Type} [FloatOps F]
-- ==== Kernel18.lean ====
abbrev S4x256x1024 : Shape := ⟨3, ![4, 256, 1024]⟩
abbrev S4x1x1024 : Shape := ⟨3, ![4, 1, 1024]⟩
abbrev S1x1024x1536 : Shape := ⟨3, ![1, 1024, 1536]⟩
abbrev S1024x1536 : Shape := ⟨2, ![1024, 1536]⟩
abbrev S1024x512 : Shape := ⟨2, ![1024, 512]⟩
abbrev S4x256x512 : Shape := ⟨3, ![4, 256, 512]⟩
abbrev S1x256x1024 : Shape := ⟨3, ![1, 256, 1024]⟩
abbrev S1x1x1024 : Shape := ⟨3, ![1, 1, 1024]⟩
abbrev S1x256x512 : Shape := ⟨3, ![1, 256, 512]⟩
abbrev S256x1024 : Shape := ⟨2, ![256, 1024]⟩
abbrev S1x1024 : Shape := ⟨2, ![1, 1024]⟩
abbrev S256x512 : Shape := ⟨2, ![256, 512]⟩

abbrev nBuf : Space → Nat
  | .hbm => 8
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024x1536, .f32⟩
  | .hbm, ⟨4, _⟩ => ⟨S1024x1536, .f32⟩
  | .hbm, ⟨5, _⟩ => ⟨S1024x1536, .bf16⟩
  | .hbm, ⟨6, _⟩ => ⟨S1024x512, .bf16⟩
  | .hbm, ⟨7, _⟩ => ⟨S4x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1x256x512, .f32⟩
  | .local _ .vmem, ⟨8, _⟩ => ⟨S1x256x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S4x256x1024 : Shape := ⟨3, ![4, 256, 1024]⟩
abbrev S4x1x1024 : Shape := ⟨3, ![4, 1, 1024]⟩
abbrev S1x1024x1536 : Shape := ⟨3, ![1, 1024, 1536]⟩
abbrev S_ : Shape := ⟨0, ![]⟩
abbrev S1024x1536 : Shape := ⟨2, ![1024, 1536]⟩
abbrev S1024x512 : Shape := ⟨2, ![1024, 512]⟩
abbrev S4x256x512 : Shape := ⟨3, ![4, 256, 512]⟩

abbrev nBuf : Space → Nat
  | .hbm => 14
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x1024, .f32⟩
  | .hbm, ⟨2, _⟩ => ⟨S4x1x1024, .f32⟩
  | .hbm, ⟨3, _⟩ => ⟨S1x1024x1536, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S1024x1536, .f32⟩
  | .hbm, ⟨12, _⟩ => ⟨S1024x512, .f32⟩
  | .hbm, ⟨13, _⟩ => ⟨S4x256x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel19.lean ====
abbrev S4x256x3072 : Shape := ⟨3, ![4, 256, 3072]⟩
abbrev S2x3x3072 : Shape := ⟨3, ![2, 3, 3072]⟩
abbrev S2x3072 : Shape := ⟨2, ![2, 3072]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S3x4x256x1024 : Shape := ⟨4, ![3, 4, 256, 1024]⟩
abbrev S1x256x256 : Shape := ⟨3, ![1, 256, 256]⟩
abbrev S3x256 : Shape := ⟨2, ![3, 256]⟩
abbrev S1x256 : Shape := ⟨2, ![1, 256]⟩
abbrev S1x1x256x256 : Shape := ⟨4, ![1, 1, 256, 256]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x256x3072, .f32⟩
  | .hbm, ⟨1, _⟩ => ⟨S2x3x3072, .f32⟩
  | .hbm, ⟨2, _⟩ => ⟨S2x3072, .f32⟩
  | .hbm, ⟨3, _⟩ => ⟨S1x3x3072, .f32⟩
  | .hbm, ⟨4, _⟩ => ⟨S3x3072, .f32⟩
  | .hbm, ⟨5, _⟩ => ⟨S1x3072, .f32⟩
  | .hbm, ⟨6, _⟩ => ⟨S3072, .f32⟩
  | .hbm, ⟨7, _⟩ => ⟨S1x3072, .f32⟩
  | .hbm, ⟨8, _⟩ => ⟨S3x4x256x1024, .f32⟩
  | .local _ .vmem, ⟨0, _⟩ => ⟨S1x256x256, .f32⟩
  | .local _ .vmem, ⟨1, _⟩ => ⟨S1x256x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x1x256x256, .f32⟩
  | .local _ .vmem, ⟨7, _⟩ => ⟨S1x1x256x256, .f32⟩
  | _, _ => ⟨S4x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference19Ideal.lean ====
abbrev S4x256x3072 : Shape := ⟨3, ![4, 256, 3072]⟩
abbrev S2x3x3072 : Shape := ⟨3, ![2, 3, 3072]⟩
abbrev S2x3072 : Shape := ⟨2, ![2, 3072]⟩
abbrev S1x3x3072 : Shape := ⟨3, ![1, 3, 3072]⟩
abbrev S3x3072 : Shape := ⟨2, ![3, 3072]⟩
abbrev S1x3072 : Shape := ⟨2, ![1, 3072]⟩
abbrev S3072 : Shape := ⟨1, ![3072]⟩
abbrev S_ : Shape := ⟨0, ![]⟩
abbrev S4x258x3072 : Shape := ⟨3, ![4, 258, 3072]⟩
abbrev S1x1x3072 : Shape := ⟨3, ![1, 1, 3072]⟩
abbrev S4x256x1024 : Shape := ⟨3, ![4, 256, 1024]⟩
abbrev S1x4x256x1024 : Shape := ⟨4, ![1, 4, 256, 1024]⟩
abbrev S3x4x256x1024 : Shape := ⟨4, ![3, 4, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x256x3072, .f32⟩
  | .hbm, ⟨1, _⟩ => ⟨S2x3x3072, .f32⟩
  | .hbm, ⟨2, _⟩ => ⟨S2x3072, .f32⟩
  | .hbm, ⟨3, _⟩ => ⟨S1x3x3072, .f32⟩
  | .hbm, ⟨4, _⟩ => ⟨S3x3072, .f32⟩
  | .hbm, ⟨5, _⟩ => ⟨S1x3072, .f32⟩
  | .hbm, ⟨6, _⟩ => ⟨S3072, .f32⟩
  | .hbm, ⟨7, _⟩ => ⟨S_, .i32⟩
  | .hbm, ⟨8, _⟩ => ⟨S_, .f32⟩
  | .hbm, ⟨9, _⟩ => ⟨S4x258x3072, .f32⟩
  | .hbm, ⟨10, _⟩ => ⟨S4x256x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S4x256x3072, .f32⟩
  | .hbm, ⟨15, _⟩ => ⟨S4x256x3072, .f32⟩
  | .hbm, ⟨16, _⟩ => ⟨S_, .f32⟩
  | .hbm, ⟨17, _⟩ => ⟨S4x256x3072, .f32⟩
  | .hbm, ⟨18, _⟩ => ⟨S4x256x3072, .f32⟩
  | .hbm, ⟨19, _⟩ => ⟨S4x256x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S4x256x3072, .f32⟩
  | .hbm, ⟨24, _⟩ => ⟨S4x256x3072, .f32⟩
  | .hbm, ⟨25, _⟩ => ⟨S4x256x3072, .f32⟩
  | .hbm, ⟨26, _⟩ => ⟨S4x256x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S4x256x3072, .f32⟩
  | .hbm, ⟨31, _⟩ => ⟨S4x256x3072, .f32⟩
  | .hbm, ⟨32, _⟩ => ⟨S4x256x3072, .f32⟩
  | .hbm, ⟨33, _⟩ => ⟨S1x1x3072, .f32⟩
  | .hbm, ⟨34, _⟩ => ⟨S4x256x3072, .f32⟩
  | .hbm, ⟨35, _⟩ => ⟨S4x256x3072, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S1x4x256x1024, .f32⟩
  | .hbm, ⟨40, _⟩ => ⟨S1x4x256x1024, .f32⟩
  | .hbm, ⟨41, _⟩ => ⟨S1x4x256x1024, .f32⟩
  | .hbm, ⟨42, _⟩ => ⟨S3x4x256x1024, .f32⟩
  | _, _ => ⟨S4x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.AttnBlocks.lean ====
/- The attention kernel's input blocks read at an index: which element of which argument each holds. -/
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The block each window holds at each grid point: batch `t / 64`, key head `t / 16 % 4`, query tile `t % 16`. -/
theorem idx_val : ∀ t : Fin cfg0.N, win0_0.index t = ![t.val / 64, t.val / 16 % 4, t.val % 16, 0]
    ∧ win0_1.index t = ![t.val / 64, t.val / 16 % 4, 0, 0] ∧ win0_2.index t = ![t.val / 64, t.val / 16 % 4, 0, 0]
    ∧ win0_3.index t = ![t.val / 64, t.val / 16 % 4, 0, 0] ∧ win0_4.index t = ![t.val / 64, t.val / 16 % 4, 0, 0]
    ∧ win0_5.index t = ![t.val / 64, t.val / 16 % 4, t.val % 16, 0] :=
  (by decide +kernel : ∀ t : Fin grid0.N, _)

/-- The arguments at their plain types: queries, context keys and values, latent keys and values. -/
abbrev argQ (c : Dev nD) : FVec Ideal S4x4096x4x4x64 .f32 := m ((c : Thread nD τ).loc main_arg0)
abbrev argCK (c : Dev nD) : FVec Ideal S4x256x4x64 .f32 := m ((c : Thread nD τ).loc main_arg1)
abbrev argCV (c : Dev nD) : FVec Ideal S4x256x4x64 .f32 := m ((c : Thread nD τ).loc main_arg2)
abbrev argK (c : Dev nD) : FVec Ideal S4x4096x4x64 .f32 := m ((c : Thread nD τ).loc main_arg3)
abbrev argV (c : Dev nD) : FVec Ideal S4x4096x4x64 .f32 := m ((c : Thread nD τ).loc main_arg4)

theorem qAt (c : Dev nD) (t : Fin cfg0.N) (h : Fin 4) (r : Fin 256) (e : Fin 64) (b kv : Fin 4) (i : Fin 4096)
    (hb : (b : ℕ) = t.val / 64) (hkv : (kv : ℕ) = t.val / 16 % 4) (hi : (i : ℕ) = t.val % 16 * 256 + r) :
    iblk m c 0 t (ix4 0 h r e) = argQ m c (ix5 b i kv h e) * Ideal.ofBits .f32 0x3E000000#32 := by
  blk_simp [iblk]
  entry_read
  pointwise []
  refine Ideal.mul_congr ?_ rfl
  blk_ext [idx_val t]

theorem ckAt (c : Dev nD) (t : Fin cfg0.N) (x : Fin 256) (e : Fin 64) (b kv : Fin 4)
    (hb : (b : ℕ) = t.val / 64) (hkv : (kv : ℕ) = t.val / 16 % 4) :
    iblk m c 1 t (ix4 0 0 x e) = argCK m c (ix4 b x kv e) := by
  blk_simp [iblk]
  entry_read
  pointwise []
  blk_ext [idx_val t]

theorem kAt (c : Dev nD) (t : Fin cfg0.N) (x : Fin 4096) (e : Fin 64) (b kv : Fin 4)
    (hb : (b : ℕ) = t.val / 64) (hkv : (kv : ℕ) = t.val / 16 % 4) :
    iblk m c 3 t (ix4 0 0 x e) = argK m c (ix4 b x kv e) := by
  blk_simp [iblk]
  entry_read
  pointwise []
  blk_ext [idx_val t]

/-- The values with a column of ones and zeros up to the width after them, laid out by head; and its readings. -/
def extcv (v : FVec Ideal S4x256x4x64 .f32) : FVec Ideal S4x4x256x128 .bf16 :=
  truncf (F := Ideal) .bf16 (transpose S4x4x256x128 [0, 2, 1, 3] (concatenate S4x256x4x128 3 [⟨S4x256x4x64, v⟩,
    ⟨S4x256x4x1, broadcastInDim S4x256x4x1 ![] bcast_S_S4x256x4x1 (constant (F := Ideal) S_ .f32 0x3F800000#32)⟩,
    ⟨S4x256x4x63, broadcastInDim S4x256x4x63 ![] bcast_S_S4x256x4x63 (constant (F := Ideal) S_ .f32 0x00000000#32)⟩]
    concatenates_S4x256x4x64_S4x256x4x1_S4x256x4x63_S4x256x4x128_d3) transposes_S4x256x4x128_S4x4x256x128_0_2_1_3) bitsLt_bf16_f32

theorem extcv_val (v : FVec Ideal S4x256x4x64 .f32) (b kv : Fin 4) (x : Fin 256) (d : Fin 64) :
    extcv v (ix4 b kv x ⟨d, by omega⟩) = v (ix4 b x kv d) := by
  pointwise [extcv]

theorem extcv_one (v : FVec Ideal S4x256x4x64 .f32) (b kv : Fin 4) (x : Fin 256) : extcv v (ix4 b kv x 64) = 1 := by
  pointwise [extcv]

/-- The array behind window 2. -/
theorem V_v11 (c : Dev nD) : (V m c main_v11 : FVec Ideal S4x4x256x128 .bf16) = extcv (argCV m c) := by
  unfold V
  after_results
  rfl

theorem cvAt (c : Dev nD) (t : Fin cfg0.N) (x : Fin 256) (d : Fin 64) (b kv : Fin 4)
    (hb : (b : ℕ) = t.val / 64) (hkv : (kv : ℕ) = t.val / 16 % 4) :
    iblk m c 2 t (ix4 0 0 x ⟨d, by omega⟩) = argCV m c (ix4 b x kv d) := by
  refine Eq.trans (b := V m c main_v11 (ix4 b kv x ⟨d, by omega⟩)) ?_ ((congrFun (V_v11 m c) _).trans (extcv_val ..))
  blk_ext [iblk, idx_val t]

theorem cvOne (c : Dev nD) (t : Fin cfg0.N) (x : Fin 256) :
    iblk m c 2 t (ix4 0 0 x 64) = (1 : EReal) := by
  have ht : t.val < 256 := lt_of_lt_of_eq t.isLt N_0
  refine Eq.trans (b := V m c main_v11 (ix4 ⟨t.val / 64, by omega⟩ ⟨t.val / 16 % 4, by omega⟩ x 64)) ?_ ((congrFun (V_v11 m c) _).trans (extcv_one ..))
  blk_ext [iblk, idx_val t]

/-- The values with a column of ones and zeros up to the width after them, laid out by head; and its readings. -/
def extv (v : FVec Ideal S4x4096x4x64 .f32) : FVec Ideal S4x4x4096x128 .bf16 :=
  truncf (F := Ideal) .bf16 (transpose S4x4x4096x128 [0, 2, 1, 3] (concatenate S4x4096x4x128 3 [⟨S4x4096x4x64, v⟩,
    ⟨S4x4096x4x1, broadcastInDim S4x4096x4x1 ![] bcast_S_S4x4096x4x1 (constant (F := Ideal) S_ .f32 0x3F800000#32)⟩,
    ⟨S4x4096x4x63, broadcastInDim S4x4096x4x63 ![] bcast_S_S4x4096x4x63 (constant (F := Ideal) S_ .f32 0x00000000#32)⟩]
    concatenates_S4x4096x4x64_S4x4096x4x1_S4x4096x4x63_S4x4096x4x128_d3) transposes_S4x4096x4x128_S4x4x4096x128_0_2_1_3) bitsLt_bf16_f32

theorem extv_val (v : FVec Ideal S4x4096x4x64 .f32) (b kv : Fin 4) (x : Fin 4096) (d : Fin 64) :
    extv v (ix4 b kv x ⟨d, by omega⟩) = v (ix4 b x kv d) := by
  pointwise [extv]

theorem extv_one (v : FVec Ideal S4x4096x4x64 .f32) (b kv : Fin 4) (x : Fin 4096) : extv v (ix4 b kv x 64) = 1 := by
  pointwise [extv]

/-- The array behind window 4. -/
theorem V_v18 (c : Dev nD) : (V m c main_v18 : FVec Ideal S4x4x4096x128 .bf16) = extv (argV m c) := by
  unfold V
  after_results
  rfl

theorem vAt (c : Dev nD) (t : Fin cfg0.N) (x : Fin 4096) (d : Fin 64) (b kv : Fin 4)
    (hb : (b : ℕ) = t.val / 64) (hkv : (kv : ℕ) = t.val / 16 % 4) :
    iblk m c 4 t (ix4 0 0 x ⟨d, by omega⟩) = argV m c (ix4 b x kv d) := by
  refine Eq.trans (b := V m c main_v18 (ix4 b kv x ⟨d, by omega⟩)) ?_ ((congrFun (V_v18 m c) _).trans (extv_val ..))
  blk_ext [iblk, idx_val t]

theorem vOne (c : Dev nD) (t : Fin cfg0.N) (x : Fin 4096) :
    iblk m c 4 t (ix4 0 0 x 64) = (1 : EReal) := by
  have ht : t.val < 256 := lt_of_lt_of_eq t.isLt N_0
  refine Eq.trans (b := V m c main_v18 (ix4 ⟨t.val / 64, by omega⟩ ⟨t.val / 16 % 4, by omega⟩ x 64)) ?_ ((congrFun (V_v18 m c) _).trans (extv_one ..))
  blk_ext [iblk, idx_val t]

end Cert.KernelIdeal.Attn

end
-- ==== Proof.AttnHead.lean ====
/- One query head of the attention kernel: what each of the four stores writes, read at an index. The four heads'
   arithmetic is one formula of the head's queries, the keys and the extended values. -/
module

public import proofs.«01_k».proof.Proof.AttnBlocks

@[expose] public section

set_option maxRecDepth 16384

noncomputable section

namespace Cert.KernelIdeal.Attn

open Cert.KernelIdeal Cert.KernelIdeal.Gen Idealize.ShloMosaic Idealize.ShloMosaic.TcCoe Idealize.SL.Sem

/-- The score of query row `r` against key `x`. -/
abbrev dotAt {n : ℕ} (q : Fin 64 → EReal) (k : Fin n → Fin 64 → EReal) (x : Fin n) : EReal := ∑ e : Fin 64, q e * k x e

/-- A row's maximum over both groups of keys. -/
abbrev topOf (q : Fin 64 → EReal) (ck : Fin 256 → Fin 64 → EReal) (k : Fin 4096 → Fin 64 → EReal) : EReal :=
  max (Finset.fold max (Ideal.ofBits .f32 0xFF800000#32) (dotAt q ck) Finset.univ)
    (Finset.fold max (Ideal.ofBits .f32 0xFF800000#32) (dotAt q k) Finset.univ)

/-- The exponential-weighted sum of a column of values over both groups of keys. -/
abbrev weightedSum (q : Fin 64 → EReal) (ck : Fin 256 → Fin 64 → EReal) (k : Fin 4096 → Fin 64 → EReal) (cv : Fin 256 → EReal)
    (v : Fin 4096 → EReal) : EReal :=
  (∑ x, Ideal.exp (dotAt q ck x - topOf q ck k) * cv x) + ∑ x, Ideal.exp (dotAt q k x - topOf q ck k) * v x

/-- One head's result: the weighted sum of column `d` over that of the column of ones. -/
abbrev headVal (q : FVec Ideal S1x1x256x64 .bf16) (ck : FVec Ideal S1x1x256x64 .bf16) (cv : FVec Ideal S1x1x256x128 .bf16)
    (k : FVec Ideal S1x1x4096x64 .bf16) (v : FVec Ideal S1x1x4096x128 .bf16) (r : Fin 256) (d : Fin 64) : EReal :=
  Ideal.div
    (weightedSum (fun e => q (ix4 0 0 r e)) (fun x e => ck (ix4 0 0 x e)) (fun x e => k (ix4 0 0 x e))
      (fun x => cv (ix4 0 0 x ⟨d, by omega⟩)) (fun x => v (ix4 0 0 x ⟨d, by omega⟩)))
    (weightedSum (fun e => q (ix4 0 0 r e)) (fun x e => ck (ix4 0 0 x e)) (fun x e => k (ix4 0 0 x e))
      (fun x => cv (ix4 0 0 x 64)) (fun x => v (ix4 0 0 x 64)))

variable (q : FVec Ideal S1x1x256x64 .bf16) (ck : FVec Ideal S1x1x256x64 .bf16) (cv : FVec Ideal S1x1x256x128 .bf16)
  (k : FVec Ideal S1x1x4096x64 .bf16) (v : FVec Ideal S1x1x4096x128 .bf16) (r : Fin 256) (d : Fin 64)

theorem head0 : k0_pay5 (F := Ideal) (k0_pay3 q ck k cv v) (k0_pay4 q ck k cv v) (ix4 0 0 r d) = headVal q ck cv k v r d := by
  unfold_payloads
  pointwise []

theorem head1 : k0_pay12 (F := Ideal) (k0_pay10 q ck k) (k0_pay11 q ck k cv) v (ix4 0 0 r d) = headVal q ck cv k v r d := by
  unfold_payloads
  pointwise []

theorem head2 : k0_pay20 (F := Ideal) (k0_pay17 q ck k) (k0_pay18 q ck k) (k0_pay19 cv) v (ix4 0 0 r d) = headVal q ck cv k v r d := by
  unfold_payloads
  pointwise []

theorem head3 : k0_pay1 (F := Ideal) (k0_pay25 q ck k) (k0_pay26 q ck k) cv v (ix4 0 0 r d) = headVal q ck cv k v r d := by
  unfold_payloads
  pointwise []

end Cert.KernelIdeal.Attn

end
-- ==== Proof.AttnPoint.lean ====
/- What one grid point of the attention kernel leaves in the output's block, as an expression of the arguments. -/
module

public import proofs.«01_k».proof.Proof.AttnHead

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- A load of a whole block is the block. -/
theorem ld1 (x : Vec Ideal S1x1x256x64 .bf16) : View.ld x r0_1 = x := by
  funext i
  pointwise []
  blk_ext

theorem ld2 (x : Vec Ideal S1x1x4096x64 .bf16) : View.ld x r0_2 = x := by
  funext i
  pointwise []
  blk_ext

theorem ld3 (x : Vec Ideal S1x1x256x128 .bf16) : View.ld x r0_3 = x := by
  funext i
  pointwise []
  blk_ext

theorem ld4 (x : Vec Ideal S1x1x4096x128 .bf16) : View.ld x r0_4 = x := by
  funext i
  pointwise []
  blk_ext

/-- One head's queries out of the block of four heads. -/
abbrev headQ (x0 : FVec Ideal S1x4x256x64 .bf16) (g : Fin 4) : FVec Ideal S1x1x256x64 .bf16 := fun i => x0 (ix4 0 g (i 2) (i 3))

theorem ldq0 (x : Vec Ideal S1x4x256x64 .bf16) : View.ld x r0_0 = headQ x 0 := by
  funext i
  pointwise []

theorem ldq1 (x : Vec Ideal S1x4x256x64 .bf16) : View.ld x r0_5 = headQ x 1 := by
  funext i
  pointwise []

theorem ldq2 (x : Vec Ideal S1x4x256x64 .bf16) : View.ld x r0_6 = headQ x 2 := by
  funext i
  pointwise []

theorem ldq3 (x : Vec Ideal S1x4x256x64 .bf16) : View.ld x r0_7 = headQ x 3 := by
  funext i
  pointwise []

/-- An index of a one-head block by its row and column. -/
theorem row_col (x : S1x1x256x64.Idx) (r : Fin 256) (d : Fin 64) (h2 : (r : ℕ) = x 2) (h3 : (d : ℕ) = x 3) : x = ix4 0 0 r d := by
  blk_ext

/-- What the four stores leave in the block, at head `g`, row `r` and column `d`. -/
theorem stored (x0 : FVec Ideal S1x4x256x64 .bf16) (x1 : FVec Ideal S1x1x256x64 .bf16) (x2 : FVec Ideal S1x1x256x128 .bf16)
    (x3 : FVec Ideal S1x1x4096x64 .bf16) (x4 : FVec Ideal S1x1x4096x128 .bf16) (y : S1x4x256x64.Idx) (g : Fin 4) (r : Fin 256)
    (d : Fin 64) (eg : (y 1 : ℕ) = g) (er : (y 2 : ℕ) = r) (ed : (y 3 : ℕ) = d) :
    out0_5 (F := Ideal) x0 x1 x2 x3 x4 y = headVal (headQ x0 g) x1 x2 x3 x4 r d := by
  canon_tiles x h
  case piece0 =>
    rw [row_col x r d (er.symm.trans h2) (ed.symm.trans h3), ld1, ld2, ld3, ld4, ldq3, head3, show g = 3 from Fin.ext (by omega)]
  case piece1 =>
    rw [row_col x r d (er.symm.trans h2) (ed.symm.trans h3), ld1, ld2, ld3, ld4, ldq2, head2, show g = 2 from Fin.ext (by omega)]
  case piece2 =>
    rw [row_col x r d (er.symm.trans h2) (ed.symm.trans h3), ld1, ld2, ld3, ld4, ldq1, head1, show g = 1 from Fin.ext (by omega)]
  case piece3 =>
    rw [row_col x r d (er.symm.trans h2) (ed.symm.trans h3), ld1, ld2, ld3, ld4, ldq0, head0, show g = 0 from Fin.ext (by omega)]

end Cert.KernelIdeal.Attn

end
-- ==== Proof.SoftmaxSplit.lean ====
/- Extended-real facts behind the attention's claim: multiplication by a positive real number passes
   through a finite sum, the division by the row's total can be done after the weighted sum instead of
   before it, and a maximum over a concatenated axis is the larger of the two pieces' maxima. -/
module

public import Idealize.ShloMosaic.PureOps
public import Idealize.ShloMosaic.Lib.Pointwise

@[expose] public section

set_option maxRecDepth 16384

noncomputable section

namespace Cert.SoftmaxSplit

open Idealize.ShloMosaic

/-- A nonnegative real factor distributes over a finite sum of extended reals, whatever the summands are. -/
theorem sum_mul_real {ι : Type} (s : Finset ι) (f : ι → EReal) (r : ℝ) (hr : 0 ≤ r) :
    (∑ x ∈ s, f x) * (r : EReal) = ∑ x ∈ s, f x * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of real numbers, taken in the extended reals. -/
theorem sum_real {ι : Type} (s : Finset ι) (f : ι → ℝ) :
    (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- An extended real is finite: neither infinity. -/
def IsReal (x : EReal) : Prop := ∃ r : ℝ, x = (r : EReal)

theorem fin_of_abs_lt {x : EReal} (h : max x (-x) < ⊤) : IsReal x := by
  induction x with
  | bot => simp at h
  | top => simp at h
  | coe r => exact ⟨r, rfl⟩

theorem fin_mul {x y : EReal} (hx : IsReal x) (hy : IsReal y) : IsReal (x * y) := by
  obtain ⟨a, rfl⟩ := hx
  obtain ⟨b, rfl⟩ := hy
  exact ⟨a * b, (EReal.coe_mul a b).symm⟩

theorem fin_sum {ι : Type} (s : Finset ι) (f : ι → EReal) (h : ∀ x ∈ s, IsReal (f x)) : IsReal (∑ x ∈ s, f x) := by
  classical
  induction s using Finset.induction_on with
  | empty => exact ⟨0, by simp⟩
  | insert a s ha ih =>
    obtain ⟨p, hp⟩ := h a (Finset.mem_insert_self a s)
    obtain ⟨q, hq⟩ := ih fun x hx => h x (Finset.mem_insert_of_mem hx)
    exact ⟨p + q, by rw [Finset.sum_insert ha, hp, hq, EReal.coe_add]⟩

/-- The exponential of a difference of finite extended reals is a positive real. -/
theorem exp_sub_real {x y : EReal} (hx : IsReal x) (hy : IsReal y) : ∃ r : ℝ, 0 < r ∧ Ideal.exp (x - y) = (r : EReal) := by
  obtain ⟨a, rfl⟩ := hx
  obtain ⟨b, rfl⟩ := hy
  refine ⟨Real.exp (a - b), Real.exp_pos _, ?_⟩
  rw [← EReal.coe_sub]
  rfl

/-- Division by a positive real is multiplication by its inverse. -/
theorem div_real (x : EReal) (d : ℝ) (hd : 0 < d) : Ideal.div x (d : EReal) = x * ((d⁻¹ : ℝ) : EReal) := by
  unfold Ideal.div
  rw [if_neg (by exact_mod_cast hd.ne'), EReal.coe_inv]

/-- The maximum of a family, started from the least element, is its supremum. -/
theorem fold_max_eq_sup {n : ℕ} (f : Fin n → EReal) : Finset.fold max ⊥ f Finset.univ = Finset.univ.sup f := rfl

/-- The maximum over a concatenated axis is the larger of the pieces' maxima. -/
theorem fold_max_split {n a b : ℕ} (h : n = a + b) (f : Fin n → EReal) (u : Fin a → EReal) (v : Fin b → EReal)
    (hu : ∀ x : Fin a, f ⟨x, by omega⟩ = u x) (hv : ∀ x : Fin b, f ⟨a + x, by omega⟩ = v x) :
    Finset.fold max ⊥ f Finset.univ = max (Finset.fold max ⊥ u Finset.univ) (Finset.fold max ⊥ v Finset.univ) := by
  rw [fold_max_eq_sup, fold_max_eq_sup, fold_max_eq_sup]
  apply le_antisymm
  · refine Finset.sup_le fun x _ => ?_
    by_cases hx : (x : ℕ) < a
    · exact le_max_of_le_left ((hu ⟨x, hx⟩).le.trans (Finset.le_sup (f := u) (Finset.mem_univ _)))
    · have e : f x = v ⟨x - a, by omega⟩ := by
        rw [← hv]
        exact congrArg f (Fin.ext (by simp only []; omega))
      exact le_max_of_le_right (e.le.trans (Finset.le_sup (f := v) (Finset.mem_univ _)))
  · refine max_le (Finset.sup_le fun x _ => ?_) (Finset.sup_le fun x _ => ?_)
    · exact (hu x).symm.le.trans (Finset.le_sup (f := f) (Finset.mem_univ _))
    · exact (hv x).symm.le.trans (Finset.le_sup (f := f) (Finset.mem_univ _))

/-- The maximum of a nonempty family of finite extended reals is finite. -/
theorem fin_fold_max {n : ℕ} (hn : 0 < n) (f : Fin n → EReal) (h : ∀ x, IsReal (f x)) :
    IsReal (Finset.fold max ⊥ f Finset.univ) := by
  rw [fold_max_eq_sup]
  have : Nonempty (Fin n) := ⟨⟨0, hn⟩⟩
  obtain ⟨x, _, hx⟩ := Finset.exists_mem_eq_sup Finset.univ Finset.univ_nonempty f
  rw [hx]
  exact h x

theorem fin_max {x y : EReal} (hx : IsReal x) (hy : IsReal y) : IsReal (max x y) := by
  rcases max_cases x y with h | h
  · rw [h.1]; exact hx
  · rw [h.1]; exact hy

/-- A softmax-weighted sum over two pieces of an axis: dividing the weighted sum by the total weight is
    summing with the weights divided one by one. The scores and the subtracted maximum are finite, the
    values arbitrary extended reals. -/
theorem weighted {a b : ℕ} (ha : 0 < a) (s : Fin a → EReal) (t : Fin b → EReal) (M : EReal) (u : Fin a → EReal)
    (v : Fin b → EReal) (hs : ∀ x, IsReal (s x)) (ht : ∀ x, IsReal (t x)) (hM : IsReal M) :
    Ideal.div ((∑ x, Ideal.exp (s x - M) * u x) + ∑ x, Ideal.exp (t x - M) * v x)
        ((∑ x, Ideal.exp (s x - M)) + ∑ x, Ideal.exp (t x - M))
      = (∑ x, Ideal.div (Ideal.exp (s x - M)) ((∑ x, Ideal.exp (s x - M)) + ∑ x, Ideal.exp (t x - M)) * u x)
        + ∑ x, Ideal.div (Ideal.exp (t x - M)) ((∑ x, Ideal.exp (s x - M)) + ∑ x, Ideal.exp (t x - M)) * v x := by
  choose p hp0 hp using fun x => exp_sub_real (hs x) hM
  choose q hq0 hq using fun x => exp_sub_real (ht x) hM
  simp only [hp, hq]
  rw [sum_real, sum_real, ← EReal.coe_add]
  have hD : 0 < (∑ x, p x) + ∑ x, q x := by
    have : Nonempty (Fin a) := ⟨⟨0, ha⟩⟩
    exact add_pos_of_pos_of_nonneg (Finset.sum_pos (fun x _ => hp0 x) Finset.univ_nonempty)
      (Finset.sum_nonneg fun x _ => (hq0 x).le)
  generalize (∑ x, p x) + ∑ x, q x = D at hD ⊢
  have hi : (0 : ℝ) ≤ D⁻¹ := (inv_pos.mpr hD).le
  simp only [div_real _ D hD]
  rw [EReal.right_distrib_of_nonneg_of_ne_top (by exact_mod_cast hi) (EReal.coe_ne_top _), sum_mul_real _ _ _ hi,
    sum_mul_real _ _ _ hi]
  congr 1 <;> exact Finset.sum_congr rfl fun x _ => mul_right_comm _ _ _

/-- The words of minus infinity and of one eighth. -/
theorem ofBits_neg_inf : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee, -EReal.coe_mul]
  norm_num

end Cert.SoftmaxSplit

end
-- ==== Proof.AttnRef.lean ====
/- The attention's reference read at an index: the scores, the softmax's numerators, and the result, each as an
   extended-real expression of the arguments' elements. -/
module

public import proofs.«01_k».proof.Proof.Gen.ReferenceIdeal.Read
public import proofs.«01_k».proof.Proof.SoftmaxSplit
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.SL.Sem

/-- The keys along the concatenated axis: the context's first, the latent tokens' after them. -/
def keyAt (x1 : FVec Ideal S4x256x4x64 .f32) (x3 : FVec Ideal S4x4096x4x64 .f32) (b kv : Fin 4) (s : Fin 4352) (e : Fin 64) : EReal :=
  if h : (s : ℕ) < 256 then x1 (ix4 b ⟨s, h⟩ kv e) else x3 (ix4 b ⟨s - 256, by omega⟩ kv e)

/-- One scaled score. -/
theorem score (x0 : FVec Ideal S4x4096x4x4x64 .f32) (x1 : FVec Ideal S4x256x4x64 .f32) (x3 : FVec Ideal S4x4096x4x64 .f32)
    (b kv g : Fin 4) (i : Fin 4096) (s : Fin 4352) :
    val_main_v5 (F := Ideal) x0 x1 x3 (ix5 b kv g i s)
      = (∑ e : Fin 64, keyAt x1 x3 b kv s e * x0 (ix5 b i kv g e)) * Ideal.ofBits .f32 0x3E000000#32 := by
  unfold val_main_v5 val_main_v4 val_main_v3 val_main_v2 val_main_v0 val_main_cst
  pointwise []
  rfl

/-- A row's maximum, over any array of scores. -/
theorem rowMax (x : FVec Ideal S4x4x4x4096x4352 .f32) (b kv g : Fin 4) (i : Fin 4096) :
    Host.reduce FloatOps.maximumf x (constant (F := Ideal) S_ .f32 0xFF800000#32) reducesTo_S4x4x4x4096x4352_S4x4x4x4096_d4 h_S_
        (ix4 b kv g i)
      = Finset.fold max (Ideal.ofBits .f32 0xFF800000#32) (fun s => x (ix5 b kv g i s)) Finset.univ := by
  pointwise []

/-- The softmax's numerators, over any array of scores and any array subtracted from its rows. -/
theorem numer (x : FVec Ideal S4x4x4x4096x4352 .f32) (y : FVec Ideal S4x4x4x4096 .f32) (b kv g : Fin 4) (i : Fin 4096) (s : Fin 4352) :
    Host.exp (F := Ideal) (subf x (broadcastInDim S4x4x4x4096x4352 ![0, 1, 2, 3, 4] bcast_S4x4x4x4096x1_S4x4x4x4096x4352_0_1_2_3_4
        (broadcastInDim S4x4x4x4096x1 ![0, 1, 2, 3] bcast_S4x4x4x4096_S4x4x4x4096x1_0_1_2_3
          (maximumf (broadcastInDim S4x4x4x4096 ![] bcast_S_S4x4x4x4096 (constant S_ .f32 0xFF800000#32)) y)))) (ix5 b kv g i s)
      = Ideal.exp (x (ix5 b kv g i s) - max (Ideal.ofBits .f32 0xFF800000#32) (y (ix4 b kv g i))) := by
  pointwise []

/-- The softmax's numerators of this program's scores. -/
theorem expo (x0 : FVec Ideal S4x4096x4x4x64 .f32) (x1 : FVec Ideal S4x256x4x64 .f32) (x3 : FVec Ideal S4x4096x4x64 .f32)
    (b kv g : Fin 4) (i : Fin 4096) (s : Fin 4352) :
    val_main_v12 (F := Ideal) x0 x1 x3 (ix5 b kv g i s)
      = Ideal.exp (val_main_v5 (F := Ideal) x0 x1 x3 (ix5 b kv g i s)
          - Finset.fold max ⊥ (fun s => val_main_v5 (F := Ideal) x0 x1 x3 (ix5 b kv g i s)) Finset.univ) := by
  unfold val_main_v12 val_main_v11 val_main_v10 val_main_v9 val_main_v8 val_main_v7 val_main_v6 val_main_cst_0 val_main_cst_1
  refine (numer _ _ b kv g i s).trans ?_
  rw [rowMax, SoftmaxSplit.ofBits_neg_inf, max_eq_right bot_le]

/-- The result, its sum over the concatenated axis cut at the context's end. -/
theorem out (x0 : FVec Ideal S4x4096x4x4x64 .f32) (x1 x2 : FVec Ideal S4x256x4x64 .f32) (x3 x4 : FVec Ideal S4x4096x4x64 .f32)
    (b : Fin 4) (h : Fin 16) (i : Fin 4096) (d : Fin 64) (kv g : Fin 4) (hkv : (kv : ℕ) = h / 4) (hg : (g : ℕ) = h % 4) :
    val_main_v19 (F := Ideal) x0 x1 x2 x3 x4 (ix4 b h i d)
      = (∑ x : Fin 256, Ideal.div (val_main_v12 (F := Ideal) x0 x1 x3 (ix5 b kv g i ⟨x, by omega⟩))
            (∑ s, val_main_v12 (F := Ideal) x0 x1 x3 (ix5 b kv g i s)) * x2 (ix4 b x kv d))
        + ∑ x : Fin 4096, Ideal.div (val_main_v12 (F := Ideal) x0 x1 x3 (ix5 b kv g i ⟨256 + x, by omega⟩))
            (∑ s, val_main_v12 (F := Ideal) x0 x1 x3 (ix5 b kv g i s)) * x4 (ix4 b x kv d) := by
  have ekv : kv = ⟨h / 4, by omega⟩ := Fin.ext hkv
  have eg : g = ⟨h % 4, by omega⟩ := Fin.ext hg
  unfold val_main_v19 val_main_v18 val_main_v17 val_main_v16 val_main_v15 val_main_v14 val_main_v13 val_main_cst_2 val_main_v1
  pointwise [ekv, eg]

end Cert.ReferenceIdeal.Attn

end
-- ==== Proof.AttnValue.lean ====
/- The attention's value: the kernel's final array is the reference's softmax-weighted sum, for finite queries and keys. -/
module

public import proofs.«01_k».proof.Proof.AttnPoint
public import proofs.«01_k».proof.Proof.AttnRef

@[expose] public section

set_option maxRecDepth 16384

noncomputable section

namespace Cert.KernelIdeal.Attn

open Cert.KernelIdeal Cert.KernelIdeal.Gen Idealize.ShloMosaic Idealize.ShloMosaic.TcCoe Idealize.SL.Sem
open Cert.SoftmaxSplit

/-- A softmax over a concatenated axis, as the reference writes it (dot products scaled afterwards, each weight
    divided before the weighted sum), against the kernel's form (queries scaled first, the two groups apart, one
    division at the end). -/
theorem softmax_forms (q : Fin 64 → EReal) (ck : Fin 256 → Fin 64 → EReal) (k : Fin 4096 → Fin 64 → EReal) (cv : Fin 256 → EReal)
    (v : Fin 4096 → EReal) (hq : ∀ e, IsReal (q e)) (hck : ∀ x e, IsReal (ck x e)) (hk : ∀ x e, IsReal (k x e))
    (s : Fin 4352 → EReal)
    (hs1 : ∀ x : Fin 256, s ⟨x, by omega⟩ = (∑ e, ck x e * q e) * Ideal.ofBits .f32 0x3E000000#32)
    (hs2 : ∀ x : Fin 4096, s ⟨256 + x, by omega⟩ = (∑ e, k x e * q e) * Ideal.ofBits .f32 0x3E000000#32)
    (p : Fin 4352 → EReal) (hp : ∀ x, p x = Ideal.exp (s x - Finset.fold max ⊥ s Finset.univ)) :
    Ideal.div
        (weightedSum (fun e => q e * Ideal.ofBits .f32 0x3E000000#32) ck k cv v)
        (weightedSum (fun e => q e * Ideal.ofBits .f32 0x3E000000#32) ck k (fun _ => 1) (fun _ => 1))
      = (∑ x : Fin 256, Ideal.div (p ⟨x, by omega⟩) (∑ y, p y) * cv x)
        + ∑ x : Fin 4096, Ideal.div (p ⟨256 + x, by omega⟩) (∑ y, p y) * v x := by
  have scaled : ∀ {n : ℕ} (kk : Fin n → Fin 64 → EReal) (x : Fin n),
      dotAt (fun e => q e * Ideal.ofBits .f32 0x3E000000#32) kk x = (∑ e, kk x e * q e) * Ideal.ofBits .f32 0x3E000000#32 := by
    intro n kk x
    rw [ofBits_eighth, sum_mul_real _ _ _ (by norm_num)]
    exact Finset.sum_congr rfl fun e _ => by rw [mul_right_comm, mul_comm (q e)]
  have e1 : ∀ x, s ⟨(x : Fin 256), by omega⟩ = dotAt (fun e => q e * Ideal.ofBits .f32 0x3E000000#32) ck x :=
    fun x => (hs1 x).trans (scaled ck x).symm
  have e2 : ∀ x : Fin 4096, s ⟨256 + x, by omega⟩ = dotAt (fun e => q e * Ideal.ofBits .f32 0x3E000000#32) k x :=
    fun x => (hs2 x).trans (scaled k x).symm
  have real8 : IsReal (Ideal.ofBits .f32 0x3E000000#32) := ⟨_, ofBits_eighth⟩
  have r1 : ∀ x, IsReal (dotAt (fun e => q e * Ideal.ofBits .f32 0x3E000000#32) ck x) :=
    fun x => fin_sum _ _ fun e _ => fin_mul (fin_mul (hq e) real8) (hck x e)
  have r2 : ∀ x, IsReal (dotAt (fun e => q e * Ideal.ofBits .f32 0x3E000000#32) k x) :=
    fun x => fin_sum _ _ fun e _ => fin_mul (fin_mul (hq e) real8) (hk x e)
  have eM : Finset.fold max ⊥ s Finset.univ = topOf (fun e => q e * Ideal.ofBits .f32 0x3E000000#32) ck k := by
    rw [topOf, ofBits_neg_inf]
    exact fold_max_split (by norm_num) s _ _ e1 e2
  have rM : IsReal (topOf (fun e => q e * Ideal.ofBits .f32 0x3E000000#32) ck k) := by
    rw [topOf, ofBits_neg_inf]
    exact fin_max (fin_fold_max (by norm_num) _ r1) (fin_fold_max (by norm_num) _ r2)
  have p1 : ∀ x : Fin 256, p ⟨x, by omega⟩ = _ := fun x => (hp _).trans (by rw [eM, e1])
  have p2 : ∀ x : Fin 4096, p ⟨256 + x, by omega⟩ = _ := fun x => (hp _).trans (by rw [eM, e2])
  have hD : (∑ y, p y) = _ := (Fin.sum_univ_two_halves 256 4096 rfl p).trans
    (congrArg₂ (· + ·) (Finset.sum_congr rfl fun x _ => p1 x) (Finset.sum_congr rfl fun x _ => p2 x))
  have h := weighted (by norm_num) _ _ _ cv v r1 r2 rM
  simp only [p1, p2, hD, weightedSum, mul_one]
  exact h

variable (m : (ℓ : Loc nD τ sig) → Buf (Elt Ideal) ℓ)

/-- What the kernel leaves at one index of its result. -/
theorem point (c : Dev nD) (hq : ∀ i, IsReal (argQ m c i)) (hck : ∀ i, IsReal (argCK m c i)) (hk : ∀ i, IsReal (argK m c i))
    (t : Fin cfg0.N) (y : S1x4x256x64.Idx) (j : S4x16x4096x64.Idx) (hj0 : (j 0 : ℕ) = t.val / 64)
    (hj1 : (j 1 : ℕ) = t.val / 16 % 4 * 4 + y 1) (hj2 : (j 2 : ℕ) = t.val % 16 * 256 + y 2) (hj3 : (j 3 : ℕ) = y 3) :
    out0_5 (F := Ideal) (iblk m c 0 t) (iblk m c 1 t) (iblk m c 2 t) (iblk m c 3 t) (iblk m c 4 t) y
      = Cert.ReferenceIdeal.Read.val_main_v19 (F := Ideal) (argQ m c) (argCK m c) (argCV m c) (argK m c) (argV m c) j := by
  have ht : t.val < 256 := lt_of_lt_of_eq t.isLt N_0
  idx_vars y
  idx_vars j
  have hg : (y1 : ℕ) < 4 := y1.isLt
  have hd : (y3 : ℕ) < 64 := y3.isLt
  rw [stored _ _ _ _ _ _ y1 y2 y3 rfl rfl rfl,
    Cert.ReferenceIdeal.Attn.out (argQ m c) (argCK m c) (argCV m c) (argK m c) (argV m c) j0 j1 j2 j3
      ⟨t.val / 16 % 4, by omega⟩ y1 (by simp only []; omega) (by omega)]
  have eq : ∀ e, headQ (iblk m c 0 t) y1 (ix4 0 0 y2 e) = argQ m c (ix5 j0 j2 ⟨t.val / 16 % 4, by omega⟩ y1 e) * Ideal.ofBits .f32 0x3E000000#32 :=
    fun e => qAt m c t y1 y2 e j0 _ j2 hj0 rfl hj2
  have eck : ∀ x e, iblk m c 1 t (ix4 0 0 x e) = argCK m c (ix4 j0 x ⟨t.val / 16 % 4, by omega⟩ e) := fun x e => ckAt m c t x e j0 _ hj0 rfl
  have ek : ∀ x e, iblk m c 3 t (ix4 0 0 x e) = argK m c (ix4 j0 x ⟨t.val / 16 % 4, by omega⟩ e) := fun x e => kAt m c t x e j0 _ hj0 rfl
  have ecv : ∀ x, iblk m c 2 t (ix4 0 0 x ⟨y3, by omega⟩) = argCV m c (ix4 j0 x ⟨t.val / 16 % 4, by omega⟩ j3) := fun x =>
    (cvAt m c t x y3 j0 _ hj0 rfl).trans (by rw [show y3 = j3 from Fin.ext hj3.symm])
  have ev : ∀ x, iblk m c 4 t (ix4 0 0 x ⟨y3, by omega⟩) = argV m c (ix4 j0 x ⟨t.val / 16 % 4, by omega⟩ j3) := fun x =>
    (vAt m c t x y3 j0 _ hj0 rfl).trans (by rw [show y3 = j3 from Fin.ext hj3.symm])
  have forms := softmax_forms (fun e => argQ m c (ix5 j0 j2 ⟨t.val / 16 % 4, by omega⟩ y1 e))
    (fun x e => argCK m c (ix4 j0 x ⟨t.val / 16 % 4, by omega⟩ e)) (fun x e => argK m c (ix4 j0 x ⟨t.val / 16 % 4, by omega⟩ e))
    (fun x => argCV m c (ix4 j0 x ⟨t.val / 16 % 4, by omega⟩ j3)) (fun x => argV m c (ix4 j0 x ⟨t.val / 16 % 4, by omega⟩ j3))
    (fun _ => hq _) (fun _ _ => hck _) (fun _ _ => hk _)
    (fun s => Cert.ReferenceIdeal.Read.val_main_v5 (F := Ideal) (argQ m c) (argCK m c) (argK m c) (ix5 j0 ⟨t.val / 16 % 4, by omega⟩ y1 j2 s))
    (fun x => (Cert.ReferenceIdeal.Attn.score _ _ _ _ _ _ _ _).trans (by
      refine Ideal.mul_congr (Finset.sum_congr rfl fun e _ => Ideal.mul_congr ?_ rfl) rfl
      exact dif_pos x.isLt))
    (fun x => (Cert.ReferenceIdeal.Attn.score _ _ _ _ _ _ _ _).trans (by
      refine Ideal.mul_congr (Finset.sum_congr rfl fun e _ => Ideal.mul_congr ?_ rfl) rfl
      refine (dif_neg (by simp)).trans ?_
      congr 2
      exact Fin.ext (by simp)))
    _ (fun x => Cert.ReferenceIdeal.Attn.expo (argQ m c) (argCK m c) (argK m c) j0 ⟨t.val / 16 % 4, by omega⟩ y1 j2 x)
  refine Eq.trans ?_ forms
  unfold headVal
  simp only [eq, eck, ek, ecv, ev, cvOne m c t, vOne m c t]

/-- The kernel's result array is the reference's. -/
theorem final (c : Dev nD) (hq : ∀ i, IsReal (argQ m c i)) (hck : ∀ i, IsReal (argCK m c i)) (hk : ∀ i, IsReal (argK m c i)) :
    (dats m 0 c).arrAt 5 (cfgs 0).N
      = Cert.ReferenceIdeal.Read.val_main_v19 (F := Ideal) (argQ m c) (argCK m c) (argCV m c) (argK m c) (argV m c) := by
  refine (dats m 0 c).arrAt_eq_of_covers 5 _ (by decide +kernel) fun t _ y => ?_
  blk_simp
  rw [after0_5]
  refine point m c hq hck hk t y _ ?_ ?_ ?_ ?_
  all_goals (blk_simp [idx_val t] <;> try omega)

end Cert.KernelIdeal.Attn

end
-- ==== Proof.AttnFinite.lean ====
/- What the precondition says of the attention's arguments: every query and every key is a real number. -/
module

public import proofs.«01_k».proof.Defs
public import proofs.«01_k».proof.Proof.Gen.Pre_finite_scores
public import proofs.«01_k».proof.Proof.AttnValue

@[expose] public section

set_option maxRecDepth 16384

noncomputable section

namespace Cert.KernelIdeal.Attn

open Cert.KernelIdeal Cert.KernelIdeal.Gen Idealize.ShloMosaic Idealize.ShloMosaic.TcCoe Idealize.SL.Sem
open Cert.SoftmaxSplit

/-- The word the precondition compares with is the infinity. -/
theorem ofBits_top : Ideal.ofBits .f32 0x7F800000#32 = ⊤ := by
  simp [Ideal.ofBits, Ideal.ieee]

/-- An element whose magnitude compares below the infinity is a real number. -/
theorem real_of_mask {x : EReal} (h : Ideal.cmp .olt (max x (-x)) (Ideal.ofBits .f32 0x7F800000#32) = 1#1) : IsReal x := by
  rw [ofBits_top] at h
  refine fin_of_abs_lt ?_
  by_contra hn
  simp [Ideal.cmp, hn] at h

variable (m : (ℓ : Loc nD τ sig) → Buf (Elt Ideal) ℓ)

/-- The precondition's three arrays of ones, read: queries, the context's keys and the tokens' keys are real. -/
theorem reals (h : Cert.Pre_KernelIdeal_finite_scores m) (c : Dev nD) :
    (∀ i, IsReal (argQ m c i)) ∧ (∀ i, IsReal (argCK m c i)) ∧ (∀ i, IsReal (argK m c i)) := by
  obtain ⟨h1, h2, h3⟩ := h c
  refine ⟨fun i => real_of_mask ?_, fun i => real_of_mask ?_, fun i => real_of_mask ?_⟩
  · refine Eq.trans ?_ (congrFun h1 i)
    pointwise [Cert.Pre_finite_scores.fn]
    rfl
  · refine Eq.trans ?_ (congrFun h2 i)
    pointwise [Cert.Pre_finite_scores.fn]
    rfl
  · refine Eq.trans ?_ (congrFun h3 i)
    pointwise [Cert.Pre_finite_scores.fn]
    rfl

end Cert.KernelIdeal.Attn

end
-- ==== Proof.FfnPoint.lean ====
/- What one grid point of the expert feed-forward leaves in the output's block. -/
module

public import proofs.«01_k».proof.Proof.Gen.Kernel2Ideal.Value
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- The block each window holds: expert `t / 4`, slice of the hidden width `t % 4`. -/
theorem idx_val : ∀ t : Fin cfg0.N, win0_0.index t = ![t.val / 4, 0, 0] ∧ win0_1.index t = ![3, t.val / 4, 0, t.val % 4]
    ∧ win0_2.index t = ![3, t.val / 4, 0, t.val % 4] ∧ win0_3.index t = ![3, t.val / 4, t.val % 4, 0]
    ∧ win0_4.index t = ![t.val / 4, 0, 0] ∧ win0_5.index t = ![t.val / 4, 0, 0] :=
  (by decide +kernel : ∀ t : Fin grid0.N, _)

/-- A block's projection of row `r`, column `f`. -/
abbrev projB (x : FVec Ideal S1x2048x1024 .bf16) (w : FVec Ideal S1x1x1024x512 .f32) (r : Fin 2048) (f : Fin 512) : EReal :=
  ∑ k : Fin 1024, x (ix3 0 r k) * w (ix4 0 0 k f)

/-- A grid point's term of row `r`, column `d`: the hidden slice's share of the output. -/
abbrev part (x : FVec Ideal S1x2048x1024 .bf16) (wg wu : FVec Ideal S1x1x1024x512 .f32) (wd : FVec Ideal S1x1x512x1024 .f32)
    (r : Fin 2048) (d : Fin 1024) : EReal :=
  ∑ f : Fin 512, projB x wg r f * Ideal.logistic (projB x wg r f) * projB x wu r f * wd (ix4 0 0 f d)

theorem firstAt (c : Dev nD) (t : Fin cfg0.N) (h0 : t.val % 4 = 0) (r : Fin 2048) (d : Fin 1024) :
    outsAt0 m c t.val t.isLt (ix3 0 r d) = part (iblk m c 0 t) (iblk m c 1 t) (iblk m c 2 t) (iblk m c 3 t) r d := by
  rw [outsAt0_A m c t h0 (by omega) h0 (by omega) (by omega)]
  frame_out
  canon_tiles x h
  case piece0 =>
    rw [show r = ⟨1024 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

theorem nextAt (c : Dev nD) (t : Fin cfg0.N) (h0 : ¬ t.val % 4 = 0) (h3 : ¬ t.val % 4 = 3) (r : Fin 2048) (d : Fin 1024) :
    outsAt0 m c t.val t.isLt (ix3 0 r d) =
     outsAt0 m c (t.val - 1) (lt_of_le_of_lt (Nat.sub_le ..) t.isLt) (ix3 0 r d) + part (iblk m c 0 t) (iblk m c 1 t) (iblk m c 2 t) (iblk m c 3 t) r d := by
  rw [outsAt0_B m c t h0 (by omega) h0 (by omega) h3]
  frame_out
  canon_tiles x h
  case piece0 =>
    rw [show r = ⟨1024 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

/-- A load of the whole block after several stores reads what the stores left. -/
theorem whole_read {sig : RefSig} {κ : Kind} {sp : Space} (v : View sig κ sp S1x2048x1024 .f32)
    (L : List (View.Piece (Elt Ideal) S1x2048x1024 .f32)) (inb) (y : S1x2048x1024.Idx) :
    v.readCov L (Rect.unit (s := S1x2048x1024) ![0, 0, 0] ![1, 2048, 1024] inb).toLoadRect y = View.canon L y := by
  rw [View.readCov_eq_canon']
  exact View.ld_unit_apply_of (View.canon L) _ _ inb y y fun a => by fin_cases a <;> simp

/-- The block with each row multiplied by its gate. -/
theorem gated (y : FVec Ideal S1x2048x1024 .f32) (g : FVec Ideal S1x2048x1 .f32) (r : Fin 2048) (d : Fin 1024) :
    k0_pay4 (F := Ideal) y g (ix3 0 r d) = y (ix3 0 r d) * g (ix3 0 r 0) := by
  pointwise [k0_pay4]

theorem lastAt (c : Dev nD) (t : Fin cfg0.N) (h3 : t.val % 4 = 3) (r : Fin 2048) (d : Fin 1024) :
    outsAt0 m c t.val t.isLt (ix3 0 r d) =
     (outsAt0 m c (t.val - 1) (lt_of_le_of_lt (Nat.sub_le ..) t.isLt) (ix3 0 r d) + part (iblk m c 0 t) (iblk m c 1 t) (iblk m c 2 t) (iblk m c 3 t) r d) * iblk m c 4 t (ix3 0 r 0) := by
  rw [outsAt0_C m c t (by omega) (by omega) (by omega) (by omega) h3]
  frame_out
  rw [gated]
  refine Ideal.mul_congr ((whole_read _ _ _ _).trans ?_) rfl
  canon_tiles x h
  case piece0 =>
    rw [show r = ⟨1024 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

end Cert.Kernel2Ideal.Ffn

end
-- ==== Proof.FfnRef.lean ====
/- The expert feed-forward's reference read at an index. -/
module

public import proofs.«01_k».proof.Proof.Gen.Reference2Ideal.Read
public import Idealize.ShloMosaic.Lib.Pointwise

@[expose] public section

set_option maxRecDepth 16384

noncomputable section

namespace Cert.Reference2Ideal.Ffn

open Cert.Reference2Ideal Cert.Reference2Ideal.Gen Cert.Reference2Ideal.Read Idealize.ShloMosaic Idealize.SL.Sem

/-- One expert's projection of one token: the gate's or the up matrix's column `f`. -/
abbrev proj (x : FVec Ideal S4x16x512x1024 .f32) (w : FVec Ideal S4x16x1024x2048 .f32) (b : Fin 4) (e : Fin 16) (i : Fin 512)
    (f : Fin 2048) : EReal := ∑ k : Fin 1024, x (ix4 b e i k) * w (ix4 3 e k f)

/-- The gated hidden value. -/
abbrev hidden (x : FVec Ideal S4x16x512x1024 .f32) (wg wu : FVec Ideal S4x16x1024x2048 .f32) (b : Fin 4) (e : Fin 16) (i : Fin 512)
    (f : Fin 2048) : EReal :=
  proj x wg b e i f * Ideal.logistic (proj x wg b e i f) * proj x wu b e i f

theorem out (x0 : FVec Ideal S4x16x512x1024 .f32) (x1 x2 : FVec Ideal S4x16x1024x2048 .f32) (x3 : FVec Ideal S4x16x2048x1024 .f32)
    (x4 : FVec Ideal S4x16x512 .f32) (e : Fin 16) (r : Fin 2048) (d : Fin 1024) (b : Fin 4) (i : Fin 512) (hb : (b : ℕ) = r / 512) (hi : (i : ℕ) = r % 512) :
    val_main_v18 (F := Ideal) x0 x1 x2 x3 x4 (ix3 e r d)
      = (∑ f : Fin 2048, hidden x0 x1 x2 b e i f * x3 (ix4 3 e f d)) * x4 (ix3 b e i) := by
  have eb : b = ⟨r / 512, by omega⟩ := Fin.ext hb
  have ei : i = ⟨r % 512, by omega⟩ := Fin.ext hi
  unfold val_main_v18 val_main_v17 val_main_v16 val_main_v15 val_main_v14 val_main_v13 val_main_v12 val_main_v11 val_main_v10 val_main_v9
    val_main_v8 val_main_call0_v5 val_main_call0_v4 val_main_call0_v3 val_main_call0_v2 val_main_call0_v1 val_main_call0_v0
    val_main_call0_cst val_main_call0_cst_0 val_main_v7 val_main_v6 val_main_v5 val_main_v4 val_main_v3 val_main_v2 val_main_v1 val_main_v0
  pointwise [eb, ei]
  refine Ideal.mul_congr (Finset.sum_congr rfl fun f _ => ?_) rfl
  rw [mul_comm (x3 _)]
  simp only [hidden, proj, mul_comm (x1 _), mul_comm (x2 _)]
  rfl

end Cert.Reference2Ideal.Ffn

end
-- ==== Proof.FfnValue.lean ====
/- The expert feed-forward's value: the four slices of the hidden width, accumulated in the output's block and gated at the
   last, are the reference's one contraction. -/
module

public import proofs.«01_k».proof.Proof.FfnPoint
public import proofs.«01_k».proof.Proof.FfnRef

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- The arguments at their plain types: the gathered tokens, the three expert matrices, the gates. -/
abbrev argX (c : Dev nD) : FVec Ideal S4x16x512x1024 .f32 := m ((c : Thread nD τ).loc main_arg0)
abbrev argWg (c : Dev nD) : FVec Ideal S4x16x1024x2048 .f32 := m ((c : Thread nD τ).loc main_arg1)
abbrev argWu (c : Dev nD) : FVec Ideal S4x16x1024x2048 .f32 := m ((c : Thread nD τ).loc main_arg2)
abbrev argWd (c : Dev nD) : FVec Ideal S4x16x2048x1024 .f32 := m ((c : Thread nD τ).loc main_arg3)
abbrev argG (c : Dev nD) : FVec Ideal S4x16x512 .f32 := m ((c : Thread nD τ).loc main_arg4)

theorem xAt (c : Dev nD) (t : Fin cfg0.N) (r : Fin 2048) (k : Fin 1024) (b : Fin 4) (e : Fin 16) (i : Fin 512)
    (hb : (b : ℕ) = r / 512) (he : (e : ℕ) = t.val / 4) (hi : (i : ℕ) = r % 512) :
    iblk m c 0 t (ix3 0 r k) = argX m c (ix4 b e i k) := by
  blk_simp [iblk]
  entry_read
  pointwise []
  blk_ext [idx_val t]

theorem wgAt (c : Dev nD) (t : Fin cfg0.N) (k : Fin 1024) (f : Fin 512) (e : Fin 16) (g : Fin 2048) (he : (e : ℕ) = t.val / 4)
    (hg : (g : ℕ) = t.val % 4 * 512 + f) : iblk m c 1 t (ix4 0 0 k f) = argWg m c (ix4 3 e k g) := by
  blk_simp [iblk]
  entry_read
  blk_ext [idx_val t]

theorem wuAt (c : Dev nD) (t : Fin cfg0.N) (k : Fin 1024) (f : Fin 512) (e : Fin 16) (g : Fin 2048) (he : (e : ℕ) = t.val / 4)
    (hg : (g : ℕ) = t.val % 4 * 512 + f) : iblk m c 2 t (ix4 0 0 k f) = argWu m c (ix4 3 e k g) := by
  blk_simp [iblk]
  entry_read
  blk_ext [idx_val t]

theorem wdAt (c : Dev nD) (t : Fin cfg0.N) (f : Fin 512) (d : Fin 1024) (e : Fin 16) (g : Fin 2048) (he : (e : ℕ) = t.val / 4)
    (hg : (g : ℕ) = t.val % 4 * 512 + f) : iblk m c 3 t (ix4 0 0 f d) = argWd m c (ix4 3 e g d) := by
  blk_simp [iblk]
  entry_read
  blk_ext [idx_val t]

theorem gateAt (c : Dev nD) (t : Fin cfg0.N) (r : Fin 2048) (b : Fin 4) (e : Fin 16) (i : Fin 512)
    (hb : (b : ℕ) = r / 512) (he : (e : ℕ) = t.val / 4) (hi : (i : ℕ) = r % 512) :
    iblk m c 4 t (ix3 0 r 0) = argG m c (ix3 b e i) := by
  blk_simp [iblk]
  entry_read
  pointwise []
  blk_ext [idx_val t]

/-- The reference's term of hidden column `g`. -/
abbrev term (c : Dev nD) (b : Fin 4) (e : Fin 16) (i : Fin 512) (d : Fin 1024) (g : Fin 2048) : EReal :=
  Cert.Reference2Ideal.Ffn.hidden (argX m c) (argWg m c) (argWu m c) b e i g * argWd m c (ix4 3 e g d)

/-- A grid point's term is the reference's terms of the point's slice of the hidden width. -/
theorem partAt (c : Dev nD) (t : Fin cfg0.N) (r : Fin 2048) (d : Fin 1024) (b : Fin 4) (e : Fin 16) (i : Fin 512) (s : Fin 4)
    (hb : (b : ℕ) = r / 512) (he : (e : ℕ) = t.val / 4) (hi : (i : ℕ) = r % 512) (hs : (s : ℕ) = t.val % 4) :
    part (iblk m c 0 t) (iblk m c 1 t) (iblk m c 2 t) (iblk m c 3 t) r d = ∑ f : Fin 512, term m c b e i d ⟨s * 512 + f, by omega⟩ := by
  refine Finset.sum_congr rfl fun f _ => ?_
  simp only [projB, xAt m c t r _ b e i hb he hi, wgAt m c t _ f e ⟨s * 512 + f, by omega⟩ he (by simp only [hs]),
    wuAt m c t _ f e ⟨s * 512 + f, by omega⟩ he (by simp only [hs]), wdAt m c t f d e ⟨s * 512 + f, by omega⟩ he (by simp only [hs])]

/-- At the last point of a run of four the block holds the gated sum of the run's four terms. -/
theorem point (c : Dev nD) (t : Fin cfg0.N) (h3 : t.val % 4 = 3) (y : S1x2048x1024.Idx) (j : S16x2048x1024.Idx)
    (hj0 : (j 0 : ℕ) = t.val / 4) (hj1 : (j 1 : ℕ) = y 1) (hj2 : (j 2 : ℕ) = y 2) :
    outsAt0 m c t.val t.isLt y
      = Cert.Reference2Ideal.Read.val_main_v18 (F := Ideal) (argX m c) (argWg m c) (argWu m c) (argWd m c) (argG m c) j := by
  have ht : t.val < 64 := lt_of_lt_of_eq t.isLt N_0
  idx_vars y
  idx_vars j
  obtain rfl : j1 = y1 := Fin.ext hj1
  obtain rfl : j2 = y2 := Fin.ext hj2
  obtain rfl : y0 = 0 := Subsingleton.elim _ _
  have hr : (j1 : ℕ) < 2048 := j1.isLt
  rw [Cert.Reference2Ideal.Ffn.out _ _ _ _ _ j0 j1 j2 ⟨j1 / 512, by omega⟩ ⟨j1 % 512, by omega⟩ rfl rfl, lastAt m c t h3,
    nextAt m c ⟨t.val - 1, by omega⟩ (by simp only []; omega) (by simp only []; omega),
    nextAt m c ⟨t.val - 1 - 1, by omega⟩ (by simp only []; omega) (by simp only []; omega),
    firstAt m c ⟨t.val - 1 - 1 - 1, by omega⟩ (by simp only []; omega),
    gateAt m c t j1 ⟨j1 / 512, by omega⟩ j0 ⟨j1 % 512, by omega⟩ rfl hj0 rfl]
  refine Ideal.mul_congr ?_ rfl
  rw [partAt m c t j1 j2 ⟨j1 / 512, by omega⟩ j0 ⟨j1 % 512, by omega⟩ 3 rfl hj0 rfl h3.symm,
    partAt m c ⟨t.val - 1, by omega⟩ j1 j2 ⟨j1 / 512, by omega⟩ j0 ⟨j1 % 512, by omega⟩ 2 rfl (by simp only []; omega) rfl (by simp only []; omega),
    partAt m c ⟨t.val - 1 - 1, by omega⟩ j1 j2 ⟨j1 / 512, by omega⟩ j0 ⟨j1 % 512, by omega⟩ 1 rfl (by simp only []; omega) rfl (by simp only []; omega),
    partAt m c ⟨t.val - 1 - 1 - 1, by omega⟩ j1 j2 ⟨j1 / 512, by omega⟩ j0 ⟨j1 % 512, by omega⟩ 0 rfl (by simp only []; omega) rfl (by simp only []; omega)]
  refine (Fin.sum_univ_four (fun s : Fin 4 => ∑ f : Fin 512, term m c _ j0 _ j2 ⟨s * 512 + f, by omega⟩)).symm.trans ?_
  exact Fin.sum_mul_add_congr fun s k hl => rfl

/-- The kernel's result array is the reference's. -/
theorem final (c : Dev nD) : (dats m 0 c).arrAt 5 (cfgs 0).N
    = Cert.Reference2Ideal.Read.val_main_v18 (F := Ideal) (argX m c) (argWg m c) (argWu m c) (argWd m c) (argG m c) := by
  refine (dats m 0 c).arrAt_eq_of_covers 5 _ (by decide +kernel) fun t hf y => ?_
  blk_simp
  rw [after0_5]
  refine point m c t ((flush0_5 t).mp hf) y _ ?_ ?_ ?_
  all_goals (blk_simp [idx_val t] <;> try omega)

end Cert.Kernel2Ideal.Ffn

end
-- ==== Proof.RowNorm.lean ====
/- A row's layer norm over the extended reals, as both the kernels and the references compute it. -/
module

public import Idealize.ShloMosaic.PureOps
public import Idealize.ShloMosaic.Lib.Pointwise

@[expose] public section

noncomputable section

namespace Cert.RowNorm

open Idealize.ShloMosaic

/-- A row's mean, the divisor given as the 32-bit word the programs hold. -/
def mean {n : ℕ} (w : BitVec 32) (t : Fin n → EReal) : EReal := Ideal.div (∑ k, t k) (Ideal.ofBits .f32 w)

/-- Entry `j` of a row's layer norm with weight `g` and offset `b`. -/
def lnorm {n : ℕ} (w : BitVec 32) (t : Fin n → EReal) (g b : EReal) (j : Fin n) : EReal :=
  (t j - mean w t) * Ideal.rsqrt (mean w (fun k => (t k - mean w t) * (t k - mean w t)) + Ideal.ofBits .f32 0x3727C5AC#32) * g + b

/-- One entry of the sum a post-norm normalises: the stream scaled by the depth's constant and the gated update. -/
def postSum (x gate y : EReal) : EReal := Ideal.ofBits .f32 0x3FD744FD#32 * x + gate * y

/-- One entry of a modulated row: the stream scaled by one plus the scale, and the shift added. -/
def modEntry (x shift scale : EReal) : EReal := x * (Ideal.ofBits .f32 0x3F800000#32 + scale) + shift

/-- A softmax's numerator: the exponential of what a logit lies below the largest. -/
def expEntry {n : ℕ} (z : Fin n → EReal) (e : Fin n) : EReal := Ideal.exp (z e - Finset.fold max ⊥ z Finset.univ)

/-- One entry of a softmax. -/
def softEntry {n : ℕ} (z : Fin n → EReal) (e : Fin n) : EReal := Ideal.div (expEntry z e) (∑ e, expEntry z e)

theorem zero3 : (![0, 0, 0] : Fin 3 → ℕ) = fun _ => 0 := funext fun a => by fin_cases a <;> rfl

theorem zero2 : (![0, 0] : Fin 2 → ℕ) = fun _ => 0 := funext fun a => by fin_cases a <;> rfl

end Cert.RowNorm

end
-- ==== Proof.PostnormValue.lean ====
/- The post-norm after the experts: the kernel's array is the reference's. -/
module

public import proofs.«01_k».proof.Proof.Gen.Kernel3Ideal.Value
public import proofs.«01_k».proof.Proof.Gen.Reference3Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference3Ideal.Postnorm

open Cert.Reference3Ideal Cert.Reference3Ideal.Gen Cert.Reference3Ideal.Read Idealize.ShloMosaic Idealize.SL.Sem
open Cert.RowNorm

/-- The reference at an index. -/
theorem out (x0 x1 : FVec Ideal S4x4096x1024 .f32) (x2 : FVec Ideal S4x1x1024 .f32) (x3 x4 : FVec Ideal S4x2x1024 .f32)
    (b : Fin 4) (l : Fin 4096) (d : Fin 1024) :
    val_main_v32 (F := Ideal) x0 x1 x2 x3 x4 (ix3 b l d)
      = lnorm 0x44800000#32 (fun k => postSum (x1 (ix3 b l k)) (x2 (ix3 b 0 k)) (x0 (ix3 b l k))) (x3 (ix3 3 1 d)) (x4 (ix3 3 1 d)) d := by
  unfold val_main_v32 val_main_v31 val_main_v30 val_main_v29 val_main_v28 val_main_v27 val_main_v26 val_main_v25 val_main_v24 val_main_v23
    val_main_v22 val_main_cst_4 val_main_v21 val_main_v20 val_main_v19 val_main_v18 val_main_cst_3 val_main_v17 val_main_v16
    val_main_cst_2 val_main_v15 val_main_v14 val_main_v13 val_main_v12 val_main_v11 val_main_cst_1 val_main_v10 val_main_v9
    val_main_cst_0 val_main_v8 val_main_v7 val_main_v6 val_main_cst val_main_v5 val_main_v4 val_main_v3 val_main_v2 val_main_v1
    val_main_v0
  pointwise [lnorm, mean, postSum]

end Cert.Reference3Ideal.Postnorm

namespace Cert.Kernel3Ideal.Postnorm

open Cert.Kernel3Ideal Cert.Kernel3Ideal.Gen Idealize.ShloMosaic Idealize.ShloMosaic.TcCoe Idealize.SL.Sem
open Cert.RowNorm

variable (m : (ℓ : Loc nD τ sig) → Buf (Elt Ideal) ℓ)

/-- The arguments at their plain types: the update, the stream, the gates, the norm's weights and offsets. -/
abbrev argY (c : Dev nD) : FVec Ideal S4x4096x1024 .f32 := m ((c : Thread nD τ).loc main_arg0)
abbrev argX (c : Dev nD) : FVec Ideal S4x4096x1024 .f32 := m ((c : Thread nD τ).loc main_arg1)
abbrev argGate (c : Dev nD) : FVec Ideal S4x1x1024 .f32 := m ((c : Thread nD τ).loc main_arg2)
abbrev argG (c : Dev nD) : FVec Ideal S4x2x1024 .f32 := m ((c : Thread nD τ).loc main_arg3)
abbrev argB (c : Dev nD) : FVec Ideal S4x2x1024 .f32 := m ((c : Thread nD τ).loc main_arg4)

/-- The block each window holds: batch entry `t / 8`, rows `t % 8`. -/
theorem idx_val : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0]
    ∧ win0_5.index t = ![t.val / 8, t.val % 8, 0] :=
  (by decide +kernel : ∀ t : Fin grid0.N, _)

theorem yAt (c : Dev nD) (t : Fin cfg0.N) (r : Fin 512) (k : Fin 1024) (b : Fin 4) (l : Fin 4096) (hb : (b : ℕ) = t.val / 8)
    (hl : (l : ℕ) = t.val % 8 * 512 + r) : iblk m c 0 t (ix3 0 r k) = argY m c (ix3 b l k) := by
  blk_simp [iblk]
  entry_read
  blk_ext [idx_val t]

theorem xAt (c : Dev nD) (t : Fin cfg0.N) (r : Fin 512) (k : Fin 1024) (b : Fin 4) (l : Fin 4096) (hb : (b : ℕ) = t.val / 8)
    (hl : (l : ℕ) = t.val % 8 * 512 + r) : iblk m c 1 t (ix3 0 r k) = argX m c (ix3 b l k) := by
  blk_simp [iblk]
  entry_read
  blk_ext [idx_val t]

theorem gateAt (c : Dev nD) (t : Fin cfg0.N) (k : Fin 1024) (b : Fin 4) (hb : (b : ℕ) = t.val / 8) :
    iblk m c 2 t (ix3 0 0 k) = argGate m c (ix3 b 0 k) := by
  blk_simp [iblk]
  entry_read
  blk_ext [idx_val t]

theorem gAt (c : Dev nD) (t : Fin cfg0.N) (k : Fin 1024) : iblk m c 3 t (ix2 0 k) = argG m c (ix3 3 1 k) := by
  blk_simp [iblk]
  entry_read
  pointwise []
  blk_ext [idx_val t]

theorem bAt (c : Dev nD) (t : Fin cfg0.N) (k : Fin 1024) : iblk m c 4 t (ix2 0 k) = argB m c (ix3 3 1 k) := by
  blk_simp [iblk]
  entry_read
  pointwise []
  blk_ext [idx_val t]

/-- What one grid point stores, from its blocks. -/
theorem stored (y x : FVec Ideal S1x512x1024 .f32) (gate : FVec Ideal S1x1x1024 .f32) (g b : FVec Ideal S1x1024 .f32) (r : Fin 512) (d : Fin 1024) :
    out0_5 (F := Ideal) y x gate g b (ix3 0 r d)
      = lnorm 0x44800000#32 (fun k => postSum (x (ix3 0 r k)) (gate (ix3 0 0 k)) (y (ix3 0 r k))) (g (ix2 0 d)) (b (ix2 0 d)) d := by
  unfold out0_5
  rw [View.canon_unit_zero zero3]
  rw [View.ld_unit_zero zero3, View.ld_unit_zero zero3, View.ld_unit_zero zero3, View.ld_unit_zero zero2, View.ld_unit_zero zero2]
  pointwise [k0_pay1, k0_pay2, lnorm, mean, postSum]

/-- One element of a grid point's block is the reference's element there. -/
theorem point (c : Dev nD) (t : Fin cfg0.N) (y : S1x512x1024.Idx) (j : S4x4096x1024.Idx) (hj0 : (j 0 : ℕ) = t.val / 8)
    (hj1 : (j 1 : ℕ) = t.val % 8 * 512 + y 1) (hj2 : (j 2 : ℕ) = y 2) :
    out0_5 (F := Ideal) (iblk m c 0 t) (iblk m c 1 t) (iblk m c 2 t) (iblk m c 3 t) (iblk m c 4 t) y
      = Cert.Reference3Ideal.Read.val_main_v32 (F := Ideal) (argY m c) (argX m c) (argGate m c) (argG m c) (argB m c) j := by
  idx_vars y
  idx_vars j
  obtain rfl : j2 = y2 := Fin.ext hj2
  obtain rfl : y0 = 0 := Subsingleton.elim _ _
  refine (stored _ _ _ _ _ y1 j2).trans (Eq.trans ?_ (Cert.Reference3Ideal.Postnorm.out _ _ _ _ _ j0 j1 j2).symm)
  rw [gAt, bAt]
  refine congrArg (fun f => lnorm _ f _ _ _) (funext fun k => ?_)
  rw [yAt m c t y1 k j0 j1 hj0 hj1, xAt m c t y1 k j0 j1 hj0 hj1, gateAt m c t k j0 hj0]

/-- The kernel's result array is the reference's. -/
theorem final (c : Dev nD) : (dats m 0 c).arrAt 5 (cfgs 0).N
    = Cert.Reference3Ideal.Read.val_main_v32 (F := Ideal) (argY m c) (argX m c) (argGate m c) (argG m c) (argB m c) := by
  refine (dats m 0 c).arrAt_eq_of_covers 5 _ (by decide +kernel) fun t _ y => ?_
  blk_simp
  rw [after0_5]
  refine point m c t y _ ?_ ?_ ?_
  all_goals (blk_simp [idx_val t] <;> try omega)

end Cert.Kernel3Ideal.Postnorm

end
-- ==== Proof.ModMatmulValue.lean ====
/- The Hyena mixer's input projection: the kernel's array is the reference's. -/
module

public import proofs.«01_k».proof.Proof.Gen.Kernel4Ideal.Value
public import proofs.«01_k».proof.Proof.Gen.Reference4Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference4Ideal.ModMatmul

open Cert.Reference4Ideal Cert.Reference4Ideal.Gen Cert.Reference4Ideal.Read Idealize.ShloMosaic Idealize.SL.Sem
open Cert.RowNorm

/-- The reference at an index. -/
theorem out (x0 : FVec Ideal S4x4096x1024 .f32) (x1 x2 : FVec Ideal S4x1x1024 .f32) (x3 : FVec Ideal S2x1024x3072 .f32)
    (b : Fin 4) (l : Fin 4096) (d : Fin 3072) :
    val_main_v8 (F := Ideal) x0 x1 x2 x3 (ix3 b l d)
      = ∑ k : Fin 1024, modEntry (x0 (ix3 b l k)) (x1 (ix3 b 0 k)) (x2 (ix3 b 0 k)) * x3 (ix3 1 k d) := by
  unfold val_main_v8 val_main_v7 val_main_v6 val_main_v5 val_main_v4 val_main_v3 val_main_v2 val_main_v1 val_main_v0 val_main_cst
  pointwise [modEntry]

end Cert.Reference4Ideal.ModMatmul

namespace Cert.Kernel4Ideal.ModMatmul

open Cert.Kernel4Ideal Cert.Kernel4Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the projection's weights. -/
abbrev argX (c : Dev nD) : FVec Ideal S4x4096x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S2x1024x3072 .f32 := m ((c : Thread nD τ).loc main_arg3)

/-- The block each window holds: batch entry `t / 16`, rows `t % 16`. -/
theorem idx_val : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_4.index t = ![t.val / 16, t.val % 16, 0] :=
  (by decide +kernel : ∀ t : Fin grid0.N, _)

theorem xAt (c : Dev nD) (t : Fin cfg0.N) (r : Fin 256) (k : Fin 1024) (b : Fin 4) (l : Fin 4096) (hb : (b : ℕ) = t.val / 16)
    (hl : (l : ℕ) = t.val % 16 * 256 + r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val / 16) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val / 16) :
    iblk m c 2 t (ix3 0 0 k) = argScale m c (ix3 b 0 k) := by
  blk_simp [iblk]
  entry_read
  blk_ext [idx_val t]

theorem wAt (c : Dev nD) (t : Fin cfg0.N) (k : Fin 1024) (d : Fin 3072) :
    iblk m c 3 t (ix2 k d) = argW m c (ix3 1 k d) := by
  blk_simp [iblk]
  entry_read
  pointwise []
  blk_ext [idx_val t]

/-- What one grid point stores, from its blocks. -/
theorem stored (x : FVec Ideal S1x256x1024 .f32) (shift scale : FVec Ideal S1x1x1024 .f32) (w : FVec Ideal S1024x3072 .bf16)
    (r : Fin 256) (d : Fin 3072) :
    out0_4 (F := Ideal) x shift scale w (ix3 0 r d)
      = ∑ k : Fin 1024, modEntry (x (ix3 0 r k)) (shift (ix3 0 0 k)) (scale (ix3 0 0 k)) * w (ix2 k d) := by
  unfold out0_4
  rw [View.canon_unit_zero zero3]
  rw [View.ld_unit_zero zero3, View.ld_unit_zero zero3, View.ld_unit_zero zero3, View.ld_unit_zero zero2]
  pointwise [k0_pay1, modEntry]

/-- One element of a grid point's block is the reference's element there. -/
theorem point (c : Dev nD) (t : Fin cfg0.N) (y : S1x256x3072.Idx) (j : S4x4096x3072.Idx) (hj0 : (j 0 : ℕ) = t.val / 16)
    (hj1 : (j 1 : ℕ) = t.val % 16 * 256 + y 1) (hj2 : (j 2 : ℕ) = y 2) :
    out0_4 (F := Ideal) (iblk m c 0 t) (iblk m c 1 t) (iblk m c 2 t) (iblk m c 3 t) y
      = Cert.Reference4Ideal.Read.val_main_v8 (F := Ideal) (argX m c) (argShift m c) (argScale m c) (argW m c) j := by
  idx_vars y
  idx_vars j
  obtain rfl : j2 = y2 := Fin.ext hj2
  obtain rfl : y0 = 0 := Subsingleton.elim _ _
  refine (stored _ _ _ _ y1 j2).trans (Eq.trans ?_ (Cert.Reference4Ideal.ModMatmul.out _ _ _ _ j0 j1 j2).symm)
  refine Finset.sum_congr rfl fun k _ => ?_
  rw [xAt m c t y1 k j0 j1 hj0 hj1, shiftAt m c t k j0 hj0, scaleAt m c t k j0 hj0, wAt m c t k j2]

/-- The kernel's result array is the reference's. -/
theorem final (c : Dev nD) : (dats m 0 c).arrAt 4 (cfgs 0).N
    = Cert.Reference4Ideal.Read.val_main_v8 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

end Cert.Kernel4Ideal.ModMatmul

end
-- ==== Proof.MatmulPostnormValue.lean ====
/- The Hyena mixer's output projection and the norm after it: the kernel's array is the reference's. -/
module

public import proofs.«01_k».proof.Proof.Gen.Kernel5Ideal.Value
public import proofs.«01_k».proof.Proof.Gen.Reference5Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference5Ideal.MatmulPostnorm

open Cert.Reference5Ideal Cert.Reference5Ideal.Gen Cert.Reference5Ideal.Read Idealize.ShloMosaic Idealize.SL.Sem
open Cert.RowNorm

/-- One entry of the projection. -/
theorem proj (x0 : FVec Ideal S4x4096x1024 .f32) (x1 : FVec Ideal S2x1024x1024 .f32) (b : Fin 4) (l : Fin 4096) (d : Fin 1024) :
    val_main_v2 (F := Ideal) x0 x1 (ix3 b l d) = ∑ k : Fin 1024, x0 (ix3 b l k) * x1 (ix3 1 k d) := by
  unfold val_main_v2 val_main_v1 val_main_v0
  pointwise []

/-- The reference at an index. -/
theorem out (x0 : FVec Ideal S4x4096x1024 .f32) (x1 : FVec Ideal S2x1024x1024 .f32) (x2 : FVec Ideal S4x4096x1024 .f32)
    (x3 : FVec Ideal S4x1x1024 .f32) (x4 x5 : FVec Ideal S4x2x1024 .f32) (b : Fin 4) (l : Fin 4096) (d : Fin 1024) :
    val_main_v35 (F := Ideal) x0 x1 x2 x3 x4 x5 (ix3 b l d)
      = lnorm 0x44800000#32 (fun k => postSum (x2 (ix3 b l k)) (x3 (ix3 b 0 k)) (∑ i : Fin 1024, x0 (ix3 b l i) * x1 (ix3 1 i k)))
          (x4 (ix3 3 0 d)) (x5 (ix3 3 0 d)) d := by
  unfold val_main_v35 val_main_v34 val_main_v33 val_main_v32 val_main_v31 val_main_v30 val_main_v29 val_main_v28 val_main_v27 val_main_v26
    val_main_v25 val_main_cst_4 val_main_v24 val_main_v23 val_main_v22 val_main_v21 val_main_cst_3 val_main_v20 val_main_v19
    val_main_cst_2 val_main_v18 val_main_v17 val_main_v16 val_main_v15 val_main_v14 val_main_cst_1 val_main_v13 val_main_v12
    val_main_cst_0 val_main_v11 val_main_v10 val_main_v9 val_main_cst val_main_v8 val_main_v7 val_main_v6 val_main_v5 val_main_v4
    val_main_v3
  simp only [← proj]
  pointwise [lnorm, mean, postSum]

end Cert.Reference5Ideal.MatmulPostnorm

namespace Cert.Kernel5Ideal.MatmulPostnorm

open Cert.Kernel5Ideal Cert.Kernel5Ideal.Gen Idealize.ShloMosaic Idealize.ShloMosaic.TcCoe Idealize.SL.Sem
open Cert.RowNorm

variable (m : (ℓ : Loc nD τ sig) → Buf (Elt Ideal) ℓ)

/-- The arguments at their plain types: the mixed rows, the projection's weights, the stream, the gates, the norm's weights and offsets. -/
abbrev argZ (c : Dev nD) : FVec Ideal S4x4096x1024 .f32 := m ((c : Thread nD τ).loc main_arg0)
abbrev argW (c : Dev nD) : FVec Ideal S2x1024x1024 .f32 := m ((c : Thread nD τ).loc main_arg1)
abbrev argX (c : Dev nD) : FVec Ideal S4x4096x1024 .f32 := m ((c : Thread nD τ).loc main_arg2)
abbrev argGate (c : Dev nD) : FVec Ideal S4x1x1024 .f32 := m ((c : Thread nD τ).loc main_arg3)
abbrev argG (c : Dev nD) : FVec Ideal S4x2x1024 .f32 := m ((c : Thread nD τ).loc main_arg4)
abbrev argB (c : Dev nD) : FVec Ideal S4x2x1024 .f32 := m ((c : Thread nD τ).loc main_arg5)

/-- The block each window holds: batch entry `t / 8`, rows `t % 8`. -/
theorem idx_val : ∀ t : Fin cfg0.N, win0_0.index t = ![t.val / 8, t.val % 8, 0] ∧ win0_1.index t = ![0, 0]
    ∧ win0_2.index t = ![t.val / 8, t.val % 8, 0] ∧ win0_3.index t = ![t.val / 8, 0, 0] ∧ win0_4.index t = ![0, 0]
    ∧ win0_5.index t = ![0, 0] ∧ win0_6.index t = ![t.val / 8, t.val % 8, 0] :=
  (by decide +kernel : ∀ t : Fin grid0.N, _)

theorem zAt (c : Dev nD) (t : Fin cfg0.N) (r : Fin 512) (k : Fin 1024) (b : Fin 4) (l : Fin 4096) (hb : (b : ℕ) = t.val / 8)
    (hl : (l : ℕ) = t.val % 8 * 512 + r) :
    iblk m c 0 t (ix3 0 r k) = argZ m c (ix3 b l k) := by
  blk_simp [iblk]
  entry_read
  blk_ext [idx_val t]

theorem wAt (c : Dev nD) (t : Fin cfg0.N) (k : Fin 1024) (d : Fin 1024) :
    iblk m c 1 t (ix2 k d) = argW m c (ix3 1 k d) := by
  blk_simp [iblk]
  entry_read
  pointwise []
  blk_ext [idx_val t]

theorem xAt (c : Dev nD) (t : Fin cfg0.N) (r : Fin 512) (k : Fin 1024) (b : Fin 4) (l : Fin 4096) (hb : (b : ℕ) = t.val / 8)
    (hl : (l : ℕ) = t.val % 8 * 512 + r) :
    iblk m c 2 t (ix3 0 r k) = argX m c (ix3 b l k) := by
  blk_simp [iblk]
  entry_read
  blk_ext [idx_val t]

theorem gateAt (c : Dev nD) (t : Fin cfg0.N) (k : Fin 1024) (b : Fin 4) (hb : (b : ℕ) = t.val / 8) :
    iblk m c 3 t (ix3 0 0 k) = argGate m c (ix3 b 0 k) := by
  blk_simp [iblk]
  entry_read
  blk_ext [idx_val t]

theorem gAt (c : Dev nD) (t : Fin cfg0.N) (k : Fin 1024) :
    iblk m c 4 t (ix2 0 k) = argG m c (ix3 3 0 k) := by
  blk_simp [iblk]
  entry_read
  pointwise []
  blk_ext [idx_val t]

theorem bAt (c : Dev nD) (t : Fin cfg0.N) (k : Fin 1024) :
    iblk m c 5 t (ix2 0 k) = argB m c (ix3 3 0 k) := by
  blk_simp [iblk]
  entry_read
  pointwise []
  blk_ext [idx_val t]

/-- What one grid point stores, from its blocks. -/
theorem stored (z : FVec Ideal S1x512x1024 .f32) (w : FVec Ideal S1024x1024 .bf16) (x : FVec Ideal S1x512x1024 .f32)
    (gate : FVec Ideal S1x1x1024 .f32) (g b : FVec Ideal S1x1024 .f32) (r : Fin 512) (d : Fin 1024) :
    out0_6 (F := Ideal) z w x gate g b (ix3 0 r d)
      = lnorm 0x44800000#32 (fun k => postSum (x (ix3 0 r k)) (gate (ix3 0 0 k)) (∑ i : Fin 1024, z (ix3 0 r i) * w (ix2 i k)))
          (g (ix2 0 d)) (b (ix2 0 d)) d := by
  unfold out0_6
  rw [View.canon_unit_zero zero3]
  rw [View.ld_unit_zero zero2, View.ld_unit_zero zero3, View.ld_unit_zero zero2, View.ld_unit_zero zero3, View.ld_unit_zero zero3,
    View.ld_unit_zero zero2]
  pointwise [k0_pay1, k0_pay2, k0_pay3, k0_pay4, lnorm, mean, postSum]

/-- One element of a grid point's block is the reference's element there. -/
theorem point (c : Dev nD) (t : Fin cfg0.N) (y : S1x512x1024.Idx) (j : S4x4096x1024.Idx) (hj0 : (j 0 : ℕ) = t.val / 8)
    (hj1 : (j 1 : ℕ) = t.val % 8 * 512 + y 1) (hj2 : (j 2 : ℕ) = y 2) :
    out0_6 (F := Ideal) (iblk m c 0 t) (iblk m c 1 t) (iblk m c 2 t) (iblk m c 3 t) (iblk m c 4 t) (iblk m c 5 t) y
      = Cert.Reference5Ideal.Read.val_main_v35 (F := Ideal) (argZ m c) (argW m c) (argX m c) (argGate m c) (argG m c) (argB m c) j := by
  idx_vars y
  idx_vars j
  obtain rfl : j2 = y2 := Fin.ext hj2
  obtain rfl : y0 = 0 := Subsingleton.elim _ _
  refine (stored _ _ _ _ _ _ y1 j2).trans (Eq.trans ?_ (Cert.Reference5Ideal.MatmulPostnorm.out _ _ _ _ _ _ j0 j1 j2).symm)
  rw [gAt, bAt]
  refine congrArg (fun f => lnorm _ f _ _ _) (funext fun k => ?_)
  rw [xAt m c t y1 k j0 j1 hj0 hj1, gateAt m c t k j0 hj0]
  refine congrArg (postSum _ _) ?_
  refine Finset.sum_congr rfl fun i _ => ?_
  rw [zAt m c t y1 i j0 j1 hj0 hj1, wAt m c t i k]

/-- The kernel's result array is the reference's. -/
theorem final (c : Dev nD) : (dats m 0 c).arrAt 6 (cfgs 0).N
    = Cert.Reference5Ideal.Read.val_main_v35 (F := Ideal) (argZ m c) (argW m c) (argX m c) (argGate m c) (argG m c) (argB m c) := by
  refine (dats m 0 c).arrAt_eq_of_covers 6 _ (by decide +kernel) fun t _ y => ?_
  blk_simp
  rw [after0_6]
  refine point m c t y _ ?_ ?_ ?_
  all_goals (blk_simp [idx_val t] <;> try omega)

end Cert.Kernel5Ideal.MatmulPostnorm

end
-- ==== Proof.GmlpMix.lean ====
/- The gMLP kernel's spatial gate on one grid point's blocks: 2 chunks of 128 rows by 16 groups of 128 columns, each a
   product of the group's mixing weights with the chunk's rows, put together into one block. -/
module

public import proofs.«01_k».proof.Proof.Gen.Kernel6Ideal.Frame
public import proofs.«01_k».proof.Proof.RowNorm
public import Idealize.ShloMosaic.Lib.Pointwise
public import Idealize.ShloMosaic.Lib.Pipeline.ValueKit

@[expose] public section

set_option maxRecDepth 16384

noncomputable section

namespace Cert.Kernel6Ideal.Gmlp

open Cert.Kernel6Ideal Cert.Kernel6Ideal.Gen Idealize.ShloMosaic Idealize.ShloMosaic.TcCoe Idealize.SL.Sem
open Cert.RowNorm

/-- One entry of the spatial gate: chunk `h`, group `g`, row `t` of the chunk, column `e` of the group. -/
def mix (vn : FVec Ideal S256x2048 .bf16) (ws : FVec Ideal S16x128x128 .bf16) (bs : FVec Ideal S128x16 .f32) (h : Fin 2) (g : Fin 16)
    (t e : Fin 128) : EReal :=
  (∑ s : Fin 128, ws (ix3 g t s) * vn (ix2 ⟨h * 128 + s, by omega⟩ ⟨g * 128 + e, by omega⟩)) + bs (ix2 t g)

/-- One group's mixing weights as a square. -/
abbrev square (w : Vec Ideal S1x128x128 .bf16) : FVec Ideal S128x128 .bf16 := shapeCast S128x128 w shapeCasts_S1x128x128_S128x128

/-- Sixteen squares side by side, read at an entry: the square the column lies in. -/
theorem sideBySide (a0 a1 a2 a3 a4 a5 a6 a7 a8 a9 a10 a11 a12 a13 a14 a15 : FVec Ideal S128x128 .f32) (f : Fin 16 → Fin 128 → Fin 128 → EReal)
    (h0 : ∀ t e, a0 (ix2 t e) = f 0 t e)
    (h1 : ∀ t e, a1 (ix2 t e) = f 1 t e)
    (h2 : ∀ t e, a2 (ix2 t e) = f 2 t e)
    (h3 : ∀ t e, a3 (ix2 t e) = f 3 t e)
    (h4 : ∀ t e, a4 (ix2 t e) = f 4 t e)
    (h5 : ∀ t e, a5 (ix2 t e) = f 5 t e)
    (h6 : ∀ t e, a6 (ix2 t e) = f 6 t e)
    (h7 : ∀ t e, a7 (ix2 t e) = f 7 t e)
    (h8 : ∀ t e, a8 (ix2 t e) = f 8 t e)
    (h9 : ∀ t e, a9 (ix2 t e) = f 9 t e)
    (h10 : ∀ t e, a10 (ix2 t e) = f 10 t e)
    (h11 : ∀ t e, a11 (ix2 t e) = f 11 t e)
    (h12 : ∀ t e, a12 (ix2 t e) = f 12 t e)
    (h13 : ∀ t e, a13 (ix2 t e) = f 13 t e)
    (h14 : ∀ t e, a14 (ix2 t e) = f 14 t e)
    (h15 : ∀ t e, a15 (ix2 t e) = f 15 t e)
    (t : Fin 128) (c : Fin 2048) :
    concatenate S128x2048 1 [⟨S128x128, a0⟩, ⟨S128x128, a1⟩, ⟨S128x128, a2⟩, ⟨S128x128, a3⟩, ⟨S128x128, a4⟩, ⟨S128x128, a5⟩, ⟨S128x128, a6⟩, ⟨S128x128, a7⟩, ⟨S128x128, a8⟩, ⟨S128x128, a9⟩, ⟨S128x128, a10⟩, ⟨S128x128, a11⟩, ⟨S128x128, a12⟩, ⟨S128x128, a13⟩, ⟨S128x128, a14⟩, ⟨S128x128, a15⟩]
        concatenates_S128x128_S128x128_S128x128_S128x128_S128x128_S128x128_S128x128_S128x128_S128x128_S128x128_S128x128_S128x128_S128x128_S128x128_S128x128_S128x128_S128x2048_d1 (ix2 t c)
      = f ⟨c / 128, by omega⟩ t ⟨c % 128, by omega⟩ := by
  refine (concatenate_ofFn_apply 1 (![a0, a1, a2, a3, a4, a5, a6, a7, a8, a9, a10, a11, a12, a13, a14, a15] : Fin 16 → FVec Ideal S128x128 .f32)
    concatenates_S128x128_S128x128_S128x128_S128x128_S128x128_S128x128_S128x128_S128x128_S128x128_S128x128_S128x128_S128x128_S128x128_S128x128_S128x128_S128x128_S128x2048_d1
    rfl 128 rfl (ix2 t c) ⟨c / 128, by omega⟩ rfl (ix2 t ⟨c % 128, by omega⟩) rfl (fun b hb => ?_)).trans ?_
  · match b, hb with
    | ⟨0, _⟩, _ => rfl
    | ⟨1, _⟩, hb => exact absurd rfl hb
  · generalize (⟨c / 128, by omega⟩ : Fin 16) = g
    fin_cases g
    · exact h0 _ _
    · exact h1 _ _
    · exact h2 _ _
    · exact h3 _ _
    · exact h4 _ _
    · exact h5 _ _
    · exact h6 _ _
    · exact h7 _ _
    · exact h8 _ _
    · exact h9 _ _
    · exact h10 _ _
    · exact h11 _ _
    · exact h12 _ _
    · exact h13 _ _
    · exact h14 _ _
    · exact h15 _ _

variable (v27 v29 : FVec Ideal S1x2048 .f32) (v35 : FVec Ideal S256x2048 .f32)
variable (vn : FVec Ideal S256x2048 .bf16) (ws : FVec Ideal S16x128x128 .bf16) (bs : FVec Ideal S128x16 .f32) (t e : Fin 128)

/-! ### The first chunk's groups (the first three are read from the row norm's own terms) -/

theorem first0 : (k0_pay8 v27 v29 v35 (View.ld ws r0_4) (View.ld bs r0_5) : FVec Ideal S128x128 .f32) (ix2 t e) = mix (k0_pay7 (F := Ideal) v27 v29 v35) ws bs 0 0 t e := by
  pointwise [k0_pay7, k0_pay8, mix]

theorem first1 : (k0_pay9 v27 v29 v35 (View.ld ws r0_6) (View.ld bs r0_7) : FVec Ideal S128x128 .f32) (ix2 t e) = mix (k0_pay7 (F := Ideal) v27 v29 v35) ws bs 0 1 t e := by
  pointwise [k0_pay7, k0_pay9, mix]

theorem first2 : (k0_pay10 v27 v29 v35 (View.ld ws r0_8) (View.ld bs r0_9) : FVec Ideal S128x128 .f32) (ix2 t e) = mix (k0_pay7 (F := Ideal) v27 v29 v35) ws bs 0 2 t e := by
  pointwise [k0_pay7, k0_pay10, mix]

theorem first3 : (k0_pay11 vn (View.ld ws r0_10) (View.ld bs r0_11) : FVec Ideal S128x128 .f32) (ix2 t e) = mix vn ws bs 0 3 t e := by
  pointwise [k0_pay11, mix]

theorem first4 : (k0_pay12 vn (View.ld ws r0_12) (View.ld bs r0_13) : FVec Ideal S128x128 .f32) (ix2 t e) = mix vn ws bs 0 4 t e := by
  pointwise [k0_pay12, mix]

theorem first5 : (k0_pay13 vn (View.ld ws r0_14) (View.ld bs r0_15) : FVec Ideal S128x128 .f32) (ix2 t e) = mix vn ws bs 0 5 t e := by
  pointwise [k0_pay13, mix]

theorem first6 : (k0_pay14 vn (View.ld ws r0_16) (View.ld bs r0_17) : FVec Ideal S128x128 .f32) (ix2 t e) = mix vn ws bs 0 6 t e := by
  pointwise [k0_pay14, mix]

theorem first7 : (k0_pay16 (k0_pay15 vn) (View.ld ws r0_18) (View.ld bs r0_19) : FVec Ideal S128x128 .f32) (ix2 t e) = mix vn ws bs 0 7 t e := by
  pointwise [k0_pay15, k0_pay16, mix]

theorem first8 : (k0_pay17 vn (View.ld ws r0_20) (View.ld bs r0_21) : FVec Ideal S128x128 .f32) (ix2 t e) = mix vn ws bs 0 8 t e := by
  pointwise [k0_pay17, mix]

theorem first9 : (k0_pay18 vn (View.ld ws r0_22) (View.ld bs r0_23) : FVec Ideal S128x128 .f32) (ix2 t e) = mix vn ws bs 0 9 t e := by
  pointwise [k0_pay18, mix]

theorem first10 : (k0_pay19 vn (View.ld ws r0_24) (View.ld bs r0_25) : FVec Ideal S128x128 .f32) (ix2 t e) = mix vn ws bs 0 10 t e := by
  pointwise [k0_pay19, mix]

theorem first11 : (k0_pay21 (k0_pay20 vn (View.ld ws r0_26)) (View.ld bs r0_27) : FVec Ideal S128x128 .f32) (ix2 t e) = mix vn ws bs 0 11 t e := by
  pointwise [k0_pay20, k0_pay21, mix]

theorem first12 : (k0_pay22 vn (View.ld ws r0_28) (View.ld bs r0_29) : FVec Ideal S128x128 .f32) (ix2 t e) = mix vn ws bs 0 12 t e := by
  pointwise [k0_pay22, mix]

theorem first13 : (k0_pay23 vn (View.ld ws r0_30) (View.ld bs r0_31) : FVec Ideal S128x128 .f32) (ix2 t e) = mix vn ws bs 0 13 t e := by
  pointwise [k0_pay23, mix]

theorem first14 : (k0_pay24 vn (View.ld ws r0_32) (View.ld bs r0_33) : FVec Ideal S128x128 .f32) (ix2 t e) = mix vn ws bs 0 14 t e := by
  pointwise [k0_pay24, mix]

theorem first15 : (addf (k0_pay25 vn (View.ld ws r0_34)) (broadcastTo S128x128 (k0_pay26 (View.ld bs r0_35)) broadcasts_S128x1_S128x128) : FVec Ideal S128x128 .f32) (ix2 t e) = mix vn ws bs 0 15 t e := by
  pointwise [k0_pay25, k0_pay26, mix]

/-! ### The second chunk's groups -/

theorem second0 : (k0_pay28 vn (View.ld ws r0_4) (View.ld bs r0_5) : FVec Ideal S128x128 .f32) (ix2 t e) = mix vn ws bs 1 0 t e := by
  pointwise [k0_pay28, mix]

theorem second1 : (k0_pay29 vn (View.ld ws r0_6) (View.ld bs r0_7) : FVec Ideal S128x128 .f32) (ix2 t e) = mix vn ws bs 1 1 t e := by
  pointwise [k0_pay29, mix]

theorem second2 : (k0_pay30 vn (View.ld ws r0_8) (View.ld bs r0_9) : FVec Ideal S128x128 .f32) (ix2 t e) = mix vn ws bs 1 2 t e := by
  pointwise [k0_pay30, mix]

theorem second3 : (k0_pay31 vn (View.ld ws r0_10) (View.ld bs r0_11) : FVec Ideal S128x128 .f32) (ix2 t e) = mix vn ws bs 1 3 t e := by
  pointwise [k0_pay31, mix]

theorem second4 : (k0_pay33 (k0_pay32 vn) (View.ld ws r0_12) (View.ld bs r0_13) : FVec Ideal S128x128 .f32) (ix2 t e) = mix vn ws bs 1 4 t e := by
  pointwise [k0_pay32, k0_pay33, mix]

theorem second5 : (k0_pay34 vn (View.ld ws r0_14) (View.ld bs r0_15) : FVec Ideal S128x128 .f32) (ix2 t e) = mix vn ws bs 1 5 t e := by
  pointwise [k0_pay34, mix]

theorem second6 : (k0_pay35 vn (View.ld ws r0_16) (View.ld bs r0_17) : FVec Ideal S128x128 .f32) (ix2 t e) = mix vn ws bs 1 6 t e := by
  pointwise [k0_pay35, mix]

theorem second7 : (k0_pay36 vn (View.ld ws r0_18) (View.ld bs r0_19) : FVec Ideal S128x128 .f32) (ix2 t e) = mix vn ws bs 1 7 t e := by
  pointwise [k0_pay36, mix]

theorem second8 : (k0_pay38 (k0_pay37 vn) (View.ld ws r0_20) (View.ld bs r0_21) : FVec Ideal S128x128 .f32) (ix2 t e) = mix vn ws bs 1 8 t e := by
  pointwise [k0_pay37, k0_pay38, mix]

theorem second9 : (k0_pay39 vn (View.ld ws r0_22) (View.ld bs r0_23) : FVec Ideal S128x128 .f32) (ix2 t e) = mix vn ws bs 1 9 t e := by
  pointwise [k0_pay39, mix]

theorem second10 : (k0_pay40 vn (View.ld ws r0_24) (View.ld bs r0_25) : FVec Ideal S128x128 .f32) (ix2 t e) = mix vn ws bs 1 10 t e := by
  pointwise [k0_pay40, mix]

theorem second11 : (k0_pay41 vn (View.ld ws r0_26) (View.ld bs r0_27) : FVec Ideal S128x128 .f32) (ix2 t e) = mix vn ws bs 1 11 t e := by
  pointwise [k0_pay41, mix]

theorem second12 : (addf (k0_pay42 vn (View.ld ws r0_28)) (broadcastTo S128x128 (k0_pay26 (View.ld bs r0_29)) broadcasts_S128x1_S128x128) : FVec Ideal S128x128 .f32) (ix2 t e) = mix vn ws bs 1 12 t e := by
  pointwise [k0_pay42, k0_pay26, square, mix]

theorem second13 : (addf (matmul dot_S128x128_S128x128_S128x128_1_0_0_1_n_n none (square (View.ld ws r0_30))
      (extractStridedSlice S128x128 ![128, 1664] vn slices_S256x2048_o128_1664_S128x128) (constant S128x128 .f32 0x00000000#32)) (broadcastTo S128x128 (k0_pay26 (View.ld bs r0_31)) broadcasts_S128x1_S128x128) : FVec Ideal S128x128 .f32) (ix2 t e) = mix vn ws bs 1 13 t e := by
  pointwise [k0_pay26, square, mix]

theorem second14 : (addf (matmul dot_S128x128_S128x128_S128x128_1_0_0_1_n_n none (square (View.ld ws r0_32))
      (extractStridedSlice S128x128 ![128, 1792] vn slices_S256x2048_o128_1792_S128x128) (constant S128x128 .f32 0x00000000#32)) (broadcastTo S128x128 (k0_pay26 (View.ld bs r0_33)) broadcasts_S128x1_S128x128) : FVec Ideal S128x128 .f32) (ix2 t e) = mix vn ws bs 1 14 t e := by
  pointwise [k0_pay26, square, mix]

theorem second15 : (addf (matmul dot_S128x128_S128x128_S128x128_1_0_0_1_n_n none (square (View.ld ws r0_34))
      (extractStridedSlice S128x128 ![128, 1920] vn slices_S256x2048_o128_1920_S128x128) (constant S128x128 .f32 0x00000000#32)) (broadcastTo S128x128 (k0_pay26 (View.ld bs r0_35)) broadcasts_S128x1_S128x128) : FVec Ideal S128x128 .f32) (ix2 t e) = mix vn ws bs 1 15 t e := by
  pointwise [k0_pay26, square, mix]

/-! ### The chunks put together -/

/-- The first chunk's block. -/
theorem chunk0 (c : Fin 2048) :
    (k0_pay27 (k0_pay8 v27 v29 v35 (View.ld ws r0_4) (View.ld bs r0_5))
      (k0_pay9 v27 v29 v35 (View.ld ws r0_6) (View.ld bs r0_7))
      (k0_pay10 v27 v29 v35 (View.ld ws r0_8) (View.ld bs r0_9))
      (k0_pay11 (k0_pay7 v27 v29 v35) (View.ld ws r0_10) (View.ld bs r0_11))
      (k0_pay12 (k0_pay7 v27 v29 v35) (View.ld ws r0_12) (View.ld bs r0_13))
      (k0_pay13 (k0_pay7 v27 v29 v35) (View.ld ws r0_14) (View.ld bs r0_15))
      (k0_pay14 (k0_pay7 v27 v29 v35) (View.ld ws r0_16) (View.ld bs r0_17))
      (k0_pay16 (k0_pay15 (k0_pay7 v27 v29 v35)) (View.ld ws r0_18) (View.ld bs r0_19))
      (k0_pay17 (k0_pay7 v27 v29 v35) (View.ld ws r0_20) (View.ld bs r0_21))
      (k0_pay18 (k0_pay7 v27 v29 v35) (View.ld ws r0_22) (View.ld bs r0_23))
      (k0_pay19 (k0_pay7 v27 v29 v35) (View.ld ws r0_24) (View.ld bs r0_25))
      (k0_pay21 (k0_pay20 (k0_pay7 v27 v29 v35) (View.ld ws r0_26)) (View.ld bs r0_27))
      (k0_pay22 (k0_pay7 v27 v29 v35) (View.ld ws r0_28) (View.ld bs r0_29))
      (k0_pay23 (k0_pay7 v27 v29 v35) (View.ld ws r0_30) (View.ld bs r0_31))
      (k0_pay24 (k0_pay7 v27 v29 v35) (View.ld ws r0_32) (View.ld bs r0_33))
      (k0_pay25 (k0_pay7 v27 v29 v35) (View.ld ws r0_34))
      (k0_pay26 (View.ld bs r0_35)) : FVec Ideal S128x2048 .f32) (ix2 t c)
      = mix (k0_pay7 (F := Ideal) v27 v29 v35) ws bs 0 ⟨c / 128, by omega⟩ t ⟨c % 128, by omega⟩ := by
  unfold k0_pay27
  exact sideBySide _ _ _ _ _ _ _ _ _ _ _ _ _ _ _ _ (mix (k0_pay7 (F := Ideal) v27 v29 v35) ws bs 0)
    (first0 v27 v29 v35 ws bs)
    (first1 v27 v29 v35 ws bs)
    (first2 v27 v29 v35 ws bs)
    (first3 _ ws bs)
    (first4 _ ws bs)
    (first5 _ ws bs)
    (first6 _ ws bs)
    (first7 _ ws bs)
    (first8 _ ws bs)
    (first9 _ ws bs)
    (first10 _ ws bs)
    (first11 _ ws bs)
    (first12 _ ws bs)
    (first13 _ ws bs)
    (first14 _ ws bs)
    (first15 _ ws bs) t c

/-- The second chunk's block. -/
abbrev chunk : FVec Ideal S128x2048 .f32 :=
  concatenate S128x2048 1 [⟨S128x128, (k0_pay28 vn (View.ld ws r0_4) (View.ld bs r0_5))⟩,
    ⟨S128x128, (k0_pay29 vn (View.ld ws r0_6) (View.ld bs r0_7))⟩,
    ⟨S128x128, (k0_pay30 vn (View.ld ws r0_8) (View.ld bs r0_9))⟩,
    ⟨S128x128, (k0_pay31 vn (View.ld ws r0_10) (View.ld bs r0_11))⟩,
    ⟨S128x128, (k0_pay33 (k0_pay32 vn) (View.ld ws r0_12) (View.ld bs r0_13))⟩,
    ⟨S128x128, (k0_pay34 vn (View.ld ws r0_14) (View.ld bs r0_15))⟩,
    ⟨S128x128, (k0_pay35 vn (View.ld ws r0_16) (View.ld bs r0_17))⟩,
    ⟨S128x128, (k0_pay36 vn (View.ld ws r0_18) (View.ld bs r0_19))⟩,
    ⟨S128x128, (k0_pay38 (k0_pay37 vn) (View.ld ws r0_20) (View.ld bs r0_21))⟩,
    ⟨S128x128, (k0_pay39 vn (View.ld ws r0_22) (View.ld bs r0_23))⟩,
    ⟨S128x128, (k0_pay40 vn (View.ld ws r0_24) (View.ld bs r0_25))⟩,
    ⟨S128x128, (k0_pay41 vn (View.ld ws r0_26) (View.ld bs r0_27))⟩,
    ⟨S128x128, (addf (k0_pay42 vn (View.ld ws r0_28)) (broadcastTo S128x128 (k0_pay26 (View.ld bs r0_29)) broadcasts_S128x1_S128x128))⟩,
    ⟨S128x128, (addf (matmul dot_S128x128_S128x128_S128x128_1_0_0_1_n_n none (square (View.ld ws r0_30))
      (extractStridedSlice S128x128 ![128, 1664] vn slices_S256x2048_o128_1664_S128x128) (constant S128x128 .f32 0x00000000#32)) (broadcastTo S128x128 (k0_pay26 (View.ld bs r0_31)) broadcasts_S128x1_S128x128))⟩,
    ⟨S128x128, (addf (matmul dot_S128x128_S128x128_S128x128_1_0_0_1_n_n none (square (View.ld ws r0_32))
      (extractStridedSlice S128x128 ![128, 1792] vn slices_S256x2048_o128_1792_S128x128) (constant S128x128 .f32 0x00000000#32)) (broadcastTo S128x128 (k0_pay26 (View.ld bs r0_33)) broadcasts_S128x1_S128x128))⟩,
    ⟨S128x128, (addf (matmul dot_S128x128_S128x128_S128x128_1_0_0_1_n_n none (square (View.ld ws r0_34))
      (extractStridedSlice S128x128 ![128, 1920] vn slices_S256x2048_o128_1920_S128x128) (constant S128x128 .f32 0x00000000#32)) (broadcastTo S128x128 (k0_pay26 (View.ld bs r0_35)) broadcasts_S128x1_S128x128))⟩]
    concatenates_S128x128_S128x128_S128x128_S128x128_S128x128_S128x128_S128x128_S128x128_S128x128_S128x128_S128x128_S128x128_S128x128_S128x128_S128x128_S128x128_S128x2048_d1

theorem chunk1 (c : Fin 2048) : chunk vn ws bs (ix2 t c) = mix vn ws bs 1 ⟨c / 128, by omega⟩ t ⟨c % 128, by omega⟩ :=
  sideBySide _ _ _ _ _ _ _ _ _ _ _ _ _ _ _ _ (mix vn ws bs 1)
    (second0 vn ws bs)
    (second1 vn ws bs)
    (second2 vn ws bs)
    (second3 vn ws bs)
    (second4 vn ws bs)
    (second5 vn ws bs)
    (second6 vn ws bs)
    (second7 vn ws bs)
    (second8 vn ws bs)
    (second9 vn ws bs)
    (second10 vn ws bs)
    (second11 vn ws bs)
    (second12 vn ws bs)
    (second13 vn ws bs)
    (second14 vn ws bs)
    (second15 vn ws bs) t c

/-- The gated rows' product with the output weights, the first chunk's gate given. -/
theorem gated (u : FVec Ideal S256x2048 .f32) (v179 : FVec Ideal S128x2048 .f32) (wout : FVec Ideal S2048x1024 .bf16)
    (h0 : ∀ (t : Fin 128) (c : Fin 2048), v179 (ix2 t c) = mix vn ws bs 0 ⟨c / 128, by omega⟩ t ⟨c % 128, by omega⟩)
    (r : Fin 256) (d : Fin 1024) :
    k0_pay43 (F := Ideal) u vn v179 (k0_pay28 vn (View.ld ws r0_4) (View.ld bs r0_5)) (k0_pay29 vn (View.ld ws r0_6) (View.ld bs r0_7)) (k0_pay30 vn (View.ld ws r0_8) (View.ld bs r0_9)) (k0_pay31 vn (View.ld ws r0_10) (View.ld bs r0_11)) (k0_pay33 (k0_pay32 vn) (View.ld ws r0_12) (View.ld bs r0_13)) (k0_pay34 vn (View.ld ws r0_14) (View.ld bs r0_15)) (k0_pay35 vn (View.ld ws r0_16) (View.ld bs r0_17)) (k0_pay36 vn (View.ld ws r0_18) (View.ld bs r0_19)) (k0_pay38 (k0_pay37 vn) (View.ld ws r0_20) (View.ld bs r0_21)) (k0_pay39 vn (View.ld ws r0_22) (View.ld bs r0_23)) (k0_pay40 vn (View.ld ws r0_24) (View.ld bs r0_25)) (k0_pay41 vn (View.ld ws r0_26) (View.ld bs r0_27))
        (k0_pay42 vn (View.ld ws r0_28)) (View.ld bs r0_29) (View.ld ws r0_30) (View.ld bs r0_31) (View.ld ws r0_32) (View.ld bs r0_33) (View.ld ws r0_34) (View.ld bs r0_35) wout (ix2 r d)
      = ∑ c : Fin 2048, u (ix2 r c) * mix vn ws bs ⟨r / 128, by omega⟩ ⟨c / 128, by omega⟩ ⟨r % 128, by omega⟩ ⟨c % 128, by omega⟩
          * wout (ix2 c d) := by
  have key : k0_pay43 (F := Ideal) u vn v179 (k0_pay28 vn (View.ld ws r0_4) (View.ld bs r0_5)) (k0_pay29 vn (View.ld ws r0_6) (View.ld bs r0_7)) (k0_pay30 vn (View.ld ws r0_8) (View.ld bs r0_9)) (k0_pay31 vn (View.ld ws r0_10) (View.ld bs r0_11)) (k0_pay33 (k0_pay32 vn) (View.ld ws r0_12) (View.ld bs r0_13)) (k0_pay34 vn (View.ld ws r0_14) (View.ld bs r0_15)) (k0_pay35 vn (View.ld ws r0_16) (View.ld bs r0_17)) (k0_pay36 vn (View.ld ws r0_18) (View.ld bs r0_19)) (k0_pay38 (k0_pay37 vn) (View.ld ws r0_20) (View.ld bs r0_21)) (k0_pay39 vn (View.ld ws r0_22) (View.ld bs r0_23)) (k0_pay40 vn (View.ld ws r0_24) (View.ld bs r0_25)) (k0_pay41 vn (View.ld ws r0_26) (View.ld bs r0_27))
        (k0_pay42 vn (View.ld ws r0_28)) (View.ld bs r0_29) (View.ld ws r0_30) (View.ld bs r0_31) (View.ld ws r0_32) (View.ld bs r0_33) (View.ld ws r0_34) (View.ld bs r0_35) wout
      = matmul dot_S256x2048_S2048x1024_S256x1024_1_0_0_1_n_n none
          (truncf .bf16 (mulf u (concatenate S256x2048 0 [⟨S128x2048, v179⟩, ⟨S128x2048, chunk vn ws bs⟩] concatenates_S128x2048_S128x2048_S256x2048_d0)) bitsLt_bf16_f32)
          (shapeCast S2048x1024 wout shapeCasts_S2048x1024_S2048x1024) (constant S256x1024 .f32 0x00000000#32) := by
    unfold k0_pay43 chunk square k0_pay26
    rfl
  have h1 := chunk1 vn ws bs
  rw [key]
  generalize chunk vn ws bs = low at h1 ⊢
  pointwise []
  refine Finset.sum_congr rfl fun c _ => ?_
  congr 2
  split
  · rename_i hr
    have e0 : (⟨r / 128, by omega⟩ : Fin 2) = 0 := Fin.ext (by simp only []; omega)
    have e1 : (⟨r % 128, by omega⟩ : Fin 128) = ⟨r, hr⟩ := Fin.ext (by simp only []; omega)
    rw [e0, e1]
    exact h0 _ _
  · rename_i hr
    have e0 : (⟨r / 128, by omega⟩ : Fin 2) = 1 := Fin.ext (by simp only []; omega)
    have e1 : (⟨r % 128, by omega⟩ : Fin 128) = ⟨r - 128, by omega⟩ := Fin.ext (by simp only []; omega)
    rw [e0, e1]
    exact h1 _ _

end Cert.Kernel6Ideal.Gmlp

end
-- ==== Proof.GmlpRef.lean ====
/- The gMLP block's reference read at an index, stage by stage. -/
module

public import proofs.«01_k».proof.Proof.Gen.Reference6Ideal.Read
public import proofs.«01_k».proof.Proof.RowNorm
public import Idealize.ShloMosaic.Lib.Pointwise

@[expose] public section

set_option maxRecDepth 16384

noncomputable section

namespace Cert.RowNorm

open Idealize.ShloMosaic

/-- The exact GELU of one number, with the constants the programs hold. -/
def gelu (z : EReal) : EReal := Ideal.ofBits .f32 0x3F000000#32 * z * (1 + Ideal.erf (z * Ideal.ofBits .f32 0x3F3504F3#32))

/-- The GELU written with the complementary error function, which is one plus the error function of the opposite. -/
theorem gelu_erfc (z : EReal) :
    Ideal.ofBits .f32 0x3F000000#32 * z * Ideal.erfc (-z * Ideal.ofBits .f32 0x3F3504F3#32) = gelu z := by
  rw [gelu, EReal.neg_mul, Ideal.erfc_neg]

end Cert.RowNorm

namespace Cert.Reference6Ideal.Gmlp

open Cert.Reference6Ideal Cert.Reference6Ideal.Gen Cert.Reference6Ideal.Read Idealize.ShloMosaic Idealize.SL.Sem
open Cert.RowNorm

/-- An entry of the input projection after its GELU. -/
theorem zAt (x0 : FVec Ideal S4x4096x1024 .f32) (x1 x2 : FVec Ideal S4x1x1024 .f32) (x3 : FVec Ideal S1x1024x4096 .f32)
    (b : Fin 4) (l : Fin 4096) (f : Fin 4096) :
    val_main_v19 (F := Ideal) x0 x1 x2 x3 (ix3 b l f)
      = gelu (∑ k : Fin 1024, modEntry (x0 (ix3 b l k)) (x1 (ix3 b 0 k)) (x2 (ix3 b 0 k)) * x3 (ix3 0 k f)) := by
  have hz : val_main_v12 (F := Ideal) x0 x1 x2 x3 (ix3 b l f)
      = ∑ k : Fin 1024, modEntry (x0 (ix3 b l k)) (x1 (ix3 b 0 k)) (x2 (ix3 b 0 k)) * x3 (ix3 0 k f) := by
    unfold val_main_v12
    unfold val_main_v6 val_main_v5 val_main_v4 val_main_v3 val_main_v2 val_main_v1 val_main_v0 val_main_cst
    pointwise [modEntry]
  rw [← hz, ← gelu_erfc]
  unfold val_main_v19 val_main_v18 val_main_v17 val_main_v16 val_main_cst_1 val_main_v15 val_main_v14 val_main_v13 val_main_cst_0
  generalize val_main_v12 (F := Ideal) x0 x1 x2 x3 = z
  pointwise []

/-- An entry of the second half's layer norm. -/
theorem vnAt (x0 : FVec Ideal S4x4096x1024 .f32) (x1 x2 : FVec Ideal S4x1x1024 .f32) (x3 : FVec Ideal S1x1024x4096 .f32)
    (x4 x5 : FVec Ideal S1x2048 .f32) (b : Fin 4) (l : Fin 4096) (c : Fin 2048) :
    val_main_v45 (F := Ideal) x0 x1 x2 x3 x4 x5 (ix3 b l c)
      = lnorm 0x45000000#32 (fun k : Fin 2048 => val_main_v19 (F := Ideal) x0 x1 x2 x3 (ix3 b l ⟨2048 + k, by omega⟩))
          (x4 (ix2 0 c)) (x5 (ix2 0 c)) c := by
  unfold val_main_v45 val_main_v44 val_main_v43 val_main_v42 val_main_v41 val_main_v40 val_main_v39 val_main_v38 val_main_v37 val_main_v36
    val_main_v35 val_main_cst_6 val_main_v34 val_main_v33 val_main_v32 val_main_v31 val_main_cst_5 val_main_v30 val_main_v29
    val_main_cst_4 val_main_v28 val_main_v27 val_main_v26 val_main_v25 val_main_v24 val_main_cst_3 val_main_v23 val_main_v22
    val_main_cst_2 val_main_v21
    val_main_v7 val_main_v8
  generalize val_main_v19 (F := Ideal) x0 x1 x2 x3 = z
  pointwise [lnorm, mean]

/-- An entry of the spatial gate: within a chunk of 128 rows, the group's mixing weights over the chunk's rows. -/
theorem mixAt (x0 : FVec Ideal S4x4096x1024 .f32) (x1 x2 : FVec Ideal S4x1x1024 .f32) (x3 : FVec Ideal S1x1024x4096 .f32)
    (x4 x5 : FVec Ideal S1x2048 .f32) (x6 : FVec Ideal S1x16x128x128 .f32) (x7 : FVec Ideal S1x16x128 .f32)
    (b : Fin 4) (l : Fin 4096) (c : Fin 2048) (n : Fin 32) (t : Fin 128) (g : Fin 16) (e : Fin 128) (hl : (l : ℕ) = n * 128 + t)
    (hc : (c : ℕ) = g * 128 + e) :
    val_main_v53 (F := Ideal) x0 x1 x2 x3 x4 x5 x6 x7 (ix3 b l c)
      = (∑ s : Fin 128, x6 (ix4 0 g t s) * val_main_v45 (F := Ideal) x0 x1 x2 x3 x4 x5 (ix3 b ⟨n * 128 + s, by omega⟩ c))
          + x7 (ix3 0 g t) := by
  unfold val_main_v53 val_main_v52 val_main_v51 val_main_v50 val_main_v49 val_main_v48 val_main_v47 val_main_v46
    val_main_v9 val_main_v10
  generalize val_main_v45 (F := Ideal) x0 x1 x2 x3 x4 x5 = y
  pointwise []
  have h0 : (⟨c / 128, by omega⟩ : Fin 16) = g := Fin.ext (by simp only []; omega)
  have h1 : (⟨l % 128, by omega⟩ : Fin 128) = t := Fin.ext (by simp only []; omega)
  have h2 : ∀ s : Fin 128, (⟨l / 128 * 128 + s, by omega⟩ : Fin 4096) = ⟨n * 128 + s, by omega⟩ :=
    fun s => Fin.ext (by simp only []; omega)
  simp only [h0, h1, h2, mul_comm (y _)]

/-- The output projection. -/
theorem proj (x0 : FVec Ideal S4x4096x1024 .f32) (x1 x2 : FVec Ideal S4x1x1024 .f32) (x3 : FVec Ideal S1x1024x4096 .f32)
    (x4 x5 : FVec Ideal S1x2048 .f32) (x6 : FVec Ideal S1x16x128x128 .f32) (x7 : FVec Ideal S1x16x128 .f32)
    (x8 : FVec Ideal S1x2048x1024 .f32) (b : Fin 4) (l : Fin 4096) (d : Fin 1024) :
    val_main_v55 (F := Ideal) x0 x1 x2 x3 x4 x5 x6 x7 x8 (ix3 b l d)
      = ∑ c : Fin 2048, val_main_v19 (F := Ideal) x0 x1 x2 x3 (ix3 b l ⟨c, by omega⟩)
          * val_main_v53 (F := Ideal) x0 x1 x2 x3 x4 x5 x6 x7 (ix3 b l c) * x8 (ix3 0 c d) := by
  unfold val_main_v55 val_main_v54 val_main_v20 val_main_v11
  generalize val_main_v53 (F := Ideal) x0 x1 x2 x3 x4 x5 x6 x7 = y
  generalize val_main_v19 (F := Ideal) x0 x1 x2 x3 = z
  pointwise []

/-- The reference at an index, over the output projection. -/
theorem out (x0 : FVec Ideal S4x4096x1024 .f32) (x1 x2 : FVec Ideal S4x1x1024 .f32) (x3 : FVec Ideal S1x1024x4096 .f32)
    (x4 x5 : FVec Ideal S1x2048 .f32) (x6 : FVec Ideal S1x16x128x128 .f32) (x7 : FVec Ideal S1x16x128 .f32)
    (x8 : FVec Ideal S1x2048x1024 .f32) (x9 : FVec Ideal S4x1x1024 .f32) (x10 x11 : FVec Ideal S4x2x1024 .f32)
    (b : Fin 4) (l : Fin 4096) (d : Fin 1024) :
    val_main_v88 (F := Ideal) x0 x1 x2 x3 x4 x5 x6 x7 x8 x9 x10 x11 (ix3 b l d)
      = lnorm 0x44800000#32 (fun k => postSum (x0 (ix3 b l k)) (x9 (ix3 b 0 k))
            (val_main_v55 (F := Ideal) x0 x1 x2 x3 x4 x5 x6 x7 x8 (ix3 b l k)))
          (x10 (ix3 2 0 d)) (x11 (ix3 2 0 d)) d := by
  unfold val_main_v88 val_main_v87 val_main_v86 val_main_v85 val_main_v84 val_main_v83 val_main_v82 val_main_v81 val_main_v80 val_main_v79
    val_main_v78 val_main_cst_12 val_main_v77 val_main_v76 val_main_v75 val_main_v74 val_main_cst_11 val_main_v73 val_main_v72
    val_main_cst_10 val_main_v71 val_main_v70 val_main_v69 val_main_v68 val_main_v67 val_main_cst_9 val_main_v66 val_main_v65
    val_main_cst_8 val_main_v64 val_main_v63 val_main_v62 val_main_cst_7 val_main_v61 val_main_v60 val_main_v59 val_main_v58
    val_main_v57 val_main_v56
  generalize val_main_v55 (F := Ideal) x0 x1 x2 x3 x4 x5 x6 x7 x8 = y
  pointwise [lnorm, mean, postSum]

end Cert.Reference6Ideal.Gmlp

end
-- ==== Proof.GmlpBlock.lean ====
/- The gMLP call: on every grid point's block the kernel's result is the reference's, so the whole array is. -/
module

public import proofs.«01_k».proof.Proof.GmlpMix
public import proofs.«01_k».proof.Proof.GmlpRef
public import Idealize.ShloMosaic.Lib.Claim

@[expose] public section

set_option maxRecDepth 16384

noncomputable section

namespace Cert.Kernel6Ideal.Gmlp

open Cert.Kernel6Ideal Cert.Kernel6Ideal.Gen Idealize.ShloMosaic Idealize.ShloMosaic.TcCoe Idealize.SL.Sem
open Cert.RowNorm

/-! ## One grid point's block -/

section Block

variable (x : FVec Ideal S1x256x1024 .f32) (shift scale : FVec Ideal S1x1x1024 .f32) (win : FVec Ideal S1024x4096 .bf16)
  (cg cb : FVec Ideal S1x2048 .f32) (ws : FVec Ideal S16x128x128 .bf16) (bs : FVec Ideal S128x16 .f32)
  (wout : FVec Ideal S2048x1024 .bf16) (gate : FVec Ideal S1x1x1024 .f32) (g b : FVec Ideal S1x1024 .f32)

/-- The input projection after its GELU. -/
def zEntry (r : Fin 256) (f : Fin 4096) : EReal :=
  gelu (∑ k : Fin 1024, modEntry (x (ix3 0 r k)) (shift (ix3 0 0 k)) (scale (ix3 0 0 k)) * win (ix2 k f))

theorem zAt (r : Fin 256) (f : Fin 4096) : k0_pay2 (F := Ideal) x scale shift win (ix2 r f) = zEntry x shift scale win r f := by
  pointwise [k0_pay2, zEntry, gelu, modEntry, Ideal.erf_def]

theorem uAt (r : Fin 256) (c : Fin 2048) :
    k0_pay3 (F := Ideal) x scale shift win (ix2 r c) = zEntry x shift scale win r ⟨c, by omega⟩ := by
  rw [← zAt]
  pointwise [k0_pay3]

/-- The second half's layer norm. -/
def vnEntry (r : Fin 256) (c : Fin 2048) : EReal :=
  lnorm 0x45000000#32 (fun k : Fin 2048 => zEntry x shift scale win r ⟨2048 + k, by omega⟩) (cg (ix2 0 c)) (cb (ix2 0 c)) c

theorem vnAt (r : Fin 256) (c : Fin 2048) :
    k0_pay7 (F := Ideal) (k0_pay4 cg) (k0_pay5 cb) (k0_pay6 x scale shift win) (ix2 r c) = vnEntry x shift scale win cg cb r c := by
  unfold vnEntry
  simp only [← zAt]
  unfold k0_pay6
  generalize k0_pay2 (F := Ideal) x scale shift win = z
  pointwise [k0_pay7, k0_pay4, k0_pay5, lnorm, mean]

/-- The spatial gate. -/
def gateEntry (r : Fin 256) (c : Fin 2048) : EReal :=
  (∑ s : Fin 128, ws (ix3 ⟨c / 128, by omega⟩ ⟨r % 128, by omega⟩ s) * vnEntry x shift scale win cg cb ⟨r / 128 * 128 + s, by omega⟩ c)
    + bs (ix2 ⟨r % 128, by omega⟩ ⟨c / 128, by omega⟩)

theorem mixAt (r : Fin 256) (c : Fin 2048) :
    mix (k0_pay7 (F := Ideal) (k0_pay4 cg) (k0_pay5 cb) (k0_pay6 x scale shift win)) ws bs ⟨r / 128, by omega⟩ ⟨c / 128, by omega⟩
        ⟨r % 128, by omega⟩ ⟨c % 128, by omega⟩
      = gateEntry x shift scale win cg cb ws bs r c := by
  have hc : (⟨c / 128 * 128 + c % 128, by omega⟩ : Fin 2048) = c := Fin.ext (by simp only []; omega)
  unfold mix gateEntry
  simp only [vnAt, hc]

/-- The output projection's entry. -/
def yEntry (r : Fin 256) (d : Fin 1024) : EReal :=
  ∑ c : Fin 2048, zEntry x shift scale win r ⟨c, by omega⟩ * gateEntry x shift scale win cg cb ws bs r c * wout (ix2 c d)

/-- What one grid point stores, from its blocks. -/
theorem stored (r : Fin 256) (d : Fin 1024) :
    out0_12 (F := Ideal) x shift scale win cg cb ws bs wout gate g b (ix3 0 r d)
      = lnorm 0x44800000#32 (fun k => postSum (x (ix3 0 r k)) (gate (ix3 0 0 k)) (yEntry x shift scale win cg cb ws bs wout r k))
          (g (ix2 0 d)) (b (ix2 0 d)) d := by
  have hy := gated (k0_pay7 (F := Ideal) (k0_pay4 cg) (k0_pay5 cb) (k0_pay6 x scale shift win)) ws bs (k0_pay3 x scale shift win) _ wout
    (chunk0 (k0_pay4 cg) (k0_pay5 cb) (k0_pay6 x scale shift win) ws bs)
  simp only [mixAt, uAt] at hy
  unfold_out out0_12
  rw [View.canon_unit_zero zero3]
  rw [View.ld_unit_zero (S := S1x256x1024) zero3, View.ld_unit_zero (S := S1x1x1024) zero3, View.ld_unit_zero (S := S1x1x1024) zero3,
    View.ld_unit_zero (S := S1024x4096) zero2, View.ld_unit_zero (S := S1x2048) zero2, View.ld_unit_zero (S := S1x2048) zero2,
    View.ld_unit_zero (S := S2048x1024) zero2, View.ld_unit_zero (S := S1x1x1024) zero3, View.ld_unit_zero (S := S1x1024) zero2,
    View.ld_unit_zero (S := S1x1024) zero2]
  unfold yEntry
  simp only [← hy]
  generalize k0_pay43 (F := Ideal) _ _ _ _ _ _ _ _ _ _ _ _ _ _ _ _ _ _ _ _ _ _ _ _ = y
  pointwise [k0_pay1, k0_pay44, lnorm, mean, postSum]

end Block

end Cert.Kernel6Ideal.Gmlp

end
-- ==== Proof.GmlpValue.lean ====
/- The gMLP call: on every grid point's block the kernel's result is the reference's, so the whole array is. -/
module

public import proofs.«01_k».proof.Proof.GmlpBlock
public import proofs.«01_k».proof.Proof.GmlpRef
public import Idealize.ShloMosaic.Lib.Claim

@[expose] public section

set_option maxRecDepth 16384

noncomputable section

namespace Cert.Kernel6Ideal.Gmlp

open Cert.Kernel6Ideal Cert.Kernel6Ideal.Gen Idealize.ShloMosaic Idealize.ShloMosaic.TcCoe Idealize.SL.Sem
open Cert.RowNorm

variable (m : (ℓ : Loc nD τ sig) → Buf (Elt Ideal) ℓ)

/-- The arguments at their plain types: the stream, its modulation, the input weights, the row norm's weights and offsets, the mixing
    weights and biases, the output weights, the gates, the post-norm's weights and offsets. -/
abbrev argX (c : Dev nD) : FVec Ideal S4x4096x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argWin (c : Dev nD) : FVec Ideal S1x1024x4096 .f32 := m ((c : Thread nD τ).loc main_arg3)
abbrev argCG (c : Dev nD) : FVec Ideal S1x2048 .f32 := m ((c : Thread nD τ).loc main_arg4)
abbrev argCB (c : Dev nD) : FVec Ideal S1x2048 .f32 := m ((c : Thread nD τ).loc main_arg5)
abbrev argWs (c : Dev nD) : FVec Ideal S1x16x128x128 .f32 := m ((c : Thread nD τ).loc main_arg6)
abbrev argBs (c : Dev nD) : FVec Ideal S1x16x128 .f32 := m ((c : Thread nD τ).loc main_arg7)
abbrev argWout (c : Dev nD) : FVec Ideal S1x2048x1024 .f32 := m ((c : Thread nD τ).loc main_arg8)
abbrev argGate (c : Dev nD) : FVec Ideal S4x1x1024 .f32 := m ((c : Thread nD τ).loc main_arg9)
abbrev argG (c : Dev nD) : FVec Ideal S4x2x1024 .f32 := m ((c : Thread nD τ).loc main_arg10)
abbrev argB (c : Dev nD) : FVec Ideal S4x2x1024 .f32 := m ((c : Thread nD τ).loc main_arg11)

/-! ## The windows -/

/-- The block each window holds: batch entry `t / 16`, rows `t % 16`. -/
theorem idx_val : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_4.index t = ![0, 0] ∧ win0_5.index t = ![0, 0]
    ∧ win0_6.index t = ![0, 0, 0] ∧ win0_7.index t = ![0, 0] ∧ win0_8.index t = ![0, 0] ∧ win0_9.index t = ![t.val / 16, 0, 0]
    ∧ win0_10.index t = ![0, 0] ∧ win0_11.index t = ![0, 0] ∧ win0_12.index t = ![t.val / 16, t.val % 16, 0] :=
  (by decide +kernel : ∀ t : Fin grid0.N, _)

theorem xAt (c : Dev nD) (t : Fin cfg0.N) (r : Fin 256) (k : Fin 1024) (b : Fin 4) (l : Fin 4096) (hb : (b : ℕ) = t.val / 16)
    (hl : (l : ℕ) = t.val % 16 * 256 + r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val / 16) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val / 16) :
    iblk m c 2 t (ix3 0 0 k) = argScale m c (ix3 b 0 k) := by
  blk_simp [iblk]
  entry_read
  blk_ext [idx_val t]

theorem winAt (c : Dev nD) (t : Fin cfg0.N) (k : Fin 1024) (f : Fin 4096) :
    iblk m c 3 t (ix2 k f) = argWin m c (ix3 0 k f) := by
  blk_simp [iblk]
  entry_read
  pointwise []
  blk_ext [idx_val t]

theorem cgAt (c : Dev nD) (t : Fin cfg0.N) (k : Fin 2048) :
    iblk m c 4 t (ix2 0 k) = argCG m c (ix2 0 k) := by
  blk_simp [iblk]
  entry_read
  pointwise []
  blk_ext [idx_val t]

theorem cbAt (c : Dev nD) (t : Fin cfg0.N) (k : Fin 2048) :
    iblk m c 5 t (ix2 0 k) = argCB m c (ix2 0 k) := by
  blk_simp [iblk]
  entry_read
  pointwise []
  blk_ext [idx_val t]

theorem wsAt (c : Dev nD) (t : Fin cfg0.N) (g : Fin 16) (i s : Fin 128) :
    iblk m c 6 t (ix3 g i s) = argWs m c (ix4 0 g i s) := by
  blk_simp [iblk]
  entry_read
  pointwise []
  blk_ext [idx_val t]

theorem bsAt (c : Dev nD) (t : Fin cfg0.N) (i : Fin 128) (g : Fin 16) :
    iblk m c 7 t (ix2 i g) = argBs m c (ix3 0 g i) := by
  blk_simp [iblk]
  entry_read
  pointwise []
  blk_ext [idx_val t]

theorem woutAt (c : Dev nD) (t : Fin cfg0.N) (k : Fin 2048) (d : Fin 1024) :
    iblk m c 8 t (ix2 k d) = argWout m c (ix3 0 k d) := by
  blk_simp [iblk]
  entry_read
  pointwise []
  blk_ext [idx_val t]

theorem gateAt (c : Dev nD) (t : Fin cfg0.N) (k : Fin 1024) (b : Fin 4) (hb : (b : ℕ) = t.val / 16) :
    iblk m c 9 t (ix3 0 0 k) = argGate m c (ix3 b 0 k) := by
  blk_simp [iblk]
  entry_read
  blk_ext [idx_val t]

theorem gAt (c : Dev nD) (t : Fin cfg0.N) (k : Fin 1024) :
    iblk m c 10 t (ix2 0 k) = argG m c (ix3 2 0 k) := by
  blk_simp [iblk]
  entry_read
  pointwise []
  blk_ext [idx_val t]

theorem bAt (c : Dev nD) (t : Fin cfg0.N) (k : Fin 1024) :
    iblk m c 11 t (ix2 0 k) = argB m c (ix3 2 0 k) := by
  blk_simp [iblk]
  entry_read
  pointwise []
  blk_ext [idx_val t]

/-! ## The block's stages are the reference's -/

section Stages

variable (c : Dev nD) (t : Fin cfg0.N) (b : Fin 4) (hb : (b : ℕ) = t.val / 16)

include hb

theorem z_eq (r : Fin 256) (l : Fin 4096) (hl : (l : ℕ) = t.val % 16 * 256 + r) (f : Fin 4096) :
    zEntry (iblk m c 0 t) (iblk m c 1 t) (iblk m c 2 t) (iblk m c 3 t) r f
      = Cert.Reference6Ideal.Read.val_main_v19 (F := Ideal) (argX m c) (argShift m c) (argScale m c) (argWin m c) (ix3 b l f) := by
  refine Eq.trans ?_ (Cert.Reference6Ideal.Gmlp.zAt _ _ _ _ b l f).symm
  unfold zEntry
  refine congrArg gelu (Finset.sum_congr rfl fun k _ => ?_)
  rw [xAt m c t r k b l hb hl, shiftAt m c t k b hb, scaleAt m c t k b hb, winAt]

theorem vn_eq (r : Fin 256) (l : Fin 4096) (hl : (l : ℕ) = t.val % 16 * 256 + r) (j : Fin 2048) :
    vnEntry (iblk m c 0 t) (iblk m c 1 t) (iblk m c 2 t) (iblk m c 3 t) (iblk m c 4 t) (iblk m c 5 t) r j
      = Cert.Reference6Ideal.Read.val_main_v45 (F := Ideal) (argX m c) (argShift m c) (argScale m c) (argWin m c) (argCG m c) (argCB m c) (ix3 b l j) := by
  refine Eq.trans ?_ (Cert.Reference6Ideal.Gmlp.vnAt _ _ _ _ _ _ b l j).symm
  unfold vnEntry
  rw [cgAt, cbAt]
  exact congrArg (fun f => lnorm _ f _ _ _) (funext fun k => z_eq m c t b hb r l hl _)

theorem gate_eq (r : Fin 256) (l : Fin 4096) (hl : (l : ℕ) = t.val % 16 * 256 + r) (j : Fin 2048) :
    gateEntry (iblk m c 0 t) (iblk m c 1 t) (iblk m c 2 t) (iblk m c 3 t) (iblk m c 4 t) (iblk m c 5 t) (iblk m c 6 t) (iblk m c 7 t) r j
      = Cert.Reference6Ideal.Read.val_main_v53 (F := Ideal) (argX m c) (argShift m c) (argScale m c) (argWin m c) (argCG m c) (argCB m c)
          (argWs m c) (argBs m c) (ix3 b l j) := by
  refine Eq.trans ?_ (Cert.Reference6Ideal.Gmlp.mixAt _ _ _ _ _ _ _ _ b l j ⟨l / 128, by omega⟩ ⟨r % 128, by omega⟩ ⟨j / 128, by omega⟩
    ⟨j % 128, by omega⟩ (by simp only []; omega) (by simp only []; omega)).symm
  unfold gateEntry
  rw [bsAt]
  refine congrArg (fun x => x + _) (Finset.sum_congr rfl fun s _ => ?_)
  rw [wsAt, vn_eq m c t b hb _ ⟨l / 128 * 128 + s, by omega⟩ (by simp only []; omega)]

theorem y_eq (r : Fin 256) (l : Fin 4096) (hl : (l : ℕ) = t.val % 16 * 256 + r) (d : Fin 1024) :
    yEntry (iblk m c 0 t) (iblk m c 1 t) (iblk m c 2 t) (iblk m c 3 t) (iblk m c 4 t) (iblk m c 5 t) (iblk m c 6 t) (iblk m c 7 t)
        (iblk m c 8 t) r d
      = Cert.Reference6Ideal.Read.val_main_v55 (F := Ideal) (argX m c) (argShift m c) (argScale m c) (argWin m c) (argCG m c) (argCB m c)
          (argWs m c) (argBs m c) (argWout m c) (ix3 b l d) := by
  refine Eq.trans ?_ (Cert.Reference6Ideal.Gmlp.proj _ _ _ _ _ _ _ _ _ b l d).symm
  unfold yEntry
  refine Finset.sum_congr rfl fun j _ => ?_
  rw [z_eq m c t b hb r l hl, gate_eq m c t b hb r l hl, woutAt]

end Stages

/-! ## The whole array -/

/-- One element of a grid point's block is the reference's element there. -/
theorem point (c : Dev nD) (t : Fin cfg0.N) (y : S1x256x1024.Idx) (j : S4x4096x1024.Idx) (hj0 : (j 0 : ℕ) = t.val / 16)
    (hj1 : (j 1 : ℕ) = t.val % 16 * 256 + y 1) (hj2 : (j 2 : ℕ) = y 2) :
    out0_12 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) y
      = Cert.Reference6Ideal.Read.val_main_v88 (F := Ideal) (argX m c) (argShift m c) (argScale m c) (argWin m c) (argCG m c) (argCB m c)
          (argWs m c) (argBs m c) (argWout m c) (argGate m c) (argG m c) (argB m c) j := by
  idx_vars y
  idx_vars j
  obtain rfl : j2 = y2 := Fin.ext hj2
  obtain rfl : y0 = 0 := Subsingleton.elim _ _
  refine (stored _ _ _ _ _ _ _ _ _ _ _ _ y1 j2).trans (Eq.trans ?_ (Cert.Reference6Ideal.Gmlp.out _ _ _ _ _ _ _ _ _ _ _ _ j0 j1 j2).symm)
  rw [gAt, bAt]
  refine congrArg (fun f => lnorm _ f _ _ _) (funext fun k => ?_)
  rw [xAt m c t y1 k j0 j1 hj0 hj1, gateAt m c t k j0 hj0, y_eq m c t j0 hj0 y1 j1 hj1]

/-- The kernel's result array is the reference's. -/
theorem final (c : Dev nD) : (dats m 0 c).arrAt 12 (cfgs 0).N
    = Cert.Reference6Ideal.Read.val_main_v88 (F := Ideal) (argX m c) (argShift m c) (argScale m c) (argWin m c) (argCG m c) (argCB m c)
          (argWs m c) (argBs m c) (argWout m c) (argGate m c) (argG m c) (argB m c) := by
  refine (dats m 0 c).arrAt_eq_of_covers 12 _ (by decide +kernel) fun t _ y => ?_
  blk_simp
  rw [after0_12]
  refine point m c t y _ ?_ ?_ ?_
  all_goals (blk_simp [idx_val t] <;> try omega)

/-! ## The run -/

/-- The arguments the windows stage are as launched after the run. -/
theorem kept_in (r : PUnit × MemSt nD τ sig (Elt Ideal)) (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg9) = m ((c : Thread nD τ).loc main_arg9) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 9).trans (((dats m 0 c).arrAt_in 9 rfl _).trans ((A_eq m c 9).trans (V_main_arg9 m c)))⟩

/-- The arguments no window stages are as launched after the run. -/
theorem kept_rest (r : PUnit × MemSt nD τ sig (Elt Ideal)) (h : Pipeline.FramePost cfgs (dats m) 0 (V m) r) (c : Dev nD) :
    r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg10) = m ((c : Thread nD τ).loc main_arg10)
      ∧ r.2.mem ((c : Thread nD τ).loc main_arg11) = m ((c : Thread nD τ).loc main_arg11) :=
  ⟨((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The frame's run, its result array named. -/
theorem run_blocks (ρ : Dev nD → PrngReg) :
    θ_run defs (onTc (τ := τ) (main (F := Ideal))) ⟨m, fun _ => 0, ρ⟩ fun r => ∀ c : Dev nD,
      r.2.mem ((c : Thread nD τ).loc main_v18) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => by
    obtain ⟨h0, h1, h2, h9⟩ := kept_in m r h c
    obtain ⟨h3, h4, h5, h6, h7, h8, h10, h11⟩ := kept_rest m r h c
    exact ⟨(h c).1 12, h0, h1, h2, h3, h4, h5, h6, h7, h8, h9, h10, h11⟩) (run_main m ρ)

end Cert.Kernel6Ideal.Gmlp

end
-- ==== Proof.HeadsPostnormValue.lean ====
/- The attention's output projection and the norm after it: the kernel's sum of sixteen heads' products is the
   reference's one product over all the heads' columns. -/
module

public import proofs.«01_k».proof.Proof.Gen.Kernel7Ideal.Value
public import proofs.«01_k».proof.Proof.Gen.Reference7Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference7Ideal.HeadsPostnorm

open Cert.Reference7Ideal Cert.Reference7Ideal.Gen Cert.Reference7Ideal.Read Idealize.ShloMosaic Idealize.SL.Sem
open Cert.RowNorm

/-- One entry of the projection. -/
theorem proj (x0 : FVec Ideal S4x16x4096x64 .bf16) (x1 : FVec Ideal S1x1024x1024 .f32) (b : Fin 4) (l : Fin 4096) (d : Fin 1024) :
    val_main_v4 (F := Ideal) x0 x1 (ix3 b l d)
      = ∑ i : Fin 1024, x0 (ix4 b ⟨i / 64, by omega⟩ l ⟨i % 64, by omega⟩) * x1 (ix3 0 i d) := by
  unfold val_main_v4 val_main_v3 val_main_v2 val_main_v1 val_main_v0
  pointwise []

/-- The reference at an index. -/
theorem out (x0 : FVec Ideal S4x16x4096x64 .bf16) (x1 : FVec Ideal S1x1024x1024 .f32) (x2 : FVec Ideal S4x4096x1024 .f32)
    (x3 : FVec Ideal S4x1x1024 .f32) (x4 x5 : FVec Ideal S4x2x1024 .f32) (b : Fin 4) (l : Fin 4096) (d : Fin 1024) :
    val_main_v37 (F := Ideal) x0 x1 x2 x3 x4 x5 (ix3 b l d)
      = lnorm 0x44800000#32 (fun k => postSum (x2 (ix3 b l k)) (x3 (ix3 b 0 k))
            (∑ i : Fin 1024, x0 (ix4 b ⟨i / 64, by omega⟩ l ⟨i % 64, by omega⟩) * x1 (ix3 0 i k)))
          (x4 (ix3 1 0 d)) (x5 (ix3 1 0 d)) d := by
  unfold val_main_v37 val_main_v36 val_main_v35 val_main_v34 val_main_v33 val_main_v32 val_main_v31 val_main_v30 val_main_v29 val_main_v28
    val_main_v27 val_main_cst_4 val_main_v26 val_main_v25 val_main_v24 val_main_v23 val_main_cst_3 val_main_v22 val_main_v21
    val_main_cst_2 val_main_v20 val_main_v19 val_main_v18 val_main_v17 val_main_v16 val_main_cst_1 val_main_v15 val_main_v14
    val_main_cst_0 val_main_v13 val_main_v12 val_main_v11 val_main_cst val_main_v10 val_main_v9 val_main_v8 val_main_v7 val_main_v6
    val_main_v5
  simp only [← proj]
  pointwise [lnorm, mean, postSum]

end Cert.Reference7Ideal.HeadsPostnorm

namespace Cert.Kernel7Ideal.HeadsPostnorm

open Cert.Kernel7Ideal Cert.Kernel7Ideal.Gen Idealize.ShloMosaic Idealize.ShloMosaic.TcCoe Idealize.SL.Sem
open Cert.RowNorm

variable (m : (ℓ : Loc nD τ sig) → Buf (Elt Ideal) ℓ)

/-- The arguments at their plain types: the heads' rows, the projection's weights, the stream, the gates, the norm's weights and offsets. -/
abbrev argO (c : Dev nD) : FVec Ideal S4x16x4096x64 .bf16 := m ((c : Thread nD τ).loc main_arg0)
abbrev argW (c : Dev nD) : FVec Ideal S1x1024x1024 .f32 := m ((c : Thread nD τ).loc main_arg1)
abbrev argX (c : Dev nD) : FVec Ideal S4x4096x1024 .f32 := m ((c : Thread nD τ).loc main_arg2)
abbrev argGate (c : Dev nD) : FVec Ideal S4x1x1024 .f32 := m ((c : Thread nD τ).loc main_arg3)
abbrev argG (c : Dev nD) : FVec Ideal S4x2x1024 .f32 := m ((c : Thread nD τ).loc main_arg4)
abbrev argB (c : Dev nD) : FVec Ideal S4x2x1024 .f32 := m ((c : Thread nD τ).loc main_arg5)

/-- The block each window holds: batch entry `t / 8`, rows `t % 8`. -/
theorem idx_val : ∀ t : Fin cfg0.N, win0_0.index t = ![t.val / 8, 0, t.val % 8, 0] ∧ win0_1.index t = ![0, 0, 0]
    ∧ win0_2.index t = ![t.val / 8, t.val % 8, 0] ∧ win0_3.index t = ![t.val / 8, 0, 0] ∧ win0_4.index t = ![0, 0]
    ∧ win0_5.index t = ![0, 0] ∧ win0_6.index t = ![t.val / 8, t.val % 8, 0] :=
  (by decide +kernel : ∀ t : Fin grid0.N, _)

theorem oAt (c : Dev nD) (t : Fin cfg0.N) (h : Fin 16) (r : Fin 512) (e : Fin 64) (b : Fin 4) (l : Fin 4096) (hb : (b : ℕ) = t.val / 8)
    (hl : (l : ℕ) = t.val % 8 * 512 + r) :
    iblk m c 0 t (ix4 0 h r e) = argO m c (ix4 b h l e) := by
  blk_simp [iblk]
  entry_read
  blk_ext [idx_val t]

theorem wAt (c : Dev nD) (t : Fin cfg0.N) (h : Fin 16) (e : Fin 64) (d : Fin 1024) (i : Fin 1024)
    (hi : (i : ℕ) = h * 64 + e) :
    iblk m c 1 t (ix3 h e d) = argW m c (ix3 0 i d) := by
  blk_simp [iblk]
  entry_read
  pointwise []
  blk_ext [idx_val t]

theorem xAt (c : Dev nD) (t : Fin cfg0.N) (r : Fin 512) (k : Fin 1024) (b : Fin 4) (l : Fin 4096) (hb : (b : ℕ) = t.val / 8)
    (hl : (l : ℕ) = t.val % 8 * 512 + r) :
    iblk m c 2 t (ix3 0 r k) = argX m c (ix3 b l k) := by
  blk_simp [iblk]
  entry_read
  blk_ext [idx_val t]

theorem gateAt (c : Dev nD) (t : Fin cfg0.N) (k : Fin 1024) (b : Fin 4) (hb : (b : ℕ) = t.val / 8) :
    iblk m c 3 t (ix3 0 0 k) = argGate m c (ix3 b 0 k) := by
  blk_simp [iblk]
  entry_read
  blk_ext [idx_val t]

theorem gAt (c : Dev nD) (t : Fin cfg0.N) (k : Fin 1024) :
    iblk m c 4 t (ix2 0 k) = argG m c (ix3 1 0 k) := by
  blk_simp [iblk]
  entry_read
  pointwise []
  blk_ext [idx_val t]

theorem bAt (c : Dev nD) (t : Fin cfg0.N) (k : Fin 1024) :
    iblk m c 5 t (ix2 0 k) = argB m c (ix3 1 0 k) := by
  blk_simp [iblk]
  entry_read
  pointwise []
  blk_ext [idx_val t]

/-- One head's product. -/
def headTerm (o : FVec Ideal S1x16x512x64 .bf16) (w : FVec Ideal S16x64x1024 .bf16) (r : Fin 512) (k : Fin 1024) (h : Fin 16) : EReal :=
  ∑ e : Fin 64, o (ix4 0 h r e) * w (ix3 h e k)

/-- The gated sum of the heads' products, as the kernel computes it. -/
abbrev heads (o : FVec Ideal S1x16x512x64 .bf16) (w : FVec Ideal S16x64x1024 .bf16) (gate : FVec Ideal S1x1x1024 .f32) :
    FVec Ideal S512x1024 .f32 :=
  k0_pay9 (F := Ideal)
    (k0_pay5 (k0_pay3 (k0_pay2 (View.ld o r0_0) (View.ld w r0_1) (View.ld o r0_2) (View.ld w r0_3) (View.ld o r0_4) (View.ld w r0_5) (View.ld o r0_6) (View.ld w r0_7))
        (View.ld o r0_8) (View.ld w r0_9) (View.ld o r0_10) (View.ld w r0_11) (View.ld o r0_12) (View.ld w r0_13) (View.ld o r0_14) (View.ld w r0_15))
      (k0_pay4 (View.ld o r0_16)) (View.ld w r0_17) (View.ld o r0_18) (View.ld w r0_19) (View.ld o r0_20) (View.ld w r0_21) (View.ld o r0_22) (View.ld w r0_23))
    (k0_pay6 (View.ld o r0_24)) (k0_pay7 (View.ld w r0_25)) (View.ld o r0_26) (View.ld w r0_27) (View.ld o r0_28) (View.ld w r0_29) (View.ld o r0_30) (View.ld w r0_31) gate

theorem headsAt (o : FVec Ideal S1x16x512x64 .bf16) (w : FVec Ideal S16x64x1024 .bf16) (gate : FVec Ideal S1x1x1024 .f32)
    (r : Fin 512) (k : Fin 1024) : heads o w gate (ix2 r k) = gate (ix3 0 0 k) * ∑ h : Fin 16, headTerm o w r k h := by
  have h16 : ∑ h : Fin 16, headTerm o w r k h = headTerm o w r k 0 + headTerm o w r k 1 + headTerm o w r k 2 + headTerm o w r k 3 + headTerm o w r k 4 + headTerm o w r k 5 + headTerm o w r k 6 + headTerm o w r k 7 + headTerm o w r k 8 + headTerm o w r k 9 + headTerm o w r k 10 + headTerm o w r k 11 + headTerm o w r k 12 + headTerm o w r k 13 + headTerm o w r k 14 + headTerm o w r k 15 := by
    simp only [Fin.sum_univ_castSucc, Fin.sum_univ_zero, zero_add]
    rfl
  rw [h16]
  unfold headTerm
  pointwise [heads, k0_pay2, k0_pay3, k0_pay4, k0_pay5, k0_pay6, k0_pay7, k0_pay9]

/-- What one grid point stores, from its blocks. -/
theorem stored (o : FVec Ideal S1x16x512x64 .bf16) (w : FVec Ideal S16x64x1024 .bf16) (x : FVec Ideal S1x512x1024 .f32)
    (gate : FVec Ideal S1x1x1024 .f32) (g b : FVec Ideal S1x1024 .f32) (r : Fin 512) (d : Fin 1024) :
    out0_6 (F := Ideal) o w x gate g b (ix3 0 r d)
      = lnorm 0x44800000#32 (fun k => postSum (x (ix3 0 r k)) (gate (ix3 0 0 k)) (∑ h : Fin 16, headTerm o w r k h))
          (g (ix2 0 d)) (b (ix2 0 d)) d := by
  have h : out0_6 (F := Ideal) o w x gate g b = k0_pay1 (k0_pay8 x) (heads o w gate) g b := by
    unfold out0_6
    rw [View.canon_unit_zero zero3]
    rw [View.ld_unit_zero (S := S1x512x1024) zero3, View.ld_unit_zero (S := S1x1x1024) zero3,
      View.ld_unit_zero (S := S1x1024) zero2, View.ld_unit_zero (S := S1x1024) zero2]
  have hp : ∀ k, postSum (x (ix3 0 r k)) (gate (ix3 0 0 k)) (∑ h : Fin 16, headTerm o w r k h)
      = Ideal.ofBits .f32 0x3FD744FD#32 * x (ix3 0 r k) + heads o w gate (ix2 r k) := fun k => by rw [headsAt, postSum]
  simp only [h, hp]
  generalize heads o w gate = y
  pointwise [k0_pay1, k0_pay8, lnorm, mean]

/-- One element of a grid point's block is the reference's element there. -/
theorem point (c : Dev nD) (t : Fin cfg0.N) (y : S1x512x1024.Idx) (j : S4x4096x1024.Idx) (hj0 : (j 0 : ℕ) = t.val / 8)
    (hj1 : (j 1 : ℕ) = t.val % 8 * 512 + y 1) (hj2 : (j 2 : ℕ) = y 2) :
    out0_6 (F := Ideal) (iblk m c 0 t) (iblk m c 1 t) (iblk m c 2 t) (iblk m c 3 t) (iblk m c 4 t) (iblk m c 5 t) y
      = Cert.Reference7Ideal.Read.val_main_v37 (F := Ideal) (argO m c) (argW m c) (argX m c) (argGate m c) (argG m c) (argB m c) j := by
  idx_vars y
  idx_vars j
  obtain rfl : j2 = y2 := Fin.ext hj2
  obtain rfl : y0 = 0 := Subsingleton.elim _ _
  refine (stored _ _ _ _ _ _ y1 j2).trans (Eq.trans ?_ (Cert.Reference7Ideal.HeadsPostnorm.out _ _ _ _ _ _ j0 j1 j2).symm)
  rw [gAt, bAt]
  refine congrArg (fun f => lnorm _ f _ _ _) (funext fun k => ?_)
  rw [xAt m c t y1 k j0 j1 hj0 hj1, gateAt m c t k j0 hj0]
  refine congrArg (postSum _ _) ?_
  unfold headTerm
  refine Fin.sum_mul_add_congr fun h e hl => ?_
  have h0 : (⟨(h * 64 + e : ℕ) / 64, by omega⟩ : Fin 16) = h := Fin.ext (by simp only []; omega)
  have h1 : (⟨(h * 64 + e : ℕ) % 64, by omega⟩ : Fin 64) = e := Fin.ext (by simp only []; omega)
  rw [oAt m c t h y1 e j0 j1 hj0 hj1, wAt m c t h e k ⟨h * 64 + e, hl⟩ rfl]
  exact congrArg (fun x => x * _) (by rw [h0, h1])

/-- The kernel's result array is the reference's. -/
theorem final (c : Dev nD) : (dats m 0 c).arrAt 6 (cfgs 0).N
    = Cert.Reference7Ideal.Read.val_main_v37 (F := Ideal) (argO m c) (argW m c) (argX m c) (argGate m c) (argG m c) (argB m c) := by
  refine (dats m 0 c).arrAt_eq_of_covers 6 _ (by decide +kernel) fun t _ y => ?_
  blk_simp
  rw [after0_6]
  refine point m c t y _ ?_ ?_ ?_
  all_goals (blk_simp [idx_val t] <;> try omega)

end Cert.Kernel7Ideal.HeadsPostnorm

end
-- ==== Proof.RouterValue.lean ====
/- The router: the kernel's array is the reference's. -/
module

public import proofs.«01_k».proof.Proof.Gen.Kernel8Ideal.Frame
public import proofs.«01_k».proof.Proof.Gen.Reference8Ideal.Read
public import proofs.«01_k».proof.Proof.RowNorm
public import proofs.«01_k».proof.Proof.SoftmaxSplit
public import Idealize.ShloMosaic.Lib.Pointwise
public import Idealize.ShloMosaic.Lib.Claim
public import Idealize.ShloMosaic.Lib.Pipeline.ValueKit

@[expose] public section

set_option maxRecDepth 16384

noncomputable section

namespace Cert.Reference8Ideal.Router

open Cert.Reference8Ideal Cert.Reference8Ideal.Gen Cert.Reference8Ideal.Read Idealize.ShloMosaic Idealize.SL.Sem
open Cert.RowNorm

/-- One logit. -/
theorem logit (x0 : FVec Ideal S4x4096x1024 .f32) (x1 x2 : FVec Ideal S4x1x1024 .f32) (x3 : FVec Ideal S4x1024x16 .f32)
    (b : Fin 4) (l : Fin 4096) (e : Fin 16) :
    val_main_v8 (F := Ideal) x0 x1 x2 x3 (ix3 b l e)
      = ∑ k : Fin 1024, modEntry (x0 (ix3 b l k)) (x1 (ix3 b 0 k)) (x2 (ix3 b 0 k)) * x3 (ix3 3 k e) := by
  unfold val_main_v8 val_main_v7 val_main_v6 val_main_v5 val_main_v4 val_main_v3 val_main_v2 val_main_v1 val_main_v0 val_main_cst
  pointwise [modEntry]

/-- A token's largest logit, over any array of logits. -/
theorem rowMax (x : FVec Ideal S4x4096x16 .f32) (b : Fin 4) (l : Fin 4096) :
    Host.reduce FloatOps.maximumf x (constant (F := Ideal) S_ .f32 0xFF800000#32) reducesTo_S4x4096x16_S4x4096_d2 h_S_ (ix2 b l)
      = Finset.fold max (Ideal.ofBits .f32 0xFF800000#32) (fun e => x (ix3 b l e)) Finset.univ := by
  pointwise []

/-- The softmax's numerators, over any array of logits and any array subtracted from its rows. -/
theorem numer (x : FVec Ideal S4x4096x16 .f32) (y : FVec Ideal S4x4096 .f32) (b : Fin 4) (l : Fin 4096) (e : Fin 16) :
    Host.exp (F := Ideal) (subf x (broadcastInDim S4x4096x16 ![0, 1, 2] bcast_S4x4096x1_S4x4096x16_0_1_2
        (broadcastInDim S4x4096x1 ![0, 1] bcast_S4x4096_S4x4096x1_0_1
          (maximumf (broadcastInDim S4x4096 ![] bcast_S_S4x4096 (constant S_ .f32 0xFF800000#32)) y)))) (ix3 b l e)
      = Ideal.exp (x (ix3 b l e) - max (Ideal.ofBits .f32 0xFF800000#32) (y (ix2 b l))) := by
  pointwise []

/-- The softmax's numerators of this program's logits. -/
theorem expo (x0 : FVec Ideal S4x4096x1024 .f32) (x1 x2 : FVec Ideal S4x1x1024 .f32) (x3 : FVec Ideal S4x1024x16 .f32)
    (b : Fin 4) (l : Fin 4096) (e : Fin 16) :
    val_main_v15 (F := Ideal) x0 x1 x2 x3 (ix3 b l e) = expEntry (fun e => val_main_v8 (F := Ideal) x0 x1 x2 x3 (ix3 b l e)) e := by
  unfold val_main_v15 val_main_v14 val_main_v13 val_main_v12 val_main_v11 val_main_v10 val_main_cst_1 val_main_v9 val_main_cst_0
  refine (numer _ _ b l e).trans ?_
  rw [rowMax, SoftmaxSplit.ofBits_neg_inf, max_eq_right bot_le]
  rfl

/-- The reference at an index. -/
theorem out (x0 : FVec Ideal S4x4096x1024 .f32) (x1 x2 : FVec Ideal S4x1x1024 .f32) (x3 : FVec Ideal S4x1024x16 .f32)
    (b : Fin 4) (e : Fin 16) (l : Fin 4096) :
    val_main_v20 (F := Ideal) x0 x1 x2 x3 (ix3 b e l)
      = softEntry (fun e => ∑ k : Fin 1024, modEntry (x0 (ix3 b l k)) (x1 (ix3 b 0 k)) (x2 (ix3 b 0 k)) * x3 (ix3 3 k e)) e := by
  have h : val_main_v20 (F := Ideal) x0 x1 x2 x3 (ix3 b e l)
      = Ideal.div (val_main_v15 (F := Ideal) x0 x1 x2 x3 (ix3 b l e)) (∑ e, val_main_v15 (F := Ideal) x0 x1 x2 x3 (ix3 b l e)) := by
    unfold val_main_v20 val_main_v19 val_main_v18 val_main_v17 val_main_v16 val_main_cst_2
    pointwise []
  simp only [h, expo, logit, softEntry]

end Cert.Reference8Ideal.Router

namespace Cert.Kernel8Ideal.Router

open Cert.Kernel8Ideal Cert.Kernel8Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the router's weights. -/
abbrev argX (c : Dev nD) : FVec Ideal S4x4096x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S4x1024x16 .f32 := m ((c : Thread nD τ).loc main_arg3)

/-- The block each window holds: batch entry `t / 8`, tokens `t % 8`. -/
theorem idx_val : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![t.val / 8, 0, t.val % 8] :=
  (by decide +kernel : ∀ t : Fin grid0.N, _)

theorem xAt (c : Dev nD) (t : Fin cfg0.N) (r : Fin 512) (k : Fin 1024) (b : Fin 4) (l : Fin 4096) (hb : (b : ℕ) = t.val / 8)
    (hl : (l : ℕ) = t.val % 8 * 512 + r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val / 8) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val / 8) :
    iblk m c 2 t (ix3 0 0 k) = argScale m c (ix3 b 0 k) := by
  blk_simp [iblk]
  entry_read
  blk_ext [idx_val t]

theorem weights (c : Dev nD) (e : Fin 16) (k : Fin 1024) : V m c main_v3 (ix2 e k) = argW m c (ix3 3 k e) := by
  simp only [V, V0, hostOps0, List.flatten_cons, List.flatten_nil, List.append_nil]
  entry_read
  pointwise []

theorem wAt (c : Dev nD) (t : Fin cfg0.N) (e : Fin 16) (k : Fin 1024) :
    iblk m c 3 t (ix2 e k) = argW m c (ix3 3 k e) := by
  refine Eq.trans ?_ (weights m c e k)
  blk_simp [iblk]
  blk_ext [idx_val t]

/-- What one grid point stores, from its blocks. -/
theorem stored (x : FVec Ideal S1x512x1024 .f32) (shift scale : FVec Ideal S1x1x1024 .f32) (w : FVec Ideal S16x1024 .bf16)
    (e : Fin 16) (r : Fin 512) :
    out0_4 (F := Ideal) x shift scale w (ix3 0 e r)
      = softEntry (fun e => ∑ k : Fin 1024, w (ix2 e k) * modEntry (x (ix3 0 r k)) (shift (ix3 0 0 k)) (scale (ix3 0 0 k))) e := by
  unfold out0_4
  rw [View.canon_unit_zero zero3]
  rw [View.ld_unit_zero zero3, View.ld_unit_zero zero3, View.ld_unit_zero zero3, View.ld_unit_zero zero2]
  pointwise [k0_pay1, modEntry, softEntry, expEntry, SoftmaxSplit.ofBits_neg_inf]

/-- One element of a grid point's block is the reference's element there. -/
theorem point (c : Dev nD) (t : Fin cfg0.N) (y : S1x16x512.Idx) (j : S4x16x4096.Idx) (hj0 : (j 0 : ℕ) = t.val / 8)
    (hj1 : (j 1 : ℕ) = y 1) (hj2 : (j 2 : ℕ) = t.val % 8 * 512 + y 2) :
    out0_4 (F := Ideal) (iblk m c 0 t) (iblk m c 1 t) (iblk m c 2 t) (iblk m c 3 t) y
      = Cert.Reference8Ideal.Read.val_main_v20 (F := Ideal) (argX m c) (argShift m c) (argScale m c) (argW m c) j := by
  idx_vars y
  idx_vars j
  obtain rfl : j1 = y1 := Fin.ext hj1
  obtain rfl : y0 = 0 := Subsingleton.elim _ _
  refine (stored _ _ _ _ j1 y2).trans (Eq.trans ?_ (Cert.Reference8Ideal.Router.out _ _ _ _ j0 j1 j2).symm)
  refine congrArg (fun f => softEntry f _) (funext fun e => Finset.sum_congr rfl fun k _ => ?_)
  rw [xAt m c t y2 k j0 j2 hj0 hj2, shiftAt m c t k j0 hj0, scaleAt m c t k j0 hj0, wAt m c t e k]
  exact mul_comm _ _

/-- The kernel's result array is the reference's. -/
theorem final (c : Dev nD) : (dats m 0 c).arrAt 4 (cfgs 0).N
    = Cert.Reference8Ideal.Read.val_main_v20 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

/-! ## The rows each expert takes: the host's choice, from the same array -/

/-- The router's array as the host finds it after the call. -/
theorem found (c : Dev nD) : Pipeline.withArrays (cfgs 0).spec c (V0 m c) (fun w => (dats m 0 c).arrAt w (cfgs 0).N) (Proc.devRef .tc main_v4)
    = Cert.Reference8Ideal.Read.val_main_v20 (F := Ideal) (argX m c) (argShift m c) (argScale m c) (argW m c) :=
  (Pipeline.withArrays_arr spec0 (by decide) c (V0 m c) (fun w => (dats m 0 c).arrAt w (cfgs 0).N) 4).trans (final m c)

/-- The chosen probabilities, the gates. -/
theorem gates (c : Dev nD) : Pipeline.afterTail₀ cfgs (dats m) 0 (V0 m) [hostOps1] c main_values
    = Cert.Reference8Ideal.Read.val_main_values (F := Ideal) (argX m c) (argShift m c) (argScale m c) (argW m c) := by
  unfold Pipeline.afterTail₀ Cert.Reference8Ideal.Read.val_main_values
  rw [← found m c]
  generalize Pipeline.withArrays (cfgs 0).spec c (V0 m c) (fun w => (dats m 0 c).arrAt w (cfgs 0).N) = W
  after_results
  rfl

/-- The chosen rows. -/
theorem rows (c : Dev nD) : Pipeline.afterTail₀ cfgs (dats m) 0 (V0 m) [hostOps1] c main_indices
    = Cert.Reference8Ideal.Read.val_main_indices (F := Ideal) (argX m c) (argShift m c) (argScale m c) (argW m c) := by
  unfold Pipeline.afterTail₀ Cert.Reference8Ideal.Read.val_main_indices
  rw [← found m c]
  generalize Pipeline.withArrays (cfgs 0).spec c (V0 m c) (fun w => (dats m 0 c).arrAt w (cfgs 0).N) = W
  after_results
  rfl

/-- The program leaves the reference's three arrays. -/
theorem run (ρ : Dev nD → PrngReg) : θ_run defs (onTc (τ := τ) (main (F := Ideal))) ⟨m, fun _ => 0, ρ⟩ fun r => ∀ c : Dev nD,
      r.2.mem ((c : Thread nD τ).loc main_v4) = Cert.Reference8Ideal.Read.val_main_v20 (F := Ideal) (argX m c) (argShift m c) (argScale m c) (argW m c)
      ∧ r.2.mem ((c : Thread nD τ).loc main_values) = Cert.Reference8Ideal.Read.val_main_values (F := Ideal) (argX m c) (argShift m c) (argScale m c) (argW m c)
      ∧ r.2.mem ((c : Thread nD τ).loc main_indices) = Cert.Reference8Ideal.Read.val_main_indices (F := Ideal) (argX m c) (argShift m c) (argScale m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).2 main_values (Pipeline.mem_restRefs_of main_values (by decide) (by decide))).trans (gates m c),
      ((h c).2 main_indices (Pipeline.mem_restRefs_of main_indices (by decide) (by decide))).trans (rows m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Kernel8Ideal.Router

end
-- ==== Proof.QkvMatmulValue.lean ====
/- The projection to the queries, the keys and the values: the kernel's array is the reference's. -/
module

public import proofs.«01_k».proof.Proof.Gen.Kernel9Ideal.Value
public import proofs.«01_k».proof.Proof.Gen.Reference9Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference9Ideal.QkvMatmul

open Cert.Reference9Ideal Cert.Reference9Ideal.Gen Cert.Reference9Ideal.Read Idealize.ShloMosaic Idealize.SL.Sem
open Cert.RowNorm

/-- The reference at an index. -/
theorem out (x0 : FVec Ideal S4x4096x1024 .f32) (x1 x2 : FVec Ideal S4x1x1024 .f32) (x3 : FVec Ideal S1x1024x1536 .f32)
    (b : Fin 4) (l : Fin 4096) (d : Fin 1536) :
    val_main_v7 (F := Ideal) x0 x1 x2 x3 (ix3 b l d)
      = ∑ k : Fin 1024, modEntry (x0 (ix3 b l k)) (x1 (ix3 b 0 k)) (x2 (ix3 b 0 k)) * x3 (ix3 0 k d) := by
  unfold val_main_v7 val_main_v6 val_main_v5 val_main_v4 val_main_v3 val_main_v2 val_main_v1 val_main_v0 val_main_cst
  pointwise [modEntry]

end Cert.Reference9Ideal.QkvMatmul

namespace Cert.Kernel9Ideal.QkvMatmul

open Cert.Kernel9Ideal Cert.Kernel9Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the projection's weights. -/
abbrev argX (c : Dev nD) : FVec Ideal S4x4096x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S1x1024x1536 .f32 := m ((c : Thread nD τ).loc main_arg3)

/-- The block each window holds: batch entry `t / 8`, rows `t % 8`. -/
theorem idx_val : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![t.val / 8, t.val % 8, 0] :=
  (by decide +kernel : ∀ t : Fin grid0.N, _)

theorem xAt (c : Dev nD) (t : Fin cfg0.N) (r : Fin 512) (k : Fin 1024) (b : Fin 4) (l : Fin 4096) (hb : (b : ℕ) = t.val / 8)
    (hl : (l : ℕ) = t.val % 8 * 512 + r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val / 8) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val / 8) :
    iblk m c 2 t (ix3 0 0 k) = argScale m c (ix3 b 0 k) := by
  blk_simp [iblk]
  entry_read
  blk_ext [idx_val t]

theorem wAt (c : Dev nD) (t : Fin cfg0.N) (k : Fin 1024) (d : Fin 1536) :
    iblk m c 3 t (ix2 k d) = argW m c (ix3 0 k d) := by
  blk_simp [iblk]
  entry_read
  pointwise []
  blk_ext [idx_val t]

/-- What one grid point stores, from its blocks. -/
theorem stored (x : FVec Ideal S1x512x1024 .f32) (shift scale : FVec Ideal S1x1x1024 .f32) (w : FVec Ideal S1024x1536 .bf16)
    (r : Fin 512) (d : Fin 1536) :
    out0_4 (F := Ideal) x shift scale w (ix3 0 r d)
      = ∑ k : Fin 1024, modEntry (x (ix3 0 r k)) (shift (ix3 0 0 k)) (scale (ix3 0 0 k)) * w (ix2 k d) := by
  unfold out0_4
  rw [View.canon_unit_zero zero3]
  rw [View.ld_unit_zero zero3, View.ld_unit_zero zero3, View.ld_unit_zero zero3, View.ld_unit_zero zero2]
  pointwise [k0_pay1, modEntry]

/-- One element of a grid point's block is the reference's element there. -/
theorem point (c : Dev nD) (t : Fin cfg0.N) (y : S1x512x1536.Idx) (j : S4x4096x1536.Idx) (hj0 : (j 0 : ℕ) = t.val / 8)
    (hj1 : (j 1 : ℕ) = t.val % 8 * 512 + y 1) (hj2 : (j 2 : ℕ) = y 2) :
    out0_4 (F := Ideal) (iblk m c 0 t) (iblk m c 1 t) (iblk m c 2 t) (iblk m c 3 t) y
      = Cert.Reference9Ideal.Read.val_main_v7 (F := Ideal) (argX m c) (argShift m c) (argScale m c) (argW m c) j := by
  idx_vars y
  idx_vars j
  obtain rfl : j2 = y2 := Fin.ext hj2
  obtain rfl : y0 = 0 := Subsingleton.elim _ _
  refine (stored _ _ _ _ y1 j2).trans (Eq.trans ?_ (Cert.Reference9Ideal.QkvMatmul.out _ _ _ _ j0 j1 j2).symm)
  refine Finset.sum_congr rfl fun k _ => ?_
  rw [xAt m c t y1 k j0 j1 hj0 hj1, shiftAt m c t k j0 hj0, scaleAt m c t k j0 hj0, wAt m c t k j2]

/-- The kernel's result array is the reference's. -/
theorem final (c : Dev nD) : (dats m 0 c).arrAt 4 (cfgs 0).N
    = Cert.Reference9Ideal.Read.val_main_v7 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

end Cert.Kernel9Ideal.QkvMatmul

end
-- ==== Proof.ShortConvValue.lean ====
/- The Hyena mixer's short convolution: the kernel's array is the reference's. -/
module

public import proofs.«01_k».proof.Proof.Gen.Kernel10Ideal.Value
public import proofs.«01_k».proof.Proof.Gen.Reference10Ideal.Read
public import proofs.«01_k».proof.Proof.RowNorm
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.ShortConv

/-- The entry before `l` in a column of 4096, zero before the first. -/
def before (col : Fin 4096 → EReal) (l : Fin 4096) : EReal :=
  if h : 1 ≤ (l : ℕ) then col ⟨l - 1, by omega⟩ else 0

/-- The entry after `l` in a column of 4096, zero after the last. -/
def behind (col : Fin 4096 → EReal) (l : Fin 4096) : EReal :=
  if h : (l : ℕ) + 1 < 4096 then col ⟨l + 1, h⟩ else 0

/-- Three taps around `l`, and the bias. -/
def taps (col : Fin 4096 → EReal) (w0 w1 w2 bias : EReal) (l : Fin 4096) : EReal :=
  before col l * w0 + col l * w1 + behind col l * w2 + bias

end Cert.ShortConv

namespace Cert.Reference10Ideal.ShortConv

open Cert.Reference10Ideal Cert.Reference10Ideal.Gen Cert.Reference10Ideal.Read Idealize.ShloMosaic Idealize.SL.Sem
open Cert.RowNorm Cert.ShortConv

/-- The padded column read one row back. -/
theorem before_eq (col : Fin 4096 → EReal) (l : Fin 4096) (z : EReal) (hz : z = 0) :
    (if h : 1 ≤ (l : ℕ) ∧ (l : ℕ) - 1 < 4096 then col ⟨l - 1, h.2⟩ else z) = before col l := by
  subst hz
  unfold before
  by_cases h : 1 ≤ (l : ℕ)
  · rw [dif_pos h, dif_pos ⟨h, by omega⟩]
  · rw [dif_neg h, dif_neg fun h' => h h'.1]

/-- The padded column read one row ahead. -/
theorem behind_eq (col : Fin 4096 → EReal) (l : Fin 4096) (z : EReal) (hz : z = 0) :
    (if h : 1 ≤ 2 + (l : ℕ) ∧ 2 + (l : ℕ) - 1 < 4096 then col ⟨2 + l - 1, h.2⟩ else z) = behind col l := by
  subst hz
  unfold behind
  by_cases h : (l : ℕ) + 1 < 4096
  · rw [dif_pos h, dif_pos ⟨by omega, by omega⟩]
    exact congrArg col (Fin.ext (by show 2 + (l : ℕ) - 1 = l + 1; omega))
  · rw [dif_neg h, dif_neg fun h' => h (by omega)]

/-- The padding value is zero. -/
theorem pad_zero : (FloatOps.sitofp (F := Ideal) FTy.f32 (0#32) : EReal) = 0 := by
  simp [FloatOps.sitofp]

/-- The convolution at an index. -/
theorem conv (x : FVec Ideal S4x4096x3072 .f32) (w : FVec Ideal S2x3x3072 .f32) (bias : FVec Ideal S2x3072 .f32)
    (b : Fin 4) (l : Fin 4096) (d : Fin 3072) :
    val_main_v29 (F := Ideal) x w bias (ix3 b l d)
      = taps (fun r => x (ix3 b r d)) (w (ix3 1 0 d)) (w (ix3 1 1 d)) (w (ix3 1 2 d)) (bias (ix2 1 d)) l := by
  unfold val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2
    val_main_v1 val_main_v0 val_main_cst val_main_call0_v0 val_main_c
  pointwise []
  unfold taps
  rw [← before_eq (fun r => x (ix3 b r d)) l _ pad_zero, ← behind_eq (fun r => x (ix3 b r d)) l _ pad_zero]

/-- The three parts put one after another. -/
theorem stack (x : FVec Ideal S4x4096x3072 .f32) (w : FVec Ideal S2x3x3072 .f32) (bias : FVec Ideal S2x3072 .f32)
    (s : Fin 3) (b : Fin 4) (l : Fin 4096) (d : Fin 1024) (e : Fin 3072) (he : (e : ℕ) = s * 1024 + d) :
    val_main_v36 (F := Ideal) x w bias (ix4 s b l d) = val_main_v29 (F := Ideal) x w bias (ix3 b l e) := by
  unfold val_main_v36 val_main_v35 val_main_v34 val_main_v33 val_main_v32 val_main_v31 val_main_v30
  generalize val_main_v29 (F := Ideal) x w bias = y
  pointwise []
  split_ifs with h0 h1
  · exact congrArg (fun k => y (ix3 b l k)) (Fin.ext (by show (d : ℕ) = e; omega))
  · exact congrArg (fun k => y (ix3 b l k)) (Fin.ext (by show 1024 + (d : ℕ) = e; omega))
  · exact congrArg (fun k => y (ix3 b l k)) (Fin.ext (by show 2048 + (d : ℕ) = e; omega))

end Cert.Reference10Ideal.ShortConv

namespace Cert.Kernel10Ideal.ShortConv

open Cert.Kernel10Ideal Cert.Kernel10Ideal.Gen Idealize.ShloMosaic Idealize.ShloMosaic.TcCoe Idealize.SL.Sem
open Cert.RowNorm Cert.ShortConv

variable (m : (ℓ : Loc nD τ sig) → Buf (Elt Ideal) ℓ)

/-- The arguments at their plain types: the projected stream, the taps, the biases. -/
abbrev argP (c : Dev nD) : FVec Ideal S4x4096x3072 .f32 := m ((c : Thread nD τ).loc main_arg0)
abbrev argW (c : Dev nD) : FVec Ideal S2x3x3072 .f32 := m ((c : Thread nD τ).loc main_arg1)
abbrev argB (c : Dev nD) : FVec Ideal S2x3072 .f32 := m ((c : Thread nD τ).loc main_arg2)

/-- The block each window holds: batch entry `t / 4 % 4`, columns `t / 16 * 4 + t % 4` of the twelve groups of 256. -/
theorem idx_val : ∀ t : Fin cfg0.N, win0_0.index t = ![t.val / 4 % 4, 0, t.val / 16 * 4 + t.val % 4]
    ∧ win0_1.index t = ![0, t.val / 16 * 4 + t.val % 4] ∧ win0_2.index t = ![0, t.val / 16 * 4 + t.val % 4]
    ∧ win0_3.index t = ![t.val / 16, t.val / 4 % 4, 0, t.val % 4] :=
  (by decide +kernel : ∀ t : Fin grid0.N, _)

theorem pAt (c : Dev nD) (t : Fin cfg0.N) (l : Fin 4096) (d : Fin 256) (b : Fin 4) (e : Fin 3072) (hb : (b : ℕ) = t.val / 4 % 4)
    (he : (e : ℕ) = (t.val / 16 * 4 + t.val % 4) * 256 + d) :
    iblk m c 0 t (ix3 0 l d) = argP m c (ix3 b l e) := by
  blk_simp [iblk]
  entry_read
  blk_ext [idx_val t]

theorem wAt (c : Dev nD) (t : Fin cfg0.N) (k : Fin 3) (d : Fin 256) (e : Fin 3072)
    (he : (e : ℕ) = (t.val / 16 * 4 + t.val % 4) * 256 + d) :
    iblk m c 1 t (ix2 k d) = argW m c (ix3 1 k e) := by
  blk_simp [iblk]
  entry_read
  pointwise []
  blk_ext [idx_val t]

theorem bAt (c : Dev nD) (t : Fin cfg0.N) (d : Fin 256) (e : Fin 3072)
    (he : (e : ℕ) = (t.val / 16 * 4 + t.val % 4) * 256 + d) :
    iblk m c 2 t (ix2 0 d) = argB m c (ix2 1 e) := by
  blk_simp [iblk]
  entry_read
  pointwise []
  blk_ext [idx_val t]

/-- A column rotated one row down, past its first entry. -/
theorem rotated_down (x : FVec Ideal S4096x256 .f32) (l : Fin 4096) (d : Fin 256) (h : 1 ≤ (l : ℕ)) :
    dynamicRotate 0 1#32 none x rotates_S4096x256_d0 (ix2 l d) = x (ix2 (⟨l - 1, by omega⟩ : Fin 4096) d) := by
  refine dynamicRotate_apply 0 1#32 x rotates_S4096x256_d0 (ix2 l d) _ fun b => ?_
  have := l.isLt
  match b with
  | ⟨0, _⟩ => show (l : ℕ) - 1 = ((l : ℕ) + 4096 - 1 % 4096) % 4096; omega
  | ⟨1, _⟩ => rfl

/-- A column rotated one row up, before its last entry. -/
theorem rotated_up (x : FVec Ideal S4096x256 .f32) (l : Fin 4096) (d : Fin 256) (h : (l : ℕ) + 1 < 4096) :
    dynamicRotate 0 4095#32 none x rotates_S4096x256_d0 (ix2 l d) = x (ix2 (⟨l + 1, h⟩ : Fin 4096) d) := by
  refine dynamicRotate_apply 0 4095#32 x rotates_S4096x256_d0 (ix2 l d) _ fun b => ?_
  have := l.isLt
  match b with
  | ⟨0, _⟩ => show (l : ℕ) + 1 = ((l : ℕ) + 4096 - 4095 % 4096) % 4096; omega
  | ⟨1, _⟩ => rfl

/-- A choice by whether the row is the `k`-th. -/
theorem select_row (l : Fin 4096) (k : ℕ) (hk : k < 4096) (a b : EReal) :
    Scalar.select (IntOp.cmpi .eq (BitVec.ofNat 32 l) (BitVec.ofNat 32 k)) a b = if (l : ℕ) = k then a else b := by
  have := l.isLt
  rw [WordCmp.cmpi_eq_ofNat (by omega) (by omega)]
  by_cases h : (l : ℕ) = k <;> simp [h, Scalar.select]

/-- What one grid point stores, from its blocks. -/
theorem payload (x : FVec Ideal S1x4096x256 .f32) (w : FVec Ideal S3x256 .f32) (bias : FVec Ideal S1x256 .f32)
    (l : Fin 4096) (d : Fin 256) :
    k0_pay1 (F := Ideal) x w bias (ix4 0 0 l d)
      = taps (fun r => x (ix3 0 r d)) (w (ix2 0 d)) (w (ix2 1 d)) (w (ix2 2 d)) (bias (ix2 0 d)) l := by
  have hx : ∀ r : Fin 4096, shapeCast S4096x256 x shapeCasts_S1x4096x256_S4096x256 (ix2 r d) = x (ix3 0 r d) := fun r => by
    pointwise []
  have hdown := rotated_down (shapeCast S4096x256 x shapeCasts_S1x4096x256_S4096x256) l d
  have hup := rotated_up (shapeCast S4096x256 x shapeCasts_S1x4096x256_S4096x256) l d
  unfold k0_pay1
  generalize dynamicRotate 0 1#32 none (shapeCast S4096x256 x shapeCasts_S1x4096x256_S4096x256) rotates_S4096x256_d0 = down at hdown ⊢
  generalize dynamicRotate 0 4095#32 none (shapeCast S4096x256 x shapeCasts_S1x4096x256_S4096x256) rotates_S4096x256_d0 = up at hup ⊢
  pointwise []
  unfold taps
  refine congrArg (· + bias (ix2 0 d)) (congrArg₂ (· + ·) (congrArg (· + x (ix3 0 l d) * w (ix2 1 d)) ?_) ?_)
  · refine (select_row l 0 (by omega) _ _).trans ?_
    unfold before
    by_cases h : 1 ≤ (l : ℕ)
    · rw [if_neg (by omega), dif_pos h, hdown h, hx]
    · rw [if_pos (by omega), dif_neg h, zero_mul]
  · refine (select_row l 4095 (by omega) _ _).trans ?_
    unfold behind
    by_cases h : (l : ℕ) + 1 < 4096
    · rw [if_neg (by omega), dif_pos h, hup h, hx]
    · rw [if_pos (by omega), dif_neg h, zero_mul]

theorem zero4 : (![0, 0, 0, 0] : Fin 4 → ℕ) = fun _ => 0 := by decide

theorem stored (x : FVec Ideal S1x4096x256 .f32) (w : FVec Ideal S3x256 .f32) (bias : FVec Ideal S1x256 .f32)
    (l : Fin 4096) (d : Fin 256) :
    out0_3 (F := Ideal) x w bias (ix4 0 0 l d)
      = taps (fun r => x (ix3 0 r d)) (w (ix2 0 d)) (w (ix2 1 d)) (w (ix2 2 d)) (bias (ix2 0 d)) l := by
  unfold out0_3
  rw [View.canon_unit_zero zero4]
  rw [View.ld_unit_zero zero3, View.ld_unit_zero zero2, View.ld_unit_zero zero2]
  exact payload x w bias l d

/-- One element of a grid point's block is the reference's element there. -/
theorem point (c : Dev nD) (t : Fin cfg0.N) (y : S1x1x4096x256.Idx) (j : S3x4x4096x1024.Idx) (hj0 : (j 0 : ℕ) = t.val / 16)
    (hj1 : (j 1 : ℕ) = t.val / 4 % 4) (hj2 : (j 2 : ℕ) = y 2) (hj3 : (j 3 : ℕ) = t.val % 4 * 256 + y 3) :
    out0_3 (F := Ideal) (iblk m c 0 t) (iblk m c 1 t) (iblk m c 2 t) y
      = Cert.Reference10Ideal.Read.val_main_v36 (F := Ideal) (argP m c) (argW m c) (argB m c) j := by
  idx_vars y
  idx_vars j
  obtain rfl : j2 = y2 := Fin.ext hj2
  obtain rfl : y0 = 0 := Subsingleton.elim _ _
  obtain rfl : y1 = 0 := Subsingleton.elim _ _
  change (j0 : ℕ) = _ at hj0
  change (j1 : ℕ) = _ at hj1
  change (j3 : ℕ) = t.val % 4 * 256 + (y3 : ℕ) at hj3
  have h0 := j0.isLt
  have h3 := j3.isLt
  have he : ((⟨j0 * 1024 + j3, by omega⟩ : Fin 3072) : ℕ) = (t.val / 16 * 4 + t.val % 4) * 256 + y3 := by
    show (j0 : ℕ) * 1024 + j3 = _
    omega
  refine (stored _ _ _ j2 y3).trans (Eq.trans ?_ ((Cert.Reference10Ideal.ShortConv.stack _ _ _ j0 j1 j2 j3 ⟨j0 * 1024 + j3, by omega⟩
    rfl).trans (Cert.Reference10Ideal.ShortConv.conv _ _ _ j1 j2 _)).symm)
  rw [wAt m c t 0 y3 _ he, wAt m c t 1 y3 _ he, wAt m c t 2 y3 _ he, bAt m c t y3 _ he]
  exact congrArg (fun col => taps col _ _ _ _ j2) (funext fun r => pAt m c t r y3 j1 _ hj1 he)

/-- The kernel's result array is the reference's. -/
theorem final (c : Dev nD) : (dats m 0 c).arrAt 3 (cfgs 0).N
    = Cert.Reference10Ideal.Read.val_main_v36 (F := Ideal) (argP m c) (argW m c) (argB m c) := by
  refine (dats m 0 c).arrAt_eq_of_covers 3 _ (by decide +kernel) fun t _ y => ?_
  blk_simp
  rw [after0_3]
  refine point m c t y _ ?_ ?_ ?_ ?_
  all_goals (blk_simp [idx_val t] <;> try omega)

end Cert.Kernel10Ideal.ShortConv

end
-- ==== Proof.PrepRows.lean ====
/- A head's RMS norm and rotation over the extended reals, and the sums by which the kernel takes a head's squares. -/
module

public import proofs.«01_k».proof.Proof.SoftmaxSplit
public import Idealize.ShloMosaic.PureOps
public import Idealize.ShloMosaic.Lib.Pointwise

@[expose] public section

noncomputable section

namespace Cert.Prep

open Idealize.ShloMosaic Cert.SoftmaxSplit

/-- The rotation's frequency `d`: the base to the power of minus `d` sixteenths. -/
def freq (d : ℕ) : EReal :=
  Ideal.pow (Ideal.ofBits FTy.f32 1176256512#32)
    (Ideal.div (-FloatOps.sitofp (F := Ideal) FTy.f32 (BitVec.ofNat 32 d)) (Ideal.ofBits FTy.f32 1098907648#32))

/-- The angle of position `l` at frequency `d`: its row on the grid for the first sixteen, its column for the others. -/
def angle (l d : ℕ) : EReal :=
  if d < 16 then FloatOps.sitofp (F := Ideal) FTy.f32 (BitVec.ofNat 32 (l / 64)) * freq d
  else FloatOps.sitofp (F := Ideal) FTy.f32 (BitVec.ofNat 32 (l % 64)) * freq (d - 16)

/-- Entry `j` of a head's RMS norm with gain `g`. -/
def rms (f g : Fin 64 → EReal) (j : Fin 64) : EReal :=
  f j * Ideal.rsqrt (Ideal.div (∑ k, f k * f k) (Ideal.ofBits FTy.f32 1115684864#32) + Ideal.ofBits FTy.f32 897988541#32) * g j

/-- Entry `j` of a head turned by the angles of position `l`: the two halves are the two coordinates. -/
def turn (u : Fin 64 → EReal) (l : ℕ) (j : Fin 64) : EReal :=
  if h : (j : ℕ) < 32 then u j * Ideal.cos (angle l j) - u ⟨j + 32, by omega⟩ * Ideal.sin (angle l j)
  else u ⟨j - 32, by omega⟩ * Ideal.sin (angle l (j - 32)) + u j * Ideal.cos (angle l (j - 32))

/-- The values' row with a one after it and zeros behind. -/
def oneAfter (f : Fin 64 → EReal) (j : Fin 128) : EReal :=
  if h : (j : ℕ) < 64 then f ⟨j, h⟩ else if (j : ℕ) = 64 then 1 else 0

theorem ofBits_64th : Ideal.ofBits .f32 0x3C800000#32 = ((1 / 64 : ℝ) : EReal) := by
  simp [Ideal.ofBits, Ideal.ieee, -EReal.coe_mul]
  norm_num

theorem ofBits_64 : Ideal.ofBits .f32 1115684864#32 = ((64 : ℝ) : EReal) := by
  simp [Ideal.ofBits, Ideal.ieee, -EReal.coe_mul]
  norm_num

/-- The product with a sixty-fourth is the quotient by 64. -/
theorem mul_64th (x : EReal) : x * Ideal.ofBits .f32 0x3C800000#32 = Ideal.div x (Ideal.ofBits .f32 1115684864#32) := by
  rw [ofBits_64, Ideal.div_coe (by norm_num), ofBits_64th]

/-- A row against the ones of its own head's block is the head's sum. -/
theorem block_sum {n : ℕ} (s : Fin n → EReal) (p : ℕ) (hp : p * 64 + 64 ≤ n) :
    ∑ k : Fin n, s k * (if (k : ℕ) / 64 = p then (1 : EReal) else 0) = ∑ j : Fin 64, s ⟨p * 64 + j, by omega⟩ := by
  simp only [mul_ite, mul_one, mul_zero]
  rw [← Finset.sum_filter]
  symm
  refine Finset.sum_bij (fun (j : Fin 64) _ => (⟨p * 64 + j, by omega⟩ : Fin n)) ?_ ?_ ?_ ?_
  · intro j _
    simp only [Finset.mem_filter, Finset.mem_univ, true_and]
    omega
  · intro a _ b _ h
    have := congrArg Fin.val h
    exact Fin.ext (by simpa using this)
  · intro k hk
    simp only [Finset.mem_filter, Finset.mem_univ, true_and] at hk
    exact ⟨⟨k - p * 64, by omega⟩, Finset.mem_univ _, Fin.ext (by simp; omega)⟩
  · intro j _
    rfl

/-- A real number less itself is zero. -/
theorem sub_self_real {x : EReal} (h : IsReal x) : x - x = 0 := by
  obtain ⟨r, rfl⟩ := h
  rw [← EReal.coe_sub, sub_self, EReal.coe_zero]

/-- The kernel's mean of squares at a lane of head `p`: rounded squares and their rests, each against the block of ones. -/
theorem mean_square {n : ℕ} (s b : Fin n → EReal) (p : ℕ) (hp : p * 64 + 64 ≤ n) (hs : ∀ k, IsReal (s k))
    (hb : ∀ k, b k = if (k : ℕ) / 64 = p then (1 : EReal) else 0) :
    ((∑ k, s k * b k) + ∑ k, (s k - s k) * b k) * Ideal.ofBits .f32 0x3C800000#32
      = Ideal.div (∑ j : Fin 64, s ⟨p * 64 + j, by omega⟩) (Ideal.ofBits .f32 1115684864#32) := by
  rw [mul_64th]
  simp only [sub_self_real (hs _), zero_mul, Finset.sum_const_zero, add_zero, hb]
  rw [block_sum s p hp]

end Cert.Prep

end
-- ==== Proof.PrepTurn.lean ====
/- One grid point of the preparation kernel: the norm and the rotation of a head's entry. -/
module

public import proofs.«01_k».proof.Proof.Gen.Kernel11Ideal.Value
public import proofs.«01_k».proof.Proof.PrepRows
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Cert.Prep Cert.SoftmaxSplit

/-- A table of 128 lanes repeated over 1024. -/
theorem repeated1024 (v : FVec Ideal S256x128 .f32) (r : Fin 256) (d : Fin 1024) :
    concatenate S256x1024 1 [⟨S256x128, v⟩, ⟨S256x128, v⟩, ⟨S256x128, v⟩, ⟨S256x128, v⟩, ⟨S256x128, v⟩, ⟨S256x128, v⟩, ⟨S256x128, v⟩, ⟨S256x128, v⟩] concatenates_S256x128_S256x128_S256x128_S256x128_S256x128_S256x128_S256x128_S256x128_S256x1024_d1 (ix2 r d)
      = v (ix2 r (⟨d % 128, by omega⟩ : Fin 128)) :=
  concatenate_replicate_apply (t := S256x1024) 1 8 v concatenates_S256x128_S256x128_S256x128_S256x128_S256x128_S256x128_S256x128_S256x128_S256x1024_d1 rfl (ix2 r d) _ rfl fun b hb => by
    match b with
    | ⟨0, _⟩ => rfl
    | ⟨1, _⟩ => exact absurd rfl hb

/-- A row of 1024 lanes rotated by 992: 32 lanes ahead. -/
theorem ahead1024 (x : FVec Ideal S256x1024 .f32) (r : Fin 256) (d : Fin 1024) (h : (d : ℕ) + 32 < 1024) :
    dynamicRotate 1 992#32 none x rotates_S256x1024_d1 (ix2 r d) = x (ix2 r (⟨d + 32, h⟩ : Fin 1024)) := by
  refine dynamicRotate_apply 1 992#32 x rotates_S256x1024_d1 (ix2 r d) _ fun b => ?_
  have := d.isLt
  match b with
  | ⟨0, _⟩ => rfl
  | ⟨1, _⟩ => show (d : ℕ) + 32 = ((d : ℕ) + 1024 - 992 % 1024) % 1024; omega

/-- A row of 1024 lanes rotated by 32: 32 lanes back. -/
theorem back1024 (x : FVec Ideal S256x1024 .f32) (r : Fin 256) (d : Fin 1024) (h : 32 ≤ (d : ℕ)) :
    dynamicRotate 1 32#32 none x rotates_S256x1024_d1 (ix2 r d) = x (ix2 r (⟨d - 32, by omega⟩ : Fin 1024)) := by
  refine dynamicRotate_apply 1 32#32 x rotates_S256x1024_d1 (ix2 r d) _ fun b => ?_
  have := d.isLt
  match b with
  | ⟨0, _⟩ => rfl
  | ⟨1, _⟩ => show (d : ℕ) - 32 = ((d : ℕ) + 1024 - 32 % 1024) % 1024; omega

/-- A choice by whether the lane is in the first half of its head. -/
theorem select_low1024 (d : Fin 1024) (a b : EReal) :
    Scalar.select (IntOp.cmpi .slt (IntOp.andi (BitVec.ofNat 32 d) 63#32) 32#32) a b = if (d : ℕ) % 64 < 32 then a else b := by
  have h : ∀ d : Fin 1024, IntOp.cmpi .slt (IntOp.andi (BitVec.ofNat 32 d) 63#32) 32#32 = if (d : ℕ) % 64 < 32 then 1#1 else 0#1 := by
    decide +kernel
  rw [h d]
  split_ifs <;> rfl

/-- The rotation at a head's entry, from the normed heads `n` and the two tables. -/
theorem turned1024 (n : FVec Ideal S256x1024 .f32) (cs sn : FVec Ideal S256x128 .f32) (u : Fin 64 → EReal) (l : ℕ) (r : Fin 256)
    (h : Fin 16) (j : Fin 64) (hn : ∀ i : Fin 64, n (ix2 r (⟨h * 64 + i, by omega⟩ : Fin 1024)) = u i)
    (hc : ∀ d : Fin 128, cs (ix2 r d) = Ideal.cos (angle l (d % 32)))
    (hs : ∀ d : Fin 128, sn (ix2 r d) = if (d : ℕ) % 64 < 32 then -Ideal.sin (angle l (d % 32)) else Ideal.sin (angle l (d % 32))) :
    addf (mulf n (concatenate S256x1024 1 [⟨S256x128, shapeCast S256x128 cs shapeCasts_S256x128_S256x128⟩, ⟨S256x128, shapeCast S256x128 cs shapeCasts_S256x128_S256x128⟩, ⟨S256x128, shapeCast S256x128 cs shapeCasts_S256x128_S256x128⟩, ⟨S256x128, shapeCast S256x128 cs shapeCasts_S256x128_S256x128⟩, ⟨S256x128, shapeCast S256x128 cs shapeCasts_S256x128_S256x128⟩, ⟨S256x128, shapeCast S256x128 cs shapeCasts_S256x128_S256x128⟩, ⟨S256x128, shapeCast S256x128 cs shapeCasts_S256x128_S256x128⟩, ⟨S256x128, shapeCast S256x128 cs shapeCasts_S256x128_S256x128⟩] concatenates_S256x128_S256x128_S256x128_S256x128_S256x128_S256x128_S256x128_S256x128_S256x1024_d1))
        (mulf (select (cmpi .slt (andi (iota .tc S256x1024 32 [1] iota_S256x1024_d1_w32) (broadcast S256x1024 63#32)) (broadcast S256x1024 32#32))
            (dynamicRotate 1 992#32 none n rotates_S256x1024_d1) (dynamicRotate 1 32#32 none n rotates_S256x1024_d1))
          (concatenate S256x1024 1 [⟨S256x128, shapeCast S256x128 sn shapeCasts_S256x128_S256x128⟩, ⟨S256x128, shapeCast S256x128 sn shapeCasts_S256x128_S256x128⟩, ⟨S256x128, shapeCast S256x128 sn shapeCasts_S256x128_S256x128⟩, ⟨S256x128, shapeCast S256x128 sn shapeCasts_S256x128_S256x128⟩, ⟨S256x128, shapeCast S256x128 sn shapeCasts_S256x128_S256x128⟩, ⟨S256x128, shapeCast S256x128 sn shapeCasts_S256x128_S256x128⟩, ⟨S256x128, shapeCast S256x128 sn shapeCasts_S256x128_S256x128⟩, ⟨S256x128, shapeCast S256x128 sn shapeCasts_S256x128_S256x128⟩] concatenates_S256x128_S256x128_S256x128_S256x128_S256x128_S256x128_S256x128_S256x128_S256x1024_d1))
        (ix2 r (⟨h * 64 + j, by omega⟩ : Fin 1024))
      = turn u l j := by
  have hcs := repeated1024 (shapeCast S256x128 cs shapeCasts_S256x128_S256x128) r ⟨h * 64 + j, by omega⟩
  have hsn := repeated1024 (shapeCast S256x128 sn shapeCasts_S256x128_S256x128) r ⟨h * 64 + j, by omega⟩
  have ha := ahead1024 n r ⟨h * 64 + j, by omega⟩
  have hb := back1024 n r ⟨h * 64 + j, by omega⟩
  rw [shapeCast_self] at hcs hsn
  rw [shapeCast_self, shapeCast_self]
  generalize concatenate S256x1024 1 [⟨S256x128, cs⟩, ⟨S256x128, cs⟩, ⟨S256x128, cs⟩, ⟨S256x128, cs⟩, ⟨S256x128, cs⟩, ⟨S256x128, cs⟩, ⟨S256x128, cs⟩, ⟨S256x128, cs⟩] concatenates_S256x128_S256x128_S256x128_S256x128_S256x128_S256x128_S256x128_S256x128_S256x1024_d1 = tc at hcs ⊢
  generalize concatenate S256x1024 1 [⟨S256x128, sn⟩, ⟨S256x128, sn⟩, ⟨S256x128, sn⟩, ⟨S256x128, sn⟩, ⟨S256x128, sn⟩, ⟨S256x128, sn⟩, ⟨S256x128, sn⟩, ⟨S256x128, sn⟩] concatenates_S256x128_S256x128_S256x128_S256x128_S256x128_S256x128_S256x128_S256x128_S256x1024_d1 = ts at hsn ⊢
  generalize dynamicRotate 1 992#32 none n rotates_S256x1024_d1 = na at ha ⊢
  generalize dynamicRotate 1 32#32 none n rotates_S256x1024_d1 = nb at hb ⊢
  pointwise []
  by_cases hj : (j : ℕ) < 32
  · have e1 := (select_low1024 ⟨h * 64 + j, by omega⟩ (na (ix2 r ⟨h * 64 + j, by omega⟩)) (nb (ix2 r ⟨h * 64 + j, by omega⟩))).trans
      ((if_pos (by show ((h : ℕ) * 64 + j) % 64 < 32; omega)).trans ((ha (by show (h : ℕ) * 64 + j + 32 < 1024; omega)).trans
        ((congrArg (fun k => n (ix2 r k)) (Fin.ext (by show (h : ℕ) * 64 + j + 32 = h * 64 + (j + 32); omega))).trans
          (hn ⟨j + 32, by omega⟩))))
    have e2 := hcs.trans ((hc _).trans (congrArg (fun k => Ideal.cos (angle l k))
      (by show ((h : ℕ) * 64 + j) % 128 % 32 = j; omega)))
    have e3 := hsn.trans ((hs _).trans ((if_pos (by show ((h : ℕ) * 64 + j) % 128 % 64 < 32; omega)).trans
      (congrArg (fun k => -Ideal.sin (angle l k)) (by show ((h : ℕ) * 64 + j) % 128 % 32 = j; omega))))
    refine (congrArg₂ (· + ·) (congrArg₂ (· * ·) (hn j) e2) (congrArg₂ (· * ·) e1 e3)).trans ?_
    unfold turn
    rw [dif_pos hj, sub_eq_add_neg, ← mul_neg]
  · have e1 := (select_low1024 ⟨h * 64 + j, by omega⟩ (na (ix2 r ⟨h * 64 + j, by omega⟩)) (nb (ix2 r ⟨h * 64 + j, by omega⟩))).trans
      ((if_neg (by show ¬((h : ℕ) * 64 + j) % 64 < 32; omega)).trans ((hb (by show 32 ≤ (h : ℕ) * 64 + j; omega)).trans
        ((congrArg (fun k => n (ix2 r k)) (Fin.ext (by show (h : ℕ) * 64 + j - 32 = h * 64 + (j - 32); omega))).trans
          (hn ⟨j - 32, by omega⟩))))
    have e2 := hcs.trans ((hc _).trans (congrArg (fun k => Ideal.cos (angle l k))
      (by show ((h : ℕ) * 64 + j) % 128 % 32 = j - 32; omega)))
    have e3 := hsn.trans ((hs _).trans ((if_neg (by show ¬((h : ℕ) * 64 + j) % 128 % 64 < 32; omega)).trans
      (congrArg (fun k => Ideal.sin (angle l k)) (by show ((h : ℕ) * 64 + j) % 128 % 32 = j - 32; omega))))
    refine (congrArg₂ (· + ·) (congrArg₂ (· * ·) (hn j) e2) (congrArg₂ (· * ·) e1 e3)).trans ?_
    unfold turn
    rw [dif_neg hj, add_comm]

/-- A table of 128 lanes repeated over 256. -/
theorem repeated256 (v : FVec Ideal S256x128 .f32) (r : Fin 256) (d : Fin 256) :
    concatenate S256x256 1 [⟨S256x128, v⟩, ⟨S256x128, v⟩] concatenates_S256x128_S256x128_S256x256_d1 (ix2 r d)
      = v (ix2 r (⟨d % 128, by omega⟩ : Fin 128)) :=
  concatenate_replicate_apply (t := S256x256) 1 2 v concatenates_S256x128_S256x128_S256x256_d1 rfl (ix2 r d) _ rfl fun b hb => by
    match b with
    | ⟨0, _⟩ => rfl
    | ⟨1, _⟩ => exact absurd rfl hb

/-- A row of 256 lanes rotated by 224: 32 lanes ahead. -/
theorem ahead256 (x : FVec Ideal S256x256 .f32) (r : Fin 256) (d : Fin 256) (h : (d : ℕ) + 32 < 256) :
    dynamicRotate 1 224#32 none x rotates_S256x256_d1 (ix2 r d) = x (ix2 r (⟨d + 32, h⟩ : Fin 256)) := by
  refine dynamicRotate_apply 1 224#32 x rotates_S256x256_d1 (ix2 r d) _ fun b => ?_
  have := d.isLt
  match b with
  | ⟨0, _⟩ => rfl
  | ⟨1, _⟩ => show (d : ℕ) + 32 = ((d : ℕ) + 256 - 224 % 256) % 256; omega

/-- A row of 256 lanes rotated by 32: 32 lanes back. -/
theorem back256 (x : FVec Ideal S256x256 .f32) (r : Fin 256) (d : Fin 256) (h : 32 ≤ (d : ℕ)) :
    dynamicRotate 1 32#32 none x rotates_S256x256_d1 (ix2 r d) = x (ix2 r (⟨d - 32, by omega⟩ : Fin 256)) := by
  refine dynamicRotate_apply 1 32#32 x rotates_S256x256_d1 (ix2 r d) _ fun b => ?_
  have := d.isLt
  match b with
  | ⟨0, _⟩ => rfl
  | ⟨1, _⟩ => show (d : ℕ) - 32 = ((d : ℕ) + 256 - 32 % 256) % 256; omega

/-- A choice by whether the lane is in the first half of its head. -/
theorem select_low256 (d : Fin 256) (a b : EReal) :
    Scalar.select (IntOp.cmpi .slt (IntOp.andi (BitVec.ofNat 32 d) 63#32) 32#32) a b = if (d : ℕ) % 64 < 32 then a else b := by
  have h : ∀ d : Fin 256, IntOp.cmpi .slt (IntOp.andi (BitVec.ofNat 32 d) 63#32) 32#32 = if (d : ℕ) % 64 < 32 then 1#1 else 0#1 := by
    decide +kernel
  rw [h d]
  split_ifs <;> rfl

/-- The rotation at a head's entry, from the normed heads `n` and the two tables. -/
theorem turned256 (n : FVec Ideal S256x256 .f32) (cs sn : FVec Ideal S256x128 .f32) (u : Fin 64 → EReal) (l : ℕ) (r : Fin 256)
    (h : Fin 4) (j : Fin 64) (hn : ∀ i : Fin 64, n (ix2 r (⟨h * 64 + i, by omega⟩ : Fin 256)) = u i)
    (hc : ∀ d : Fin 128, cs (ix2 r d) = Ideal.cos (angle l (d % 32)))
    (hs : ∀ d : Fin 128, sn (ix2 r d) = if (d : ℕ) % 64 < 32 then -Ideal.sin (angle l (d % 32)) else Ideal.sin (angle l (d % 32))) :
    addf (mulf n (concatenate S256x256 1 [⟨S256x128, shapeCast S256x128 cs shapeCasts_S256x128_S256x128⟩, ⟨S256x128, shapeCast S256x128 cs shapeCasts_S256x128_S256x128⟩] concatenates_S256x128_S256x128_S256x256_d1))
        (mulf (select (cmpi .slt (andi (iota .tc S256x256 32 [1] iota_S256x256_d1_w32) (broadcast S256x256 63#32)) (broadcast S256x256 32#32))
            (dynamicRotate 1 224#32 none n rotates_S256x256_d1) (dynamicRotate 1 32#32 none n rotates_S256x256_d1))
          (concatenate S256x256 1 [⟨S256x128, shapeCast S256x128 sn shapeCasts_S256x128_S256x128⟩, ⟨S256x128, shapeCast S256x128 sn shapeCasts_S256x128_S256x128⟩] concatenates_S256x128_S256x128_S256x256_d1))
        (ix2 r (⟨h * 64 + j, by omega⟩ : Fin 256))
      = turn u l j := by
  have hcs := repeated256 (shapeCast S256x128 cs shapeCasts_S256x128_S256x128) r ⟨h * 64 + j, by omega⟩
  have hsn := repeated256 (shapeCast S256x128 sn shapeCasts_S256x128_S256x128) r ⟨h * 64 + j, by omega⟩
  have ha := ahead256 n r ⟨h * 64 + j, by omega⟩
  have hb := back256 n r ⟨h * 64 + j, by omega⟩
  rw [shapeCast_self] at hcs hsn
  rw [shapeCast_self, shapeCast_self]
  generalize concatenate S256x256 1 [⟨S256x128, cs⟩, ⟨S256x128, cs⟩] concatenates_S256x128_S256x128_S256x256_d1 = tc at hcs ⊢
  generalize concatenate S256x256 1 [⟨S256x128, sn⟩, ⟨S256x128, sn⟩] concatenates_S256x128_S256x128_S256x256_d1 = ts at hsn ⊢
  generalize dynamicRotate 1 224#32 none n rotates_S256x256_d1 = na at ha ⊢
  generalize dynamicRotate 1 32#32 none n rotates_S256x256_d1 = nb at hb ⊢
  pointwise []
  by_cases hj : (j : ℕ) < 32
  · have e1 := (select_low256 ⟨h * 64 + j, by omega⟩ (na (ix2 r ⟨h * 64 + j, by omega⟩)) (nb (ix2 r ⟨h * 64 + j, by omega⟩))).trans
      ((if_pos (by show ((h : ℕ) * 64 + j) % 64 < 32; omega)).trans ((ha (by show (h : ℕ) * 64 + j + 32 < 256; omega)).trans
        ((congrArg (fun k => n (ix2 r k)) (Fin.ext (by show (h : ℕ) * 64 + j + 32 = h * 64 + (j + 32); omega))).trans
          (hn ⟨j + 32, by omega⟩))))
    have e2 := hcs.trans ((hc _).trans (congrArg (fun k => Ideal.cos (angle l k))
      (by show ((h : ℕ) * 64 + j) % 128 % 32 = j; omega)))
    have e3 := hsn.trans ((hs _).trans ((if_pos (by show ((h : ℕ) * 64 + j) % 128 % 64 < 32; omega)).trans
      (congrArg (fun k => -Ideal.sin (angle l k)) (by show ((h : ℕ) * 64 + j) % 128 % 32 = j; omega))))
    refine (congrArg₂ (· + ·) (congrArg₂ (· * ·) (hn j) e2) (congrArg₂ (· * ·) e1 e3)).trans ?_
    unfold turn
    rw [dif_pos hj, sub_eq_add_neg, ← mul_neg]
  · have e1 := (select_low256 ⟨h * 64 + j, by omega⟩ (na (ix2 r ⟨h * 64 + j, by omega⟩)) (nb (ix2 r ⟨h * 64 + j, by omega⟩))).trans
      ((if_neg (by show ¬((h : ℕ) * 64 + j) % 64 < 32; omega)).trans ((hb (by show 32 ≤ (h : ℕ) * 64 + j; omega)).trans
        ((congrArg (fun k => n (ix2 r k)) (Fin.ext (by show (h : ℕ) * 64 + j - 32 = h * 64 + (j - 32); omega))).trans
          (hn ⟨j - 32, by omega⟩))))
    have e2 := hcs.trans ((hc _).trans (congrArg (fun k => Ideal.cos (angle l k))
      (by show ((h : ℕ) * 64 + j) % 128 % 32 = j - 32; omega)))
    have e3 := hsn.trans ((hs _).trans ((if_neg (by show ¬((h : ℕ) * 64 + j) % 128 % 64 < 32; omega)).trans
      (congrArg (fun k => Ideal.sin (angle l k)) (by show ((h : ℕ) * 64 + j) % 128 % 32 = j - 32; omega))))
    refine (congrArg₂ (· + ·) (congrArg₂ (· * ·) (hn j) e2) (congrArg₂ (· * ·) e1 e3)).trans ?_
    unfold turn
    rw [dif_neg hj, add_comm]

/-- The queries' heads after the norm. -/
theorem normedQ (x : FVec Ideal S1x256x1536 .f32) (o : FVec Ideal S1024x1024 .bf16) (g : FVec Ideal S1x1024 .f32) (gain : Fin 64 → EReal)
    (r : Fin 256) (h : Fin 16) (j : Fin 64) (hx : ∀ k : Fin 1024, IsReal (x (ix3 0 r (⟨k, by omega⟩ : Fin 1536))))
    (ho : ∀ k d : Fin 1024, o (ix2 k d) = if (k : ℕ) / 64 = d / 64 then (1 : EReal) else 0)
    (hg : ∀ d : Fin 1024, g (ix2 0 d) = gain (⟨d % 64, by omega⟩ : Fin 64)) :
    k0_pay5 (F := Ideal) x o g (ix2 r (⟨h * 64 + j, by omega⟩ : Fin 1024))
      = rms (fun i => x (ix3 0 r (⟨h * 64 + i, by omega⟩ : Fin 1536))) gain j := by
  unfold k0_pay5 k0_pay4
  pointwise []
  unfold rms
  refine congrArg₂ (· * ·) (congrArg (fun z => x (ix3 0 r (⟨h * 64 + j, by omega⟩ : Fin 1536)) * Ideal.rsqrt (z + Ideal.ofBits FTy.f32 897988541#32)) ?_) ?_
  · exact mean_square (n := 1024) (fun k => x (ix3 0 r (⟨k, by omega⟩ : Fin 1536)) * x (ix3 0 r (⟨k, by omega⟩ : Fin 1536))) (fun k => o (ix2 k (⟨h * 64 + j, by omega⟩ : Fin 1024))) h
      (by omega) (fun k => fin_mul (hx k) (hx k)) fun k => (ho k _).trans
        (if_congr (by show (k : ℕ) / 64 = ((h : ℕ) * 64 + j) / 64 ↔ (k : ℕ) / 64 = h; omega) rfl rfl)
  · exact (hg _).trans (congrArg gain (Fin.ext (by show ((h : ℕ) * 64 + j) % 64 = j; omega)))

/-- The queries after the norm, the rotation and the scale. -/
theorem bodyQ (x : FVec Ideal S1x256x1536 .f32) (o : FVec Ideal S1024x1024 .bf16) (g : FVec Ideal S1x1024 .f32) (gain : Fin 64 → EReal)
    (cs sn : FVec Ideal S256x128 .f32) (l : ℕ)
    (r : Fin 256) (h : Fin 16) (j : Fin 64) (hx : ∀ k : Fin 1024, IsReal (x (ix3 0 r (⟨k, by omega⟩ : Fin 1536))))
    (ho : ∀ k d : Fin 1024, o (ix2 k d) = if (k : ℕ) / 64 = d / 64 then (1 : EReal) else 0)
    (hg : ∀ d : Fin 1024, g (ix2 0 d) = gain (⟨d % 64, by omega⟩ : Fin 64))
    (hc : ∀ d : Fin 128, cs (ix2 r d) = Ideal.cos (angle l (d % 32)))
    (hs : ∀ d : Fin 128, sn (ix2 r d) = if (d : ℕ) % 64 < 32 then -Ideal.sin (angle l (d % 32)) else Ideal.sin (angle l (d % 32))) :
    k0_pay8 (F := Ideal) (k0_pay6 x o g cs) (k0_pay7 x o g sn) (ix2 r (⟨h * 64 + j, by omega⟩ : Fin 1024))
      = turn (rms (fun i => x (ix3 0 r (⟨h * 64 + i, by omega⟩ : Fin 1536))) gain) l j * Ideal.ofBits FTy.f32 1040187392#32 :=
  congrArg (· * Ideal.ofBits FTy.f32 1040187392#32)
    (turned1024 (k0_pay5 x o g) cs sn _ l r h j (fun i => normedQ x o g gain r h i hx ho hg) hc hs)

/-- The keys after the norm and the rotation. -/
theorem bodyK (x : FVec Ideal S1x256x1536 .f32) (o : FVec Ideal S256x256 .bf16) (g : FVec Ideal S1x256 .f32) (gain : Fin 64 → EReal)
    (cs sn : FVec Ideal S256x128 .f32) (l : ℕ)
    (r : Fin 256) (h : Fin 4) (j : Fin 64) (hx : ∀ k : Fin 256, IsReal (x (ix3 0 r (⟨1024 + k, by omega⟩ : Fin 1536))))
    (ho : ∀ k d : Fin 256, o (ix2 k d) = if (k : ℕ) / 64 = d / 64 then (1 : EReal) else 0)
    (hg : ∀ d : Fin 256, g (ix2 0 d) = gain (⟨d % 64, by omega⟩ : Fin 64))
    (hc : ∀ d : Fin 128, cs (ix2 r d) = Ideal.cos (angle l (d % 32)))
    (hs : ∀ d : Fin 128, sn (ix2 r d) = if (d : ℕ) % 64 < 32 then -Ideal.sin (angle l (d % 32)) else Ideal.sin (angle l (d % 32))) :
    k0_pay34 (F := Ideal) (k0_pay27 (k0_pay4 x)) (k0_pay28 o) (k0_pay29 g) (k0_pay32 (k0_pay4 x)) (k0_pay33 (k0_pay4 x) o) cs sn
        (ix2 r (⟨h * 64 + j, by omega⟩ : Fin 256))
      = turn (rms (fun i => x (ix3 0 r (⟨1024 + (h * 64 + i), by omega⟩ : Fin 1536))) gain) l j := by
  refine turned256 _ cs sn _ l r h j (fun i => ?_) hc hs
  unfold k0_pay33 k0_pay32 k0_pay31 k0_pay30 k0_pay29 k0_pay28 k0_pay27 k0_pay4
  pointwise []
  unfold rms
  refine congrArg₂ (· * ·) (congrArg (fun z => x (ix3 0 r (⟨1024 + (h * 64 + i), by omega⟩ : Fin 1536)) * Ideal.rsqrt (z + Ideal.ofBits FTy.f32 897988541#32)) ?_) ?_
  · exact mean_square (n := 256) (fun k => x (ix3 0 r (⟨1024 + k, by omega⟩ : Fin 1536)) * x (ix3 0 r (⟨1024 + k, by omega⟩ : Fin 1536))) (fun k => o (ix2 k (⟨h * 64 + i, by omega⟩ : Fin 256))) h
      (by omega) (fun k => fin_mul (hx k) (hx k)) fun k => (ho k _).trans
        (if_congr (by show (k : ℕ) / 64 = ((h : ℕ) * 64 + i) / 64 ↔ (k : ℕ) / 64 = h; omega) rfl rfl)
  · exact (hg _).trans (congrArg gain (Fin.ext (by show ((h : ℕ) * 64 + i) % 64 = i; omega)))

end Cert.Kernel11Ideal.Prep

end
-- ==== Proof.PrepPoint.lean ====
/- What one grid point of the preparation kernel leaves in the three results' blocks. -/
module

public import proofs.«01_k».proof.Proof.PrepTurn
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Cert.Prep Cert.SoftmaxSplit

theorem zero3 : (![0, 0, 0] : Fin 3 → ℕ) = fun _ => 0 := funext fun a => by fin_cases a <;> rfl

theorem zero2 : (![0, 0] : Fin 2 → ℕ) = fun _ => 0 := funext fun a => by fin_cases a <;> rfl

/-- An index of a one-head block by its row and column. -/
theorem row_col (x : S1x1x256x64.Idx) (r : Fin 256) (d : Fin 64) (h2 : (r : ℕ) = x 2) (h3 : (d : ℕ) = x 3) : x = ix4 0 0 r d := by
  blk_ext

theorem row_colV (x : S1x1x256x128.Idx) (r : Fin 256) (d : Fin 128) (h2 : (r : ℕ) = x 2) (h3 : (d : ℕ) = x 3) : x = ix4 0 0 r d := by
  blk_ext

theorem cutQ0 (a b : FVec Ideal S256x1024 .f32) (r : Fin 256) (d : Fin 64) :
    k0_pay9 (F := Ideal) a b (ix4 0 0 r d) = k0_pay8 a b (ix2 r (⟨0 + d, by omega⟩ : Fin 1024)) := by
  unfold k0_pay9
  generalize k0_pay8 (F := Ideal) a b = q
  pointwise []

theorem cutQ1 (a b : FVec Ideal S256x1024 .f32) (r : Fin 256) (d : Fin 64) :
    k0_pay10 (F := Ideal) a b (ix4 0 0 r d) = k0_pay8 a b (ix2 r (⟨64 + d, by omega⟩ : Fin 1024)) := by
  unfold k0_pay10
  generalize k0_pay8 (F := Ideal) a b = q
  pointwise []

theorem cutQ2 (a b : FVec Ideal S256x1024 .f32) (r : Fin 256) (d : Fin 64) :
    k0_pay11 (F := Ideal) a b (ix4 0 0 r d) = k0_pay8 a b (ix2 r (⟨128 + d, by omega⟩ : Fin 1024)) := by
  unfold k0_pay11
  generalize k0_pay8 (F := Ideal) a b = q
  pointwise []

theorem cutQ3 (a b : FVec Ideal S256x1024 .f32) (r : Fin 256) (d : Fin 64) :
    k0_pay12 (F := Ideal) a b (ix4 0 0 r d) = k0_pay8 a b (ix2 r (⟨192 + d, by omega⟩ : Fin 1024)) := by
  unfold k0_pay12
  generalize k0_pay8 (F := Ideal) a b = q
  pointwise []

theorem cutQ4 (a b : FVec Ideal S256x1024 .f32) (r : Fin 256) (d : Fin 64) :
    k0_pay13 (F := Ideal) a b (ix4 0 0 r d) = k0_pay8 a b (ix2 r (⟨256 + d, by omega⟩ : Fin 1024)) := by
  unfold k0_pay13
  generalize k0_pay8 (F := Ideal) a b = q
  pointwise []

theorem cutQ5 (a b : FVec Ideal S256x1024 .f32) (r : Fin 256) (d : Fin 64) :
    k0_pay15 (F := Ideal) (k0_pay14 a b) (ix4 0 0 r d) = k0_pay8 a b (ix2 r (⟨320 + d, by omega⟩ : Fin 1024)) := by
  unfold k0_pay15 k0_pay14
  generalize k0_pay8 (F := Ideal) a b = q
  pointwise []

theorem cutQ6 (q : FVec Ideal S256x1024 .f32) (r : Fin 256) (d : Fin 64) :
    k0_pay16 (F := Ideal) q (ix4 0 0 r d) = q (ix2 r (⟨384 + d, by omega⟩ : Fin 1024)) := by
  unfold k0_pay16
  pointwise []

theorem cutQ7 (q : FVec Ideal S256x1024 .f32) (r : Fin 256) (d : Fin 64) :
    k0_pay17 (F := Ideal) q (ix4 0 0 r d) = q (ix2 r (⟨448 + d, by omega⟩ : Fin 1024)) := by
  unfold k0_pay17
  pointwise []

theorem cutQ8 (q : FVec Ideal S256x1024 .f32) (r : Fin 256) (d : Fin 64) :
    k0_pay18 (F := Ideal) q (ix4 0 0 r d) = q (ix2 r (⟨512 + d, by omega⟩ : Fin 1024)) := by
  unfold k0_pay18
  pointwise []

theorem cutQ9 (q : FVec Ideal S256x1024 .f32) (r : Fin 256) (d : Fin 64) :
    k0_pay19 (F := Ideal) q (ix4 0 0 r d) = q (ix2 r (⟨576 + d, by omega⟩ : Fin 1024)) := by
  unfold k0_pay19
  pointwise []

theorem cutQ10 (q : FVec Ideal S256x1024 .f32) (r : Fin 256) (d : Fin 64) :
    k0_pay20 (F := Ideal) q (ix4 0 0 r d) = q (ix2 r (⟨640 + d, by omega⟩ : Fin 1024)) := by
  unfold k0_pay20
  pointwise []

theorem cutQ11 (q : FVec Ideal S256x1024 .f32) (r : Fin 256) (d : Fin 64) :
    k0_pay22 (F := Ideal) (k0_pay21 q) (ix4 0 0 r d) = q (ix2 r (⟨704 + d, by omega⟩ : Fin 1024)) := by
  unfold k0_pay22 k0_pay21
  pointwise []

theorem cutQ12 (q : FVec Ideal S256x1024 .f32) (r : Fin 256) (d : Fin 64) :
    k0_pay23 (F := Ideal) q (ix4 0 0 r d) = q (ix2 r (⟨768 + d, by omega⟩ : Fin 1024)) := by
  unfold k0_pay23
  pointwise []

theorem cutQ13 (q : FVec Ideal S256x1024 .f32) (r : Fin 256) (d : Fin 64) :
    k0_pay24 (F := Ideal) q (ix4 0 0 r d) = q (ix2 r (⟨832 + d, by omega⟩ : Fin 1024)) := by
  unfold k0_pay24
  pointwise []

theorem cutQ14 (q : FVec Ideal S256x1024 .f32) (r : Fin 256) (d : Fin 64) :
    k0_pay25 (F := Ideal) q (ix4 0 0 r d) = q (ix2 r (⟨896 + d, by omega⟩ : Fin 1024)) := by
  unfold k0_pay25
  pointwise []

theorem cutQ15 (q : FVec Ideal S256x1024 .f32) (r : Fin 256) (d : Fin 64) :
    k0_pay26 (F := Ideal) q (ix4 0 0 r d) = q (ix2 r (⟨960 + d, by omega⟩ : Fin 1024)) := by
  unfold k0_pay26
  pointwise []

theorem cutK0 (a : FVec Ideal S256x256 .f32) (o : FVec Ideal S256x256 .bf16) (g : FVec Ideal S1x256 .f32) (w : FVec Ideal S256x256 .bf16)
    (v : FVec Ideal S256x256 .f32) (cs sn : FVec Ideal S256x128 .f32) (r : Fin 256) (d : Fin 64) :
    k0_pay35 (F := Ideal) a o g w v cs sn (ix4 0 0 r d) = k0_pay34 a o g w v cs sn (ix2 r (⟨0 + d, by omega⟩ : Fin 256)) := by
  unfold k0_pay35
  generalize k0_pay34 (F := Ideal) a o g w v cs sn = k
  pointwise []

theorem cutK1 (k : FVec Ideal S256x256 .f32) (r : Fin 256) (d : Fin 64) :
    k0_pay38 (F := Ideal) k (ix4 0 0 r d) = k (ix2 r (⟨64 + d, by omega⟩ : Fin 256)) := by
  unfold k0_pay38
  pointwise []

theorem cutK2 (k : FVec Ideal S256x256 .f32) (r : Fin 256) (d : Fin 64) :
    k0_pay40 (F := Ideal) k (ix4 0 0 r d) = k (ix2 r (⟨128 + d, by omega⟩ : Fin 256)) := by
  unfold k0_pay40
  pointwise []

theorem cutK3 (k : FVec Ideal S256x256 .f32) (r : Fin 256) (d : Fin 64) :
    k0_pay2 (F := Ideal) k (ix4 0 0 r d) = k (ix2 r (⟨192 + d, by omega⟩ : Fin 256)) := by
  unfold k0_pay2
  pointwise []

variable (x0 : FVec Ideal S1x256x1536 .f32) (x1 x2 : FVec Ideal S256x128 .f32) (x3 : FVec Ideal S1x1024 .f32)
  (x4 : FVec Ideal S1024x1024 .bf16) (x5 : FVec Ideal S1x256 .f32) (x6 : FVec Ideal S256x256 .bf16)

/-- The queries' matrix that the sixteen stores cut into heads. -/
abbrev matQ : FVec Ideal S256x1024 .f32 := k0_pay8 (k0_pay6 x0 x4 x3 x1) (k0_pay7 x0 x4 x3 x2)

theorem matQ_eq : k0_pay8 (F := Ideal) (k0_pay43 x0 x1 x2 x3 x4 x5 x6) (k0_pay44 x0 x1 x2 x3 x4 x5 x6) = matQ x0 x1 x2 x3 x4 := by
  unfold k0_pay43 k0_pay44
  rw [View.ld_unit_zero zero3, View.ld_unit_zero zero2, View.ld_unit_zero zero2, View.ld_unit_zero zero2, View.ld_unit_zero zero2]

/-- The keys' matrix that the four stores cut into heads. -/
abbrev matK : FVec Ideal S256x256 .f32 :=
  k0_pay34 (k0_pay27 (k0_pay4 x0)) (k0_pay28 x6) (k0_pay29 x5) (k0_pay32 (k0_pay4 x0)) (k0_pay33 (k0_pay4 x0) x6) x1 x2

theorem matK_eq : k0_pay52 (F := Ideal) x0 x1 x2 x3 x4 x5 x6 = matK x0 x1 x2 x5 x6 := by
  unfold k0_pay52 k0_pay50 k0_pay49 k0_pay48 k0_pay47 k0_pay46 k0_pay42
  rw [View.ld_unit_zero zero3, View.ld_unit_zero zero2, View.ld_unit_zero zero2, View.ld_unit_zero zero2, View.ld_unit_zero zero2]

/-- What the sixteen stores leave in the queries' block. -/
theorem storedQ (y : S1x16x256x64.Idx) (h : Fin 16) (r : Fin 256) (d : Fin 64) (eh : (y 1 : ℕ) = h) (er : (y 2 : ℕ) = r)
    (ed : (y 3 : ℕ) = d) :
    out0_7 (F := Ideal) x0 x1 x2 x3 x4 x5 x6 y = matQ x0 x1 x2 x3 x4 (ix2 r (⟨h * 64 + d, by omega⟩ : Fin 1024)) := by
  have hq : ∀ e : Fin 1024, (e : ℕ) = h * 64 + d →
      matQ x0 x1 x2 x3 x4 (ix2 r e) = matQ x0 x1 x2 x3 x4 (ix2 r (⟨h * 64 + d, by omega⟩ : Fin 1024)) :=
    fun e he => congrArg (fun e => matQ x0 x1 x2 x3 x4 (ix2 r e)) (Fin.ext he)
  rw [← matQ_eq x0 x1 x2 x3 x4 x5 x6] at hq ⊢
  canon_tiles x h
  case piece0 =>
    rw [row_col x r d (er.symm.trans h2) (ed.symm.trans h3), cutQ15]
    exact hq _ (by show 960 + (d : ℕ) = h * 64 + d; omega)
  case piece1 =>
    rw [row_col x r d (er.symm.trans h2) (ed.symm.trans h3), cutQ14]
    exact hq _ (by show 896 + (d : ℕ) = h * 64 + d; omega)
  case piece2 =>
    rw [row_col x r d (er.symm.trans h2) (ed.symm.trans h3), cutQ13]
    exact hq _ (by show 832 + (d : ℕ) = h * 64 + d; omega)
  case piece3 =>
    rw [row_col x r d (er.symm.trans h2) (ed.symm.trans h3), cutQ12]
    exact hq _ (by show 768 + (d : ℕ) = h * 64 + d; omega)
  case piece4 =>
    rw [row_col x r d (er.symm.trans h2) (ed.symm.trans h3), cutQ11]
    exact hq _ (by show 704 + (d : ℕ) = h * 64 + d; omega)
  case piece5 =>
    rw [row_col x r d (er.symm.trans h2) (ed.symm.trans h3), cutQ10]
    exact hq _ (by show 640 + (d : ℕ) = h * 64 + d; omega)
  case piece6 =>
    rw [row_col x r d (er.symm.trans h2) (ed.symm.trans h3), cutQ9]
    exact hq _ (by show 576 + (d : ℕ) = h * 64 + d; omega)
  case piece7 =>
    rw [row_col x r d (er.symm.trans h2) (ed.symm.trans h3), cutQ8]
    exact hq _ (by show 512 + (d : ℕ) = h * 64 + d; omega)
  case piece8 =>
    rw [row_col x r d (er.symm.trans h2) (ed.symm.trans h3), cutQ7]
    exact hq _ (by show 448 + (d : ℕ) = h * 64 + d; omega)
  case piece9 =>
    rw [row_col x r d (er.symm.trans h2) (ed.symm.trans h3), cutQ6]
    exact hq _ (by show 384 + (d : ℕ) = h * 64 + d; omega)
  case piece10 =>
    rw [row_col x r d (er.symm.trans h2) (ed.symm.trans h3), cutQ5]
    exact hq _ (by show 320 + (d : ℕ) = h * 64 + d; omega)
  case piece11 =>
    rw [row_col x r d (er.symm.trans h2) (ed.symm.trans h3), cutQ4]
    exact hq _ (by show 256 + (d : ℕ) = h * 64 + d; omega)
  case piece12 =>
    rw [row_col x r d (er.symm.trans h2) (ed.symm.trans h3), cutQ3]
    exact hq _ (by show 192 + (d : ℕ) = h * 64 + d; omega)
  case piece13 =>
    rw [row_col x r d (er.symm.trans h2) (ed.symm.trans h3), cutQ2]
    exact hq _ (by show 128 + (d : ℕ) = h * 64 + d; omega)
  case piece14 =>
    rw [row_col x r d (er.symm.trans h2) (ed.symm.trans h3), cutQ1]
    exact hq _ (by show 64 + (d : ℕ) = h * 64 + d; omega)
  case piece15 =>
    rw [row_col x r d (er.symm.trans h2) (ed.symm.trans h3), cutQ0]
    exact hq _ (by show 0 + (d : ℕ) = h * 64 + d; omega)

/-- What the four stores leave in the keys' block. -/
theorem storedK (y : S1x4x256x64.Idx) (h : Fin 4) (r : Fin 256) (d : Fin 64) (eh : (y 1 : ℕ) = h) (er : (y 2 : ℕ) = r)
    (ed : (y 3 : ℕ) = d) :
    out0_8 (F := Ideal) x0 x1 x2 x3 x4 x5 x6 y = matK x0 x1 x2 x5 x6 (ix2 r (⟨h * 64 + d, by omega⟩ : Fin 256)) := by
  have hk : ∀ e : Fin 256, (e : ℕ) = h * 64 + d →
      matK x0 x1 x2 x5 x6 (ix2 r e) = matK x0 x1 x2 x5 x6 (ix2 r (⟨h * 64 + d, by omega⟩ : Fin 256)) :=
    fun e he => congrArg (fun e => matK x0 x1 x2 x5 x6 (ix2 r e)) (Fin.ext he)
  rw [← matK_eq x0 x1 x2 x3 x4 x5 x6] at hk ⊢
  canon_tiles x h
  case piece0 =>
    rw [row_col x r d (er.symm.trans h2) (ed.symm.trans h3), cutK3]
    exact hk _ (by show 192 + (d : ℕ) = h * 64 + d; omega)
  case piece1 =>
    rw [row_col x r d (er.symm.trans h2) (ed.symm.trans h3), cutK2]
    exact hk _ (by show 128 + (d : ℕ) = h * 64 + d; omega)
  case piece2 =>
    rw [row_col x r d (er.symm.trans h2) (ed.symm.trans h3), cutK1]
    exact hk _ (by show 64 + (d : ℕ) = h * 64 + d; omega)
  case piece3 =>
    rw [row_col x r d (er.symm.trans h2) (ed.symm.trans h3), cutK0]
    exact hk _ (by show 0 + (d : ℕ) = h * 64 + d; omega)

/-- The half of a register of 128 lanes ahead of the first. -/
theorem half (x : FVec Ideal S256x128 .f32) (r : Fin 256) (d : Fin 128) (h : (d : ℕ) < 64) :
    dynamicRotate 1 64#32 none x rotates_S256x128_d1 (ix2 r d) = x (ix2 r (⟨d + 64, by omega⟩ : Fin 128)) := by
  refine dynamicRotate_apply 1 64#32 x rotates_S256x128_d1 (ix2 r d) _ fun b => ?_
  match b with
  | ⟨0, _⟩ => rfl
  | ⟨1, _⟩ => show (d : ℕ) + 64 = ((d : ℕ) + 128 - 64 % 128) % 128; omega

/-- A row's 64 lanes followed by a one and zeros, as the kernel chooses them. -/
theorem one_after (d : Fin 128) (a : EReal) (f : Fin 64 → EReal) (hf : ∀ h : (d : ℕ) < 64, a = f ⟨d, h⟩) :
    Scalar.select (IntOp.cmpi .slt (BitVec.ofNat 32 d) 64#32) a
        (FloatOps.sitofp (F := Ideal) FTy.f32 (BitVec.setWidth 32 (IntOp.cmpi .eq (BitVec.ofNat 32 d) 64#32)))
      = oneAfter f d := by
  have h1 : ∀ d : Fin 128, IntOp.cmpi .slt (BitVec.ofNat 32 d) 64#32 = if (d : ℕ) < 64 then 1#1 else 0#1 := by decide +kernel
  have h2 : ∀ d : Fin 128, BitVec.setWidth 32 (IntOp.cmpi .eq (BitVec.ofNat 32 d) 64#32) = if (d : ℕ) = 64 then 1#32 else 0#32 := by
    decide +kernel
  rw [h1 d, h2 d]
  unfold oneAfter
  by_cases h : (d : ℕ) < 64
  · rw [if_pos h, dif_pos h]
    exact hf h
  · rw [if_neg h, dif_neg h]
    by_cases h' : (d : ℕ) = 64
    · rw [if_pos h', if_pos h']
      show FloatOps.sitofp (F := Ideal) FTy.f32 1#32 = (1 : EReal)
      simp [FloatOps.sitofp]
    · rw [if_neg h', if_neg h']
      show FloatOps.sitofp (F := Ideal) FTy.f32 0#32 = (0 : EReal)
      simp [FloatOps.sitofp]

theorem cutV0 (x : FVec Ideal S1x256x1536 .f32) (r : Fin 256) (d : Fin 128) :
    k0_pay37 (F := Ideal) (k0_pay36 (k0_pay4 x)) (ix4 0 0 r d)
      = oneAfter (fun j => x (ix3 0 r (⟨1280 + j, by omega⟩ : Fin 1536))) d := by
  unfold k0_pay37 k0_pay36 k0_pay4
  pointwise []
  exact one_after d _ _ fun _ => rfl

theorem cutV1 (x : FVec Ideal S1x256x1536 .f32) (r : Fin 256) (d : Fin 128) :
    k0_pay39 (F := Ideal) (k0_pay4 (F := Ideal) x) (iota .tc S256x128 32 [1] iota_S256x128_d1_w32) (ix4 0 0 r d)
      = oneAfter (fun j => x (ix3 0 r (⟨1344 + j, by omega⟩ : Fin 1536))) d := by
  have hh := half (extractStridedSlice S256x128 ![0, 1280] (k0_pay4 (F := Ideal) x) slices_S256x1536_o0_1280_S256x128) r d
  have hx : ∀ e : Fin 128, extractStridedSlice S256x128 ![0, 1280] (k0_pay4 (F := Ideal) x) slices_S256x1536_o0_1280_S256x128 (ix2 r e)
      = x (ix3 0 r (⟨1280 + e, by omega⟩ : Fin 1536)) := fun e => by
    unfold k0_pay4
    pointwise []
  unfold k0_pay39
  generalize dynamicRotate 1 64#32 none (extractStridedSlice S256x128 ![0, 1280] (k0_pay4 (F := Ideal) x) slices_S256x1536_o0_1280_S256x128)
    rotates_S256x128_d1 = v at hh ⊢
  pointwise []
  exact one_after d _ _ fun h => (hh h).trans ((hx _).trans
    (congrArg (fun k => x (ix3 0 r k)) (Fin.ext (by show 1280 + ((d : ℕ) + 64) = 1344 + d; omega))))

theorem cutV2 (x : FVec Ideal S1x256x1536 .f32) (r : Fin 256) (d : Fin 128) :
    k0_pay1 (F := Ideal) (k0_pay41 (k0_pay4 (F := Ideal) x) (iota .tc S256x128 32 [1] iota_S256x128_d1_w32)) (ix4 0 0 r d)
      = oneAfter (fun j => x (ix3 0 r (⟨1408 + j, by omega⟩ : Fin 1536))) d := by
  unfold k0_pay1 k0_pay41 k0_pay4
  pointwise []
  exact one_after d _ _ fun _ => rfl

theorem cutV3 (x : FVec Ideal S1x256x1536 .f32) (r : Fin 256) (d : Fin 128) :
    k0_pay3 (F := Ideal) (k0_pay4 (F := Ideal) x) (iota .tc S256x128 32 [1] iota_S256x128_d1_w32) (ix4 0 0 r d)
      = oneAfter (fun j => x (ix3 0 r (⟨1472 + j, by omega⟩ : Fin 1536))) d := by
  have hh := half (extractStridedSlice S256x128 ![0, 1408] (k0_pay4 (F := Ideal) x) slices_S256x1536_o0_1408_S256x128) r d
  have hx : ∀ e : Fin 128, extractStridedSlice S256x128 ![0, 1408] (k0_pay4 (F := Ideal) x) slices_S256x1536_o0_1408_S256x128 (ix2 r e)
      = x (ix3 0 r (⟨1408 + e, by omega⟩ : Fin 1536)) := fun e => by
    unfold k0_pay4
    pointwise []
  unfold k0_pay3
  generalize dynamicRotate 1 64#32 none (extractStridedSlice S256x128 ![0, 1408] (k0_pay4 (F := Ideal) x) slices_S256x1536_o0_1408_S256x128)
    rotates_S256x128_d1 = v at hh ⊢
  pointwise []
  exact one_after d _ _ fun h => (hh h).trans ((hx _).trans
    (congrArg (fun k => x (ix3 0 r k)) (Fin.ext (by show 1408 + ((d : ℕ) + 64) = 1472 + d; omega))))

/-- What the four stores leave in the values' block. -/
theorem storedV (y : S1x4x256x128.Idx) (h : Fin 4) (r : Fin 256) (d : Fin 128) (eh : (y 1 : ℕ) = h) (er : (y 2 : ℕ) = r)
    (ed : (y 3 : ℕ) = d) :
    out0_9 (F := Ideal) x0 x1 x2 x3 x4 x5 x6 y
      = oneAfter (fun j => x0 (ix3 0 r (⟨1280 + (h * 64 + j), by omega⟩ : Fin 1536))) d := by
  have hv : ∀ (k : ℕ) (hk : k + 64 ≤ 1536), k = 1280 + h * 64 →
      oneAfter (fun j => x0 (ix3 0 r (⟨k + j, by omega⟩ : Fin 1536))) d
        = oneAfter (fun j => x0 (ix3 0 r (⟨1280 + (h * 64 + j), by omega⟩ : Fin 1536))) d := fun k hk he =>
    congrArg (fun f => oneAfter f d) (funext fun j => congrArg (fun e => x0 (ix3 0 r e))
      (Fin.ext (by show k + (j : ℕ) = 1280 + (h * 64 + j); omega)))
  canon_tiles x h
  case piece0 =>
    rw [row_colV x r d (er.symm.trans h2) (ed.symm.trans h3)]
    unfold k0_pay42
    rw [View.ld_unit_zero zero3]
    exact (cutV3 x0 r d).trans (hv 1472 (by omega) (by omega))
  case piece1 =>
    rw [row_colV x r d (er.symm.trans h2) (ed.symm.trans h3)]
    unfold k0_pay42
    rw [View.ld_unit_zero zero3]
    exact (cutV2 x0 r d).trans (hv 1408 (by omega) (by omega))
  case piece2 =>
    rw [row_colV x r d (er.symm.trans h2) (ed.symm.trans h3)]
    unfold k0_pay42
    rw [View.ld_unit_zero zero3]
    exact (cutV1 x0 r d).trans (hv 1344 (by omega) (by omega))
  case piece3 =>
    rw [row_colV x r d (er.symm.trans h2) (ed.symm.trans h3)]
    unfold k0_pay42
    rw [View.ld_unit_zero zero3]
    exact (cutV0 x0 r d).trans (hv 1280 (by omega) (by omega))

end Cert.Kernel11Ideal.Prep

end
-- ==== Proof.PrepRef.lean ====
/- The queries', keys' and values' preparation in the reference, read at an index. -/
module

public import proofs.«01_k».proof.Proof.Gen.Reference11Ideal.Read
public import proofs.«01_k».proof.Proof.PrepRows
public import Idealize.ShloMosaic.Lib.Pointwise

@[expose] public section

set_option maxRecDepth 16384

noncomputable section

namespace Cert.Reference11Ideal.Prep

open Cert.Reference11Ideal Cert.Reference11Ideal.Gen Cert.Reference11Ideal.Read Idealize.ShloMosaic Idealize.SL.Sem
open Cert.Prep

/-- The table of angles. -/
theorem tab (l : Fin 4096) (d : Fin 32) : val_main_v59 (F := Ideal) (ix2 l d) = angle l d := by
  unfold val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42
    val_main_v41 val_main_v40 val_main_v39 val_main_v38 val_main_v37 val_main_v36 val_main_v35 val_main_cst_6 val_main_cst_5
  pointwise []
  unfold angle freq
  split_ifs <;> rfl

/-- The queries, normed. -/
theorem normedQ (x : FVec Ideal S4x4096x1536 .f32) (g : FVec Ideal S1x64 .f32) (b : Fin 4) (l : Fin 4096) (h : Fin 16) (d : Fin 64) :
    val_main_v15 (F := Ideal) x g (ix4 b l h d)
      = rms (fun j => x (ix3 b l (⟨h * 64 + j, by omega⟩ : Fin 1536))) (fun j => g (ix2 0 j)) d := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst_1 val_main_cst_0 val_main_cst
  pointwise []
  rfl

/-- The keys, normed. -/
theorem normedK (x : FVec Ideal S4x4096x1536 .f32) (g : FVec Ideal S1x64 .f32) (b : Fin 4) (l : Fin 4096) (h : Fin 4) (d : Fin 64) :
    val_main_v33 (F := Ideal) x g (ix4 b l h d)
      = rms (fun j => x (ix3 b l (⟨1024 + (h * 64 + j), by omega⟩ : Fin 1536))) (fun j => g (ix2 0 j)) d := by
  unfold val_main_v33 val_main_v32 val_main_v31 val_main_v30 val_main_v29 val_main_v28 val_main_v27 val_main_v26 val_main_v25
    val_main_v24 val_main_v23 val_main_v22 val_main_v21 val_main_v20 val_main_v19 val_main_v17 val_main_v16 val_main_cst_4 val_main_cst_3 val_main_cst_2
  pointwise []
  rfl

/-- The queries, turned and scaled. -/
theorem queries (x : FVec Ideal S4x4096x1536 .f32) (g : FVec Ideal S1x64 .f32) (b : Fin 4) (l : Fin 4096) (h : Fin 16) (d : Fin 64) :
    val_main_v98 (F := Ideal) x g (ix4 b h l d)
      = turn (rms (fun j => x (ix3 b l (⟨h * 64 + j, by omega⟩ : Fin 1536))) (fun j => g (ix2 0 j))) l d
        * Ideal.ofBits FTy.f32 1040187392#32 := by
  have hy := normedQ x g b l h
  have ht := tab l
  unfold val_main_v98 val_main_v97 val_main_v78 val_main_v77 val_main_v76 val_main_v75 val_main_v74 val_main_v73 val_main_v72
    val_main_v71 val_main_v70 val_main_v69 val_main_v68 val_main_v67 val_main_v66 val_main_v65 val_main_v64 val_main_v63
    val_main_v62 val_main_v61 val_main_v60 val_main_cst_7
  generalize val_main_v15 (F := Ideal) x g = y at hy ⊢
  generalize val_main_v59 (F := Ideal) = t at ht ⊢
  pointwise []
  simp only [hy, ht]
  unfold turn
  refine congrArg (· * Ideal.ofBits FTy.f32 1040187392#32) ?_
  by_cases h1 : (d : ℕ) < 32
  · rw [dif_pos h1, dif_pos h1]
    simp only [Nat.add_comm]
  · rw [dif_neg h1, dif_neg h1]
    exact congrArg₂ (· + ·) rfl (congrArg (fun k => rms _ _ k * _) (Fin.ext (by show 32 + ((d : ℕ) - 32) = d; omega)))

/-- The keys, turned. -/
theorem keys (x : FVec Ideal S4x4096x1536 .f32) (g : FVec Ideal S1x64 .f32) (b : Fin 4) (l : Fin 4096) (h : Fin 4) (d : Fin 64) :
    val_main_v100 (F := Ideal) x g (ix4 b h l d)
      = turn (rms (fun j => x (ix3 b l (⟨1024 + (h * 64 + j), by omega⟩ : Fin 1536))) (fun j => g (ix2 0 j))) l d := by
  have hy := normedK x g b l h
  have ht := tab l
  unfold val_main_v100 val_main_v99 val_main_v93 val_main_v92 val_main_v91 val_main_v90 val_main_v89 val_main_v88 val_main_v87
    val_main_v86 val_main_v85 val_main_v84 val_main_v83 val_main_v82 val_main_v81 val_main_v80 val_main_v79 val_main_v61 val_main_v60
  generalize val_main_v33 (F := Ideal) x g = y at hy ⊢
  generalize val_main_v59 (F := Ideal) = t at ht ⊢
  pointwise []
  simp only [hy, ht]
  unfold turn
  by_cases h1 : (d : ℕ) < 32
  · rw [dif_pos h1, dif_pos h1]
    simp only [Nat.add_comm]
  · rw [dif_neg h1, dif_neg h1]
    exact congrArg₂ (· + ·) rfl (congrArg (fun k => rms _ _ k * _) (Fin.ext (by show 32 + ((d : ℕ) - 32) = d; omega)))

/-- The values, a one after each row. -/
theorem values (x : FVec Ideal S4x4096x1536 .f32) (b : Fin 4) (l : Fin 4096) (h : Fin 4) (d : Fin 128) :
    val_main_v102 (F := Ideal) x (ix4 b h l d)
      = oneAfter (fun j => x (ix3 b l (⟨1024 + (256 + (h * 64 + j)), by omega⟩ : Fin 1536))) d := by
  unfold val_main_v102 val_main_v101 val_main_v96 val_main_v95 val_main_v94 val_main_v34 val_main_v18 val_main_v16 val_main_cst_9
    val_main_cst_8
  pointwise []
  unfold oneAfter
  split_ifs <;> first | rfl | omega

end Cert.Reference11Ideal.Prep

end
-- ==== Proof.PrepTables.lean ====
/- What the preparation kernel's windows hold: the projections, the rotation's tables, the gains and the heads' blocks of ones. -/
module

public import proofs.«01_k».proof.Proof.Gen.Kernel11Ideal.Value
public import proofs.«01_k».proof.Proof.PrepRows
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Cert.Prep Cert.SoftmaxSplit

variable (m : (ℓ : Loc nD τ sig) → Buf (Elt Ideal) ℓ)

/-- The arguments at their plain types: the projections, the queries' gain, the keys' gain. -/
abbrev argX (c : Dev nD) : FVec Ideal S4x4096x1536 .f32 := m ((c : Thread nD τ).loc main_arg0)
abbrev argG (c : Dev nD) : FVec Ideal S1x64 .f32 := m ((c : Thread nD τ).loc main_arg1)
abbrev argH (c : Dev nD) : FVec Ideal S1x64 .f32 := m ((c : Thread nD τ).loc main_arg2)

/-- Two lanes of 1024 are of one head when their quotients by 64 agree. -/
theorem same_head1024 (T : IVec S1024 32) (hT : ∀ k : Fin 1024, T (ix1 k) = BitVec.ofNat 32 (k / 64)) (k d : Fin 1024) :
    uitofp (F := Ideal) .bf16 (cmpi .eq
        (broadcastInDim S1024x1024 ![0, 1] bcast_S1024x1_S1024x1024_0_1 (broadcastInDim S1024x1 ![0] bcast_S1024_S1024x1_0 T))
        (broadcastInDim S1024x1024 ![0, 1] bcast_S1x1024_S1024x1024_0_1 (broadcastInDim S1x1024 ![1] bcast_S1024_S1x1024_1 T))) (ix2 k d)
      = if (k : ℕ) / 64 = d / 64 then (1 : EReal) else 0 := by
  pointwise []
  rw [hT k, hT d, WordCmp.cmpi_eq_ofNat (by omega) (by omega)]
  split_ifs with h <;> simp [h, FloatOps.uitofp]

/-- Two lanes of 256 are of one head when their quotients by 64 agree. -/
theorem same_head256 (T : IVec S256 32) (hT : ∀ k : Fin 256, T (ix1 k) = BitVec.ofNat 32 (k / 64)) (k d : Fin 256) :
    uitofp (F := Ideal) .bf16 (cmpi .eq
        (broadcastInDim S256x256 ![0, 1] bcast_S256x1_S256x256_0_1 (broadcastInDim S256x1 ![0] bcast_S256_S256x1_0 T))
        (broadcastInDim S256x256 ![0, 1] bcast_S1x256_S256x256_0_1 (broadcastInDim S1x256 ![1] bcast_S256_S1x256_1 T))) (ix2 k d)
      = if (k : ℕ) / 64 = d / 64 then (1 : EReal) else 0 := by
  pointwise []
  rw [hT k, hT d, WordCmp.cmpi_eq_ofNat (by omega) (by omega)]
  split_ifs with h <;> simp [h, FloatOps.uitofp]

/-- The table of cosines at the launch: the 32 angles' four times over. -/
theorem cosTable (c : Dev nD) (l : Fin 4096) (d : Fin 128) :
    V m c main_v29 (ix2 l d) = Ideal.cos (angle l (d % 32)) := by
  simp only [V, hostOps0, hostOps0_1, hostOps0_2, hostOps0_3, hostOps0_4, List.flatten_cons, List.flatten_nil, List.append_nil,
    List.cons_append, List.nil_append]
  entry_read
  pointwise []
  unfold angle freq
  split_ifs <;> rfl

/-- The table of sines at the launch: negated in the first half of each head. -/
theorem sinTable (c : Dev nD) (l : Fin 4096) (d : Fin 128) :
    V m c main_v34 (ix2 l d) = if (d : ℕ) % 64 < 32 then -Ideal.sin (angle l (d % 32)) else Ideal.sin (angle l (d % 32)) := by
  simp only [V, hostOps0, hostOps0_1, hostOps0_2, hostOps0_3, hostOps0_4, List.flatten_cons, List.flatten_nil, List.append_nil,
    List.cons_append, List.nil_append]
  entry_read
  pointwise []
  have h1 : (d : ℕ) % 64 < 32 → (d : ℕ) % 64 = d % 32 := by omega
  have h2 : ¬(d : ℕ) % 64 < 32 → (d : ℕ) % 64 - 32 = d % 32 := by omega
  by_cases h : (d : ℕ) % 64 < 32
  · rw [dif_pos h, if_pos h]
    simp only [h1 h]
    unfold angle freq
    split_ifs <;> rfl
  · rw [dif_neg h, if_neg h]
    simp only [h2 h]
    unfold angle freq
    split_ifs <;> rfl

theorem gainQ (c : Dev nD) (d : Fin 1024) : V m c main_v40 (ix2 0 d) = argG m c (ix2 0 (⟨d % 64, by omega⟩ : Fin 64)) := by
  simp only [V, hostOps0, hostOps0_1, hostOps0_2, hostOps0_3, hostOps0_4, List.flatten_cons, List.flatten_nil, List.append_nil,
    List.cons_append, List.nil_append]
  entry_read
  pointwise []

theorem gainK (c : Dev nD) (d : Fin 256) : V m c main_v52 (ix2 0 d) = argH m c (ix2 0 (⟨d % 64, by omega⟩ : Fin 64)) := by
  simp only [V, hostOps0, hostOps0_1, hostOps0_2, hostOps0_3, hostOps0_4, List.flatten_cons, List.flatten_nil, List.append_nil,
    List.cons_append, List.nil_append]
  entry_read
  pointwise []

theorem onesQ (c : Dev nD) (k d : Fin 1024) :
    V m c main_v48 (ix2 k d) = if (k : ℕ) / 64 = d / 64 then (1 : EReal) else 0 := by
  simp only [V, hostOps0, hostOps0_1, hostOps0_2, hostOps0_3, hostOps0_4, List.flatten_cons, List.flatten_nil, List.append_nil,
    List.cons_append, List.nil_append]
  entry_read
  exact same_head1024 _ (by decide +kernel) k d

theorem onesK (c : Dev nD) (k d : Fin 256) :
    V m c main_v60 (ix2 k d) = if (k : ℕ) / 64 = d / 64 then (1 : EReal) else 0 := by
  simp only [V, hostOps0, hostOps0_1, hostOps0_2, hostOps0_3, hostOps0_4, List.flatten_cons, List.flatten_nil, List.append_nil,
    List.cons_append, List.nil_append]
  entry_read
  exact same_head256 _ (by decide +kernel) k d

/-- The block each window holds: batch entry `t / 16`, rows `t % 16` of the sixteen groups of 256. -/
theorem idx_val : ∀ t : Fin cfg0.N, win0_0.index t = ![t.val / 16, t.val % 16, 0]
    ∧ win0_1.index t = ![t.val % 16, 0] ∧ win0_2.index t = ![t.val % 16, 0]
    ∧ win0_3.index t = ![0, 0] ∧ win0_4.index t = ![0, 0] ∧ win0_5.index t = ![0, 0] ∧ win0_6.index t = ![0, 0]
    ∧ win0_7.index t = ![t.val / 16, 0, t.val % 16, 0] ∧ win0_8.index t = ![t.val / 16, 0, t.val % 16, 0]
    ∧ win0_9.index t = ![t.val / 16, 0, t.val % 16, 0] :=
  (by decide +kernel : ∀ t : Fin grid0.N, _)

theorem xAt (c : Dev nD) (t : Fin cfg0.N) (r : Fin 256) (e : Fin 1536) (b : Fin 4) (l : Fin 4096) (hb : (b : ℕ) = t.val / 16)
    (hl : (l : ℕ) = t.val % 16 * 256 + r) : iblk m c 0 t (ix3 0 r e) = argX m c (ix3 b l e) := by
  refine Eq.trans ?_ (congrFun (V_main_arg0 m c) _)
  show V m c main_arg0 _ = _
  refine congrArg (V m c main_arg0) ?_
  blk_ext [idx_val t]

theorem cosAt (c : Dev nD) (t : Fin cfg0.N) (r : Fin 256) (d : Fin 128) (l : Fin 4096) (hl : (l : ℕ) = t.val % 16 * 256 + r) :
    iblk m c 1 t (ix2 r d) = Ideal.cos (angle l (d % 32)) := by
  refine Eq.trans ?_ (cosTable m c l d)
  show V m c main_v29 _ = _
  refine congrArg (V m c main_v29) ?_
  blk_ext [idx_val t]

theorem sinAt (c : Dev nD) (t : Fin cfg0.N) (r : Fin 256) (d : Fin 128) (l : Fin 4096) (hl : (l : ℕ) = t.val % 16 * 256 + r) :
    iblk m c 2 t (ix2 r d) = if (d : ℕ) % 64 < 32 then -Ideal.sin (angle l (d % 32)) else Ideal.sin (angle l (d % 32)) := by
  refine Eq.trans ?_ (sinTable m c l d)
  show V m c main_v34 _ = _
  refine congrArg (V m c main_v34) ?_
  blk_ext [idx_val t]

theorem gAt (c : Dev nD) (t : Fin cfg0.N) (d : Fin 1024) :
    iblk m c 3 t (ix2 0 d) = argG m c (ix2 0 (⟨d % 64, by omega⟩ : Fin 64)) := by
  refine Eq.trans ?_ (gainQ m c d)
  show V m c main_v40 _ = _
  refine congrArg (V m c main_v40) ?_
  blk_ext [idx_val t]

theorem oAt (c : Dev nD) (t : Fin cfg0.N) (k d : Fin 1024) :
    iblk m c 4 t (ix2 k d) = if (k : ℕ) / 64 = d / 64 then (1 : EReal) else 0 := by
  refine Eq.trans ?_ (onesQ m c k d)
  show V m c main_v48 _ = _
  refine congrArg (V m c main_v48) ?_
  blk_ext [idx_val t]

theorem hAt (c : Dev nD) (t : Fin cfg0.N) (d : Fin 256) :
    iblk m c 5 t (ix2 0 d) = argH m c (ix2 0 (⟨d % 64, by omega⟩ : Fin 64)) := by
  refine Eq.trans ?_ (gainK m c d)
  show V m c main_v52 _ = _
  refine congrArg (V m c main_v52) ?_
  blk_ext [idx_val t]

theorem pAt (c : Dev nD) (t : Fin cfg0.N) (k d : Fin 256) :
    iblk m c 6 t (ix2 k d) = if (k : ℕ) / 64 = d / 64 then (1 : EReal) else 0 := by
  refine Eq.trans ?_ (onesK m c k d)
  show V m c main_v60 _ = _
  refine congrArg (V m c main_v60) ?_
  blk_ext [idx_val t]

end Cert.Kernel11Ideal.Prep

end
-- ==== Proof.PrepValue.lean ====
/- The queries', keys' and values' preparation: the kernel's arrays are the reference's. -/
module

public import proofs.«01_k».proof.Proof.AttnFinite
public import proofs.«01_k».proof.Proof.Gen.Pre_finite_projections
public import proofs.«01_k».proof.Proof.PrepPoint
public import proofs.«01_k».proof.Proof.PrepRef
public import proofs.«01_k».proof.Proof.PrepTables

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Cert.Prep Cert.SoftmaxSplit

variable (m : (ℓ : Loc nD τ sig) → Buf (Elt Ideal) ℓ)

/-- The precondition's array of ones, read: every projection a query or a key is made of is a real number. -/
theorem reals (h : Cert.Pre_Kernel11Ideal_finite_projections m) (c : Dev nD) (b : Fin 4) (l : Fin 4096) (e : Fin 1280) :
    IsReal (argX m c (ix3 b l (⟨e, by omega⟩ : Fin 1536))) := by
  refine Cert.KernelIdeal.Attn.real_of_mask ?_
  refine Eq.trans ?_ (congrFun (h c) (ix3 b l e))
  pointwise [Cert.Pre_finite_projections.fn]
  rfl

/-- One element of a grid point's queries is the reference's element there. -/
theorem pointQ (h : Cert.Pre_Kernel11Ideal_finite_projections m) (c : Dev nD) (t : Fin cfg0.N) (y : S1x16x256x64.Idx)
    (j : S4x16x4096x64.Idx) (hj0 : (j 0 : ℕ) = t.val / 16) (hj1 : (j 1 : ℕ) = y 1) (hj2 : (j 2 : ℕ) = t.val % 16 * 256 + y 2)
    (hj3 : (j 3 : ℕ) = y 3) :
    out0_7 (F := Ideal) (iblk m c 0 t) (iblk m c 1 t) (iblk m c 2 t) (iblk m c 3 t) (iblk m c 4 t) (iblk m c 5 t) (iblk m c 6 t) y
      = Cert.Reference11Ideal.Read.val_main_v98 (F := Ideal) (argX m c) (argG m c) j := by
  idx_vars y
  idx_vars j
  obtain rfl : j1 = y1 := Fin.ext hj1
  obtain rfl : j3 = y3 := Fin.ext hj3
  change (j2 : ℕ) = t.val % 16 * 256 + (y2 : ℕ) at hj2
  refine (storedQ _ _ _ _ _ _ _ _ j1 y2 j3 rfl rfl rfl).trans
    ((bodyQ _ _ _ (fun i => argG m c (ix2 0 i)) _ _ j2 y2 j1 j3 (fun k => ?_) (fun k d => oAt m c t k d) (fun d => gAt m c t d)
      (fun d => cosAt m c t y2 d j2 hj2) (fun d => sinAt m c t y2 d j2 hj2)).trans
      (Eq.trans ?_ (Cert.Reference11Ideal.Prep.queries _ _ j0 j2 j1 j3).symm))
  · rw [xAt m c t y2 _ j0 j2 hj0 hj2]
    exact reals m h c j0 j2 ⟨k, by omega⟩
  · refine congrArg (fun f => turn (rms f _) _ _ * _) (funext fun i => ?_)
    exact xAt m c t y2 _ j0 j2 hj0 hj2

/-- One element of a grid point's keys is the reference's element there. -/
theorem pointK (h : Cert.Pre_Kernel11Ideal_finite_projections m) (c : Dev nD) (t : Fin cfg0.N) (y : S1x4x256x64.Idx)
    (j : S4x4x4096x64.Idx) (hj0 : (j 0 : ℕ) = t.val / 16) (hj1 : (j 1 : ℕ) = y 1) (hj2 : (j 2 : ℕ) = t.val % 16 * 256 + y 2)
    (hj3 : (j 3 : ℕ) = y 3) :
    out0_8 (F := Ideal) (iblk m c 0 t) (iblk m c 1 t) (iblk m c 2 t) (iblk m c 3 t) (iblk m c 4 t) (iblk m c 5 t) (iblk m c 6 t) y
      = Cert.Reference11Ideal.Read.val_main_v100 (F := Ideal) (argX m c) (argH m c) j := by
  idx_vars y
  idx_vars j
  obtain rfl : j1 = y1 := Fin.ext hj1
  obtain rfl : j3 = y3 := Fin.ext hj3
  change (j2 : ℕ) = t.val % 16 * 256 + (y2 : ℕ) at hj2
  refine (storedK _ _ _ _ _ _ _ _ j1 y2 j3 rfl rfl rfl).trans
    ((bodyK _ _ _ (fun i => argH m c (ix2 0 i)) _ _ j2 y2 j1 j3 (fun k => ?_) (fun k d => pAt m c t k d) (fun d => hAt m c t d)
      (fun d => cosAt m c t y2 d j2 hj2) (fun d => sinAt m c t y2 d j2 hj2)).trans
      (Eq.trans ?_ (Cert.Reference11Ideal.Prep.keys _ _ j0 j2 j1 j3).symm))
  · rw [xAt m c t y2 _ j0 j2 hj0 hj2]
    exact reals m h c j0 j2 ⟨1024 + k, by omega⟩
  · refine congrArg (fun f => turn (rms f _) _ _) (funext fun i => ?_)
    exact xAt m c t y2 _ j0 j2 hj0 hj2

/-- One element of a grid point's values is the reference's element there. -/
theorem pointV (c : Dev nD) (t : Fin cfg0.N) (y : S1x4x256x128.Idx)
    (j : S4x4x4096x128.Idx) (hj0 : (j 0 : ℕ) = t.val / 16) (hj1 : (j 1 : ℕ) = y 1) (hj2 : (j 2 : ℕ) = t.val % 16 * 256 + y 2)
    (hj3 : (j 3 : ℕ) = y 3) :
    out0_9 (F := Ideal) (iblk m c 0 t) (iblk m c 1 t) (iblk m c 2 t) (iblk m c 3 t) (iblk m c 4 t) (iblk m c 5 t) (iblk m c 6 t) y
      = Cert.Reference11Ideal.Read.val_main_v102 (F := Ideal) (argX m c) j := by
  idx_vars y
  idx_vars j
  obtain rfl : j1 = y1 := Fin.ext hj1
  obtain rfl : j3 = y3 := Fin.ext hj3
  change (j2 : ℕ) = t.val % 16 * 256 + (y2 : ℕ) at hj2
  refine (storedV _ _ _ _ _ _ _ _ j1 y2 j3 rfl rfl rfl).trans
    (Eq.trans ?_ (Cert.Reference11Ideal.Prep.values _ j0 j2 j1 j3).symm)
  refine congrArg (fun f => oneAfter f j3) (funext fun i => ?_)
  refine (xAt m c t y2 _ j0 j2 hj0 hj2).trans (congrArg (fun e => argX m c (ix3 j0 j2 e)) (Fin.ext ?_))
  show 1280 + ((j1 : ℕ) * 64 + i) = 1024 + (256 + (j1 * 64 + i))
  omega

/-- The kernel's queries are the reference's. -/
theorem finalQ (h : Cert.Pre_Kernel11Ideal_finite_projections m) (c : Dev nD) : (dats m 0 c).arrAt 7 (cfgs 0).N
    = Cert.Reference11Ideal.Read.val_main_v98 (F := Ideal) (argX m c) (argG m c) := by
  refine (dats m 0 c).arrAt_eq_of_covers 7 _ (by decide +kernel) fun t _ y => ?_
  blk_simp
  rw [after0_7]
  refine pointQ m h c t y _ ?_ ?_ ?_ ?_
  all_goals (blk_simp [idx_val t] <;> try omega)

/-- The kernel's keys are the reference's. -/
theorem finalK (h : Cert.Pre_Kernel11Ideal_finite_projections m) (c : Dev nD) : (dats m 0 c).arrAt 8 (cfgs 0).N
    = Cert.Reference11Ideal.Read.val_main_v100 (F := Ideal) (argX m c) (argH m c) := by
  refine (dats m 0 c).arrAt_eq_of_covers 8 _ (by decide +kernel) fun t _ y => ?_
  blk_simp
  rw [after0_8]
  refine pointK m h c t y _ ?_ ?_ ?_ ?_
  all_goals (blk_simp [idx_val t] <;> try omega)

/-- The kernel's values are the reference's. -/
theorem finalV (c : Dev nD) : (dats m 0 c).arrAt 9 (cfgs 0).N
    = Cert.Reference11Ideal.Read.val_main_v102 (F := Ideal) (argX m c) := by
  refine (dats m 0 c).arrAt_eq_of_covers 9 _ (by decide +kernel) fun t _ y => ?_
  blk_simp
  rw [after0_9]
  refine pointV m c t y _ ?_ ?_ ?_ ?_
  all_goals (blk_simp [idx_val t] <;> try omega)

end Cert.Kernel11Ideal.Prep

end
-- ==== Proof.PrepCtxRef.lean ====
/- The context's keys and values in the reference, read at an index. -/
module

public import proofs.«01_k».proof.Proof.Gen.Reference12Ideal.Read
public import proofs.«01_k».proof.Proof.PrepRows
public import Idealize.ShloMosaic.Lib.Pointwise

@[expose] public section

set_option maxRecDepth 16384

noncomputable section

namespace Cert.Reference12Ideal.Prep

open Cert.Reference12Ideal Cert.Reference12Ideal.Gen Cert.Reference12Ideal.Read Idealize.ShloMosaic Idealize.SL.Sem
open Cert.Prep

/-- The context's keys, normed. -/
theorem keys (x : FVec Ideal S4x256x512 .f32) (g : FVec Ideal S1x64 .f32) (b : Fin 4) (l : Fin 256) (h : Fin 4) (d : Fin 64) :
    val_main_v22 (F := Ideal) x g (ix4 b h l d)
      = rms (fun j => x (ix3 b l (⟨h * 64 + j, by omega⟩ : Fin 512))) (fun j => g (ix2 0 j)) d := by
  unfold val_main_v22 val_main_v21 val_main_v16 val_main_v15 val_main_v14 val_main_v13 val_main_v12 val_main_v11
    val_main_v10 val_main_v9 val_main_v8 val_main_v7 val_main_v6 val_main_v5 val_main_v4 val_main_v3 val_main_v2
    val_main_v0 val_main_cst val_main_cst_0 val_main_cst_1
  pointwise []
  rfl

/-- The context's values, a one after each row. -/
theorem values (x : FVec Ideal S4x256x512 .f32) (b : Fin 4) (l : Fin 256) (h : Fin 4) (d : Fin 128) :
    val_main_v24 (F := Ideal) x (ix4 b h l d)
      = oneAfter (fun j => x (ix3 b l (⟨256 + (h * 64 + j), by omega⟩ : Fin 512))) d := by
  unfold val_main_v24 val_main_v23 val_main_v20 val_main_v19 val_main_v18 val_main_v17 val_main_v1 val_main_cst_2
    val_main_cst_3
  pointwise []
  unfold oneAfter
  split_ifs <;> first | rfl | omega

end Cert.Reference12Ideal.Prep

end
-- ==== Proof.PrepCtxValue.lean ====
/- The context's keys and values: the kernel's arrays are the reference's. -/
module

public import proofs.«01_k».proof.Proof.AttnFinite
public import proofs.«01_k».proof.Proof.Gen.Kernel12Ideal.Value
public import proofs.«01_k».proof.Proof.Gen.Pre_finite_keys
public import proofs.«01_k».proof.Proof.PrepPoint
public import proofs.«01_k».proof.Proof.PrepCtxRef
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.Kernel12Ideal.Prep

open Cert.Kernel12Ideal Cert.Kernel12Ideal.Gen Idealize.ShloMosaic Idealize.ShloMosaic.TcCoe Idealize.SL.Sem
open Cert.Prep Cert.SoftmaxSplit
open Cert.Kernel11Ideal.Prep (zero2 zero3 one_after)

variable (m : (ℓ : Loc nD τ sig) → Buf (Elt Ideal) ℓ)

/-- The arguments at their plain types: the projections and the keys' gain. -/
abbrev argX (c : Dev nD) : FVec Ideal S4x256x512 .f32 := m ((c : Thread nD τ).loc main_arg0)
abbrev argH (c : Dev nD) : FVec Ideal S1x64 .f32 := m ((c : Thread nD τ).loc main_arg1)

/-! ## What the windows hold -/

/-- Two lanes are of one head when their quotients by 64 agree. -/
theorem same_head (T : IVec S256 32) (hT : ∀ k : Fin 256, T (ix1 k) = BitVec.ofNat 32 (k / 64)) (k d : Fin 256) :
    uitofp (F := Ideal) .bf16 (cmpi .eq
        (broadcastInDim S256x256 ![0, 1] bcast_S256x1_S256x256_0_1 (broadcastInDim S256x1 ![0] bcast_S256_S256x1_0 T))
        (broadcastInDim S256x256 ![0, 1] bcast_S1x256_S256x256_0_1 (broadcastInDim S1x256 ![1] bcast_S256_S1x256_1 T))) (ix2 k d)
      = if (k : ℕ) / 64 = d / 64 then (1 : EReal) else 0 := by
  pointwise []
  rw [hT k, hT d, WordCmp.cmpi_eq_ofNat (by omega) (by omega)]
  split_ifs with h <;> simp [h, FloatOps.uitofp]

theorem gain (c : Dev nD) (d : Fin 256) : V m c main_v4 (ix2 0 d) = argH m c (ix2 0 (⟨d % 64, by omega⟩ : Fin 64)) := by
  simp only [V, hostOps0, hostOps0_1, hostOps0_2, List.flatten_cons, List.flatten_nil, List.append_nil, List.cons_append, List.nil_append]
  entry_read
  pointwise []

theorem ones (c : Dev nD) (k d : Fin 256) : V m c main_v12 (ix2 k d) = if (k : ℕ) / 64 = d / 64 then (1 : EReal) else 0 := by
  simp only [V, hostOps0, hostOps0_1, hostOps0_2, List.flatten_cons, List.flatten_nil, List.append_nil, List.cons_append, List.nil_append]
  entry_read
  exact same_head _ (by decide +kernel) k d

/-- The block each window holds: one batch entry, the gains and the ones whole. -/
theorem idx_val : ∀ t : Fin cfg0.N, win0_0.index t = ![t.val, 0, 0] ∧ win0_1.index t = ![0, 0] ∧ win0_2.index t = ![0, 0]
    ∧ win0_3.index t = ![t.val, 0, 0, 0] ∧ win0_4.index t = ![t.val, 0, 0, 0] :=
  (by decide +kernel : ∀ t : Fin grid0.N, _)

theorem xAt (c : Dev nD) (t : Fin cfg0.N) (r : Fin 256) (e : Fin 512) (b : Fin 4) (hb : (b : ℕ) = t.val) :
    iblk m c 0 t (ix3 0 r e) = argX m c (ix3 b r e) := by
  refine Eq.trans ?_ (congrFun (V_main_arg0 m c) _)
  show V m c main_arg0 _ = _
  refine congrArg (V m c main_arg0) ?_
  blk_ext [idx_val t]

theorem hAt (c : Dev nD) (t : Fin cfg0.N) (d : Fin 256) :
    iblk m c 1 t (ix2 0 d) = argH m c (ix2 0 (⟨d % 64, by omega⟩ : Fin 64)) := by
  refine Eq.trans ?_ (gain m c d)
  show V m c main_v4 _ = _
  refine congrArg (V m c main_v4) ?_
  blk_ext [idx_val t]

theorem pAt (c : Dev nD) (t : Fin cfg0.N) (k d : Fin 256) :
    iblk m c 2 t (ix2 k d) = if (k : ℕ) / 64 = d / 64 then (1 : EReal) else 0 := by
  refine Eq.trans ?_ (ones m c k d)
  show V m c main_v12 _ = _
  refine congrArg (V m c main_v12) ?_
  blk_ext [idx_val t]

/-! ## One grid point -/

/-- The keys' heads after the norm. -/
theorem normed (x : FVec Ideal S1x256x512 .f32) (o : FVec Ideal S256x256 .bf16) (g : FVec Ideal S1x256 .f32) (gain : Fin 64 → EReal)
    (r : Fin 256) (h : Fin 4) (j : Fin 64) (hx : ∀ k : Fin 256, IsReal (x (ix3 0 r (⟨k, by omega⟩ : Fin 512))))
    (ho : ∀ k d : Fin 256, o (ix2 k d) = if (k : ℕ) / 64 = d / 64 then (1 : EReal) else 0)
    (hg : ∀ d : Fin 256, g (ix2 0 d) = gain (⟨d % 64, by omega⟩ : Fin 64)) :
    k0_pay5 (F := Ideal) x o g (ix2 r (⟨h * 64 + j, by omega⟩ : Fin 256))
      = rms (fun i => x (ix3 0 r (⟨h * 64 + i, by omega⟩ : Fin 512))) gain j := by
  unfold k0_pay5 k0_pay4
  pointwise []
  unfold rms
  refine congrArg₂ (· * ·) (congrArg (fun z => x (ix3 0 r (⟨h * 64 + j, by omega⟩ : Fin 512)) * Ideal.rsqrt (z + Ideal.ofBits FTy.f32 897988541#32)) ?_) ?_
  · exact mean_square (n := 256) (fun k => x (ix3 0 r (⟨k, by omega⟩ : Fin 512)) * x (ix3 0 r (⟨k, by omega⟩ : Fin 512))) (fun k => o (ix2 k (⟨h * 64 + j, by omega⟩ : Fin 256))) h
      (by omega) (fun k => fin_mul (hx k) (hx k)) fun k => (ho k _).trans
        (if_congr (by show (k : ℕ) / 64 = ((h : ℕ) * 64 + j) / 64 ↔ (k : ℕ) / 64 = h; omega) rfl rfl)
  · exact (hg _).trans (congrArg gain (Fin.ext (by show ((h : ℕ) * 64 + j) % 64 = j; omega)))

/-- An index of a one-head block by its row and column. -/
theorem row_col (x : S1x1x256x64.Idx) (r : Fin 256) (d : Fin 64) (h2 : (r : ℕ) = x 2) (h3 : (d : ℕ) = x 3) : x = ix4 0 0 r d := by
  blk_ext

theorem row_colV (x : S1x1x256x128.Idx) (r : Fin 256) (d : Fin 128) (h2 : (r : ℕ) = x 2) (h3 : (d : ℕ) = x 3) : x = ix4 0 0 r d := by
  blk_ext

/-- The half of a register of 128 lanes ahead of the first. -/
theorem half (x : FVec Ideal S256x128 .f32) (r : Fin 256) (d : Fin 128) (h : (d : ℕ) < 64) :
    dynamicRotate 1 64#32 none x rotates_S256x128_d1 (ix2 r d) = x (ix2 r (⟨d + 64, by omega⟩ : Fin 128)) := by
  refine dynamicRotate_apply 1 64#32 x rotates_S256x128_d1 (ix2 r d) _ fun b => ?_
  match b with
  | ⟨0, _⟩ => rfl
  | ⟨1, _⟩ => show (d : ℕ) + 64 = ((d : ℕ) + 128 - 64 % 128) % 128; omega

theorem cutK0 (x : FVec Ideal S1x256x512 .f32) (o : FVec Ideal S256x256 .bf16) (g : FVec Ideal S1x256 .f32) (r : Fin 256) (d : Fin 64) :
    k0_pay6 (F := Ideal) x o g (ix4 0 0 r d) = k0_pay5 (F := Ideal) x o g (ix2 r (⟨0 + d, by omega⟩ : Fin 256)) := by
  unfold k0_pay6
  generalize k0_pay5 (F := Ideal) x o g = k
  pointwise []

theorem cutK1 (k : FVec Ideal S256x256 .f32) (r : Fin 256) (d : Fin 64) :
    k0_pay9 (F := Ideal) k (ix4 0 0 r d) = k (ix2 r (⟨64 + d, by omega⟩ : Fin 256)) := by
  unfold k0_pay9
  pointwise []

theorem cutK2 (k : FVec Ideal S256x256 .f32) (r : Fin 256) (d : Fin 64) :
    k0_pay11 (F := Ideal) k (ix4 0 0 r d) = k (ix2 r (⟨128 + d, by omega⟩ : Fin 256)) := by
  unfold k0_pay11
  pointwise []

theorem cutK3 (k : FVec Ideal S256x256 .f32) (r : Fin 256) (d : Fin 64) :
    k0_pay2 (F := Ideal) k (ix4 0 0 r d) = k (ix2 r (⟨192 + d, by omega⟩ : Fin 256)) := by
  unfold k0_pay2
  pointwise []

theorem cutV0 (x : FVec Ideal S1x256x512 .f32) (r : Fin 256) (d : Fin 128) :
    k0_pay8 (F := Ideal) (k0_pay7 x) (ix4 0 0 r d)
      = oneAfter (fun j => x (ix3 0 r (⟨256 + j, by omega⟩ : Fin 512))) d := by
  unfold k0_pay8 k0_pay7 k0_pay4
  pointwise []
  exact one_after d _ _ fun _ => rfl

theorem cutV1 (x : FVec Ideal S1x256x512 .f32) (r : Fin 256) (d : Fin 128) :
    k0_pay10 (F := Ideal) (k0_pay4 (F := Ideal) x) (iota .tc S256x128 32 [1] iota_S256x128_d1_w32) (ix4 0 0 r d)
      = oneAfter (fun j => x (ix3 0 r (⟨320 + j, by omega⟩ : Fin 512))) d := by
  have hh := half (extractStridedSlice S256x128 ![0, 256] (k0_pay4 (F := Ideal) x) slices_S256x512_o0_256_S256x128) r d
  have hx : ∀ e : Fin 128, extractStridedSlice S256x128 ![0, 256] (k0_pay4 (F := Ideal) x) slices_S256x512_o0_256_S256x128 (ix2 r e)
      = x (ix3 0 r (⟨256 + e, by omega⟩ : Fin 512)) := fun e => by
    unfold k0_pay4
    pointwise []
  unfold k0_pay10
  generalize dynamicRotate 1 64#32 none (extractStridedSlice S256x128 ![0, 256] (k0_pay4 (F := Ideal) x) slices_S256x512_o0_256_S256x128)
    rotates_S256x128_d1 = v at hh ⊢
  pointwise []
  exact one_after d _ _ fun h => (hh h).trans ((hx _).trans
    (congrArg (fun k => x (ix3 0 r k)) (Fin.ext (by show 256 + ((d : ℕ) + 64) = 320 + d; omega))))

theorem cutV2 (x : FVec Ideal S1x256x512 .f32) (r : Fin 256) (d : Fin 128) :
    k0_pay1 (F := Ideal) (k0_pay12 (k0_pay4 (F := Ideal) x) (iota .tc S256x128 32 [1] iota_S256x128_d1_w32)) (ix4 0 0 r d)
      = oneAfter (fun j => x (ix3 0 r (⟨384 + j, by omega⟩ : Fin 512))) d := by
  unfold k0_pay1 k0_pay12 k0_pay4
  pointwise []
  exact one_after d _ _ fun _ => rfl

theorem cutV3 (x : FVec Ideal S1x256x512 .f32) (r : Fin 256) (d : Fin 128) :
    k0_pay3 (F := Ideal) (k0_pay4 (F := Ideal) x) (iota .tc S256x128 32 [1] iota_S256x128_d1_w32) (ix4 0 0 r d)
      = oneAfter (fun j => x (ix3 0 r (⟨448 + j, by omega⟩ : Fin 512))) d := by
  have hh := half (extractStridedSlice S256x128 ![0, 384] (k0_pay4 (F := Ideal) x) slices_S256x512_o0_384_S256x128) r d
  have hx : ∀ e : Fin 128, extractStridedSlice S256x128 ![0, 384] (k0_pay4 (F := Ideal) x) slices_S256x512_o0_384_S256x128 (ix2 r e)
      = x (ix3 0 r (⟨384 + e, by omega⟩ : Fin 512)) := fun e => by
    unfold k0_pay4
    pointwise []
  unfold k0_pay3
  generalize dynamicRotate 1 64#32 none (extractStridedSlice S256x128 ![0, 384] (k0_pay4 (F := Ideal) x) slices_S256x512_o0_384_S256x128)
    rotates_S256x128_d1 = v at hh ⊢
  pointwise []
  exact one_after d _ _ fun h => (hh h).trans ((hx _).trans
    (congrArg (fun k => x (ix3 0 r k)) (Fin.ext (by show 384 + ((d : ℕ) + 64) = 448 + d; omega))))

variable (x0 : FVec Ideal S1x256x512 .f32) (x1 : FVec Ideal S1x256 .f32) (x2 : FVec Ideal S256x256 .bf16)

theorem matK_eq : k0_pay15 (F := Ideal) x0 x1 x2 = k0_pay5 x0 x2 x1 := by
  unfold k0_pay15
  rw [View.ld_unit_zero zero3, View.ld_unit_zero zero2, View.ld_unit_zero zero2]

/-- What the four stores leave in the keys' block. -/
theorem storedK (y : S1x4x256x64.Idx) (h : Fin 4) (r : Fin 256) (d : Fin 64) (eh : (y 1 : ℕ) = h) (er : (y 2 : ℕ) = r)
    (ed : (y 3 : ℕ) = d) :
    out0_3 (F := Ideal) x0 x1 x2 y = k0_pay5 (F := Ideal) x0 x2 x1 (ix2 r (⟨h * 64 + d, by omega⟩ : Fin 256)) := by
  have hk : ∀ e : Fin 256, (e : ℕ) = h * 64 + d →
      k0_pay5 (F := Ideal) x0 x2 x1 (ix2 r e) = k0_pay5 (F := Ideal) x0 x2 x1 (ix2 r (⟨h * 64 + d, by omega⟩ : Fin 256)) :=
    fun e he => congrArg (fun e => k0_pay5 (F := Ideal) x0 x2 x1 (ix2 r e)) (Fin.ext he)
  canon_tiles x h
  case piece0 =>
    rw [row_col x r d (er.symm.trans h2) (ed.symm.trans h3)]
    rw [cutK3, matK_eq]
    exact hk _ (by show 192 + (d : ℕ) = h * 64 + d; omega)
  case piece1 =>
    rw [row_col x r d (er.symm.trans h2) (ed.symm.trans h3)]
    rw [cutK2, matK_eq]
    exact hk _ (by show 128 + (d : ℕ) = h * 64 + d; omega)
  case piece2 =>
    rw [row_col x r d (er.symm.trans h2) (ed.symm.trans h3)]
    rw [cutK1, matK_eq]
    exact hk _ (by show 64 + (d : ℕ) = h * 64 + d; omega)
  case piece3 =>
    rw [row_col x r d (er.symm.trans h2) (ed.symm.trans h3)]
    rw [View.ld_unit_zero zero3, View.ld_unit_zero zero2, View.ld_unit_zero zero2, cutK0]
    exact hk _ (by show 0 + (d : ℕ) = h * 64 + d; omega)

/-- What the four stores leave in the values' block. -/
theorem storedV (y : S1x4x256x128.Idx) (h : Fin 4) (r : Fin 256) (d : Fin 128) (eh : (y 1 : ℕ) = h) (er : (y 2 : ℕ) = r)
    (ed : (y 3 : ℕ) = d) :
    out0_4 (F := Ideal) x0 x1 x2 y
      = oneAfter (fun j => x0 (ix3 0 r (⟨256 + (h * 64 + j), by omega⟩ : Fin 512))) d := by
  have hv : ∀ (k : ℕ) (hk : k + 64 ≤ 512), k = 256 + h * 64 →
      oneAfter (fun j => x0 (ix3 0 r (⟨k + j, by omega⟩ : Fin 512))) d
        = oneAfter (fun j => x0 (ix3 0 r (⟨256 + (h * 64 + j), by omega⟩ : Fin 512))) d := fun k hk he =>
    congrArg (fun f => oneAfter f d) (funext fun j => congrArg (fun e => x0 (ix3 0 r e))
      (Fin.ext (by show k + (j : ℕ) = 256 + (h * 64 + j); omega)))
  canon_tiles x h
  case piece0 =>
    rw [row_colV x r d (er.symm.trans h2) (ed.symm.trans h3)]
    unfold k0_pay14
    rw [View.ld_unit_zero zero3]
    exact (cutV3 x0 r d).trans (hv 448 (by omega) (by omega))
  case piece1 =>
    rw [row_colV x r d (er.symm.trans h2) (ed.symm.trans h3)]
    unfold k0_pay14
    rw [View.ld_unit_zero zero3]
    exact (cutV2 x0 r d).trans (hv 384 (by omega) (by omega))
  case piece2 =>
    rw [row_colV x r d (er.symm.trans h2) (ed.symm.trans h3)]
    unfold k0_pay14
    rw [View.ld_unit_zero zero3]
    exact (cutV1 x0 r d).trans (hv 320 (by omega) (by omega))
  case piece3 =>
    rw [row_colV x r d (er.symm.trans h2) (ed.symm.trans h3)]
    rw [View.ld_unit_zero zero3]
    exact (cutV0 x0 r d).trans (hv 256 (by omega) (by omega))

/-! ## The arrays -/

/-- The precondition's array of ones, read: every projection a key is made of is a real number. -/
theorem reals (h : Cert.Pre_Kernel12Ideal_finite_keys m) (c : Dev nD) (b : Fin 4) (l e : Fin 256) :
    IsReal (argX m c (ix3 b l (⟨e, by omega⟩ : Fin 512))) := by
  refine Cert.KernelIdeal.Attn.real_of_mask ?_
  refine Eq.trans ?_ (congrFun (h c) (ix3 b l e))
  pointwise [Cert.Pre_finite_keys.fn]
  rfl

/-- One element of a grid point's keys is the reference's element there. -/
theorem pointK (h : Cert.Pre_Kernel12Ideal_finite_keys m) (c : Dev nD) (t : Fin cfg0.N) (y : S1x4x256x64.Idx) (j : S4x4x256x64.Idx)
    (hj0 : (j 0 : ℕ) = t.val) (hj1 : (j 1 : ℕ) = y 1) (hj2 : (j 2 : ℕ) = y 2) (hj3 : (j 3 : ℕ) = y 3) :
    out0_3 (F := Ideal) (iblk m c 0 t) (iblk m c 1 t) (iblk m c 2 t) y
      = Cert.Reference12Ideal.Read.val_main_v22 (F := Ideal) (argX m c) (argH m c) j := by
  idx_vars y
  idx_vars j
  obtain rfl : j1 = y1 := Fin.ext hj1
  obtain rfl : j2 = y2 := Fin.ext hj2
  obtain rfl : j3 = y3 := Fin.ext hj3
  refine (storedK _ _ _ _ j1 j2 j3 rfl rfl rfl).trans
    ((normed _ _ _ (fun i => argH m c (ix2 0 i)) j2 j1 j3 (fun k => ?_) (fun k d => pAt m c t k d) (fun d => hAt m c t d)).trans
      (Eq.trans ?_ (Cert.Reference12Ideal.Prep.keys _ _ j0 j2 j1 j3).symm))
  · rw [xAt m c t j2 _ j0 hj0]
    exact reals m h c j0 j2 k
  · refine congrArg (fun f => rms f _ _) (funext fun i => ?_)
    exact xAt m c t j2 _ j0 hj0

/-- One element of a grid point's values is the reference's element there. -/
theorem pointV (c : Dev nD) (t : Fin cfg0.N) (y : S1x4x256x128.Idx) (j : S4x4x256x128.Idx)
    (hj0 : (j 0 : ℕ) = t.val) (hj1 : (j 1 : ℕ) = y 1) (hj2 : (j 2 : ℕ) = y 2) (hj3 : (j 3 : ℕ) = y 3) :
    out0_4 (F := Ideal) (iblk m c 0 t) (iblk m c 1 t) (iblk m c 2 t) y
      = Cert.Reference12Ideal.Read.val_main_v24 (F := Ideal) (argX m c) j := by
  idx_vars y
  idx_vars j
  obtain rfl : j1 = y1 := Fin.ext hj1
  obtain rfl : j2 = y2 := Fin.ext hj2
  obtain rfl : j3 = y3 := Fin.ext hj3
  refine (storedV _ _ _ _ j1 j2 j3 rfl rfl rfl).trans
    (Eq.trans ?_ (Cert.Reference12Ideal.Prep.values _ j0 j2 j1 j3).symm)
  refine congrArg (fun f => oneAfter f j3) (funext fun i => ?_)
  exact xAt m c t j2 _ j0 hj0

/-- The kernel's keys are the reference's. -/
theorem finalK (h : Cert.Pre_Kernel12Ideal_finite_keys m) (c : Dev nD) : (dats m 0 c).arrAt 3 (cfgs 0).N
    = Cert.Reference12Ideal.Read.val_main_v22 (F := Ideal) (argX m c) (argH m c) := by
  refine (dats m 0 c).arrAt_eq_of_covers 3 _ (by decide +kernel) fun t _ y => ?_
  blk_simp
  rw [after0_3]
  refine pointK m h c t y _ ?_ ?_ ?_ ?_
  all_goals (blk_simp [idx_val t] <;> try omega)

/-- The kernel's values are the reference's. -/
theorem finalV (c : Dev nD) : (dats m 0 c).arrAt 4 (cfgs 0).N
    = Cert.Reference12Ideal.Read.val_main_v24 (F := Ideal) (argX m c) := by
  refine (dats m 0 c).arrAt_eq_of_covers 4 _ (by decide +kernel) fun t _ y => ?_
  blk_simp
  rw [after0_4]
  refine pointV m c t y _ ?_ ?_ ?_ ?_
  all_goals (blk_simp [idx_val t] <;> try omega)

end Cert.Kernel12Ideal.Prep

end
-- ==== Proof.CtxFfnPoint.lean ====
/- What one grid point of the context's expert feed-forward leaves in the output's block. -/
module

public import proofs.«01_k».proof.Proof.Gen.Kernel13Ideal.Value
public import Idealize.ShloMosaic.Lib.Pointwise
public import Idealize.ShloMosaic.Lib.Claim
public import Idealize.ShloMosaic.Lib.Pipeline.ValueKit

@[expose] public section

set_option maxRecDepth 16384

noncomputable section

namespace Cert.Kernel13Ideal.Ffn

open Cert.Kernel13Ideal Cert.Kernel13Ideal.Gen Idealize.ShloMosaic Idealize.ShloMosaic.TcCoe Idealize.SL.Sem

variable (m : (ℓ : Loc nD τ sig) → Buf (Elt Ideal) ℓ)

/-- The block each window holds: expert `t / 4`, slice of the hidden width `t % 4`. -/
theorem idx_val : ∀ t : Fin cfg0.N, win0_0.index t = ![t.val / 4, 0, 0] ∧ win0_1.index t = ![0, t.val / 4, 0, t.val % 4]
    ∧ win0_2.index t = ![0, t.val / 4, 0, t.val % 4] ∧ win0_3.index t = ![0, t.val / 4, t.val % 4, 0]
    ∧ win0_4.index t = ![t.val / 4, 0, 0] ∧ win0_5.index t = ![t.val / 4, 0, 0] :=
  (by decide +kernel : ∀ t : Fin grid0.N, _)

/-- A block's projection of row `r`, column `f`. -/
abbrev projB (x : FVec Ideal S1x128x1024 .bf16) (w : FVec Ideal S1x1x1024x512 .f32) (r : Fin 128) (f : Fin 512) : EReal :=
  ∑ k : Fin 1024, x (ix3 0 r k) * w (ix4 0 0 k f)

/-- A grid point's term of row `r`, column `d`: the hidden slice's share of the output. -/
abbrev part (x : FVec Ideal S1x128x1024 .bf16) (wg wu : FVec Ideal S1x1x1024x512 .f32) (wd : FVec Ideal S1x1x512x1024 .f32)
    (r : Fin 128) (d : Fin 1024) : EReal :=
  ∑ f : Fin 512, projB x wg r f * Ideal.logistic (projB x wg r f) * projB x wu r f * wd (ix4 0 0 f d)

theorem firstAt (c : Dev nD) (t : Fin cfg0.N) (h0 : t.val % 4 = 0) (r : Fin 128) (d : Fin 1024) :
    outsAt0 m c t.val t.isLt (ix3 0 r d) = part (iblk m c 0 t) (iblk m c 1 t) (iblk m c 2 t) (iblk m c 3 t) r d := by
  rw [outsAt0_A m c t h0 (by omega) h0 (by omega) (by omega)]
  frame_out
  canon_tiles x h
  case piece0 =>
    rw [show r = ⟨64 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

theorem nextAt (c : Dev nD) (t : Fin cfg0.N) (h0 : ¬ t.val % 4 = 0) (h3 : ¬ t.val % 4 = 3) (r : Fin 128) (d : Fin 1024) :
    outsAt0 m c t.val t.isLt (ix3 0 r d) =
     outsAt0 m c (t.val - 1) (lt_of_le_of_lt (Nat.sub_le ..) t.isLt) (ix3 0 r d) + part (iblk m c 0 t) (iblk m c 1 t) (iblk m c 2 t) (iblk m c 3 t) r d := by
  rw [outsAt0_B m c t h0 (by omega) h0 (by omega) h3]
  frame_out
  canon_tiles x h
  case piece0 =>
    rw [show r = ⟨64 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

/-- A load of the whole block after several stores reads what the stores left. -/
theorem whole_read {sig : RefSig} {κ : Kind} {sp : Space} (v : View sig κ sp S1x128x1024 .f32)
    (L : List (View.Piece (Elt Ideal) S1x128x1024 .f32)) (inb) (y : S1x128x1024.Idx) :
    v.readCov L (Rect.unit (s := S1x128x1024) ![0, 0, 0] ![1, 128, 1024] inb).toLoadRect y = View.canon L y := by
  rw [View.readCov_eq_canon']
  exact View.ld_unit_apply_of (View.canon L) _ _ inb y y fun a => by fin_cases a <;> simp

/-- The block with each row multiplied by its gate. -/
theorem gated (y : FVec Ideal S1x128x1024 .f32) (g : FVec Ideal S1x128x1 .f32) (r : Fin 128) (d : Fin 1024) :
    k0_pay4 (F := Ideal) y g (ix3 0 r d) = y (ix3 0 r d) * g (ix3 0 r 0) := by
  pointwise [k0_pay4]

theorem lastAt (c : Dev nD) (t : Fin cfg0.N) (h3 : t.val % 4 = 3) (r : Fin 128) (d : Fin 1024) :
    outsAt0 m c t.val t.isLt (ix3 0 r d) =
     (outsAt0 m c (t.val - 1) (lt_of_le_of_lt (Nat.sub_le ..) t.isLt) (ix3 0 r d) + part (iblk m c 0 t) (iblk m c 1 t) (iblk m c 2 t) (iblk m c 3 t) r d) * iblk m c 4 t (ix3 0 r 0) := by
  rw [outsAt0_C m c t (by omega) (by omega) (by omega) (by omega) h3]
  frame_out
  rw [gated]
  refine Ideal.mul_congr ((whole_read _ _ _ _).trans ?_) rfl
  canon_tiles x h
  case piece0 =>
    rw [show r = ⟨64 + (x 1 : ℕ), by omega⟩ from Fin.ext h1, show d = x 2 from Fin.ext h2]
    open_payloads
    pointwise []
  case piece1 =>
    rw [show r = ⟨(x 1 : ℕ), by omega⟩ from Fin.ext h1, show d = x 2 from Fin.ext h2]
    open_payloads
    pointwise []

end Cert.Kernel13Ideal.Ffn

end
-- ==== Proof.CtxFfnRef.lean ====
/- The context's expert feed-forward's reference read at an index. -/
module

public import proofs.«01_k».proof.Proof.Gen.Reference13Ideal.Read
public import Idealize.ShloMosaic.Lib.Pointwise

@[expose] public section

set_option maxRecDepth 16384

noncomputable section

namespace Cert.Reference13Ideal.Ffn

open Cert.Reference13Ideal Cert.Reference13Ideal.Gen Cert.Reference13Ideal.Read Idealize.ShloMosaic Idealize.SL.Sem

/-- One expert's projection of one token: the gate's or the up matrix's column `f`. -/
abbrev proj (x : FVec Ideal S4x16x32x1024 .f32) (w : FVec Ideal S4x16x1024x2048 .f32) (b : Fin 4) (e : Fin 16) (i : Fin 32)
    (f : Fin 2048) : EReal := ∑ k : Fin 1024, x (ix4 b e i k) * w (ix4 0 e k f)

/-- The gated hidden value. -/
abbrev hidden (x : FVec Ideal S4x16x32x1024 .f32) (wg wu : FVec Ideal S4x16x1024x2048 .f32) (b : Fin 4) (e : Fin 16) (i : Fin 32)
    (f : Fin 2048) : EReal :=
  proj x wg b e i f * Ideal.logistic (proj x wg b e i f) * proj x wu b e i f

theorem out (x0 : FVec Ideal S4x16x32x1024 .f32) (x1 x2 : FVec Ideal S4x16x1024x2048 .f32) (x3 : FVec Ideal S4x16x2048x1024 .f32)
    (x4 : FVec Ideal S4x16x32 .f32) (e : Fin 16) (r : Fin 128) (d : Fin 1024) (b : Fin 4) (i : Fin 32) (hb : (b : ℕ) = r / 32) (hi : (i : ℕ) = r % 32) :
    val_main_v18 (F := Ideal) x0 x1 x2 x3 x4 (ix3 e r d)
      = (∑ f : Fin 2048, hidden x0 x1 x2 b e i f * x3 (ix4 0 e f d)) * x4 (ix3 b e i) := by
  have eb : b = ⟨r / 32, by omega⟩ := Fin.ext hb
  have ei : i = ⟨r % 32, by omega⟩ := Fin.ext hi
  unfold val_main_v18 val_main_v17 val_main_v16 val_main_v15 val_main_v14 val_main_v13 val_main_v12 val_main_v11 val_main_v10 val_main_v9
    val_main_v8 val_main_call0_v5 val_main_call0_v4 val_main_call0_v3 val_main_call0_v2 val_main_call0_v1 val_main_call0_v0
    val_main_call0_cst val_main_call0_cst_0 val_main_v7 val_main_v6 val_main_v5 val_main_v4 val_main_v3 val_main_v2 val_main_v1 val_main_v0
  pointwise [eb, ei]
  refine Ideal.mul_congr (Finset.sum_congr rfl fun f _ => ?_) rfl
  rw [mul_comm (x3 _)]
  simp only [hidden, proj, mul_comm (x1 _), mul_comm (x2 _)]
  rfl

end Cert.Reference13Ideal.Ffn

end
-- ==== Proof.CtxFfnValue.lean ====
/- The context's expert feed-forward's value: the four slices of the hidden width, accumulated in the output's block and gated at the
   last, are the reference's one contraction. -/
module

public import proofs.«01_k».proof.Proof.CtxFfnPoint
public import proofs.«01_k».proof.Proof.CtxFfnRef

@[expose] public section

set_option maxRecDepth 16384

noncomputable section

namespace Cert.Kernel13Ideal.Ffn

open Cert.Kernel13Ideal Cert.Kernel13Ideal.Gen Idealize.ShloMosaic Idealize.ShloMosaic.TcCoe Idealize.SL.Sem

variable (m : (ℓ : Loc nD τ sig) → Buf (Elt Ideal) ℓ)

/-- The arguments at their plain types: the gathered tokens, the three expert matrices, the gates. -/
abbrev argX (c : Dev nD) : FVec Ideal S4x16x32x1024 .f32 := m ((c : Thread nD τ).loc main_arg0)
abbrev argWg (c : Dev nD) : FVec Ideal S4x16x1024x2048 .f32 := m ((c : Thread nD τ).loc main_arg1)
abbrev argWu (c : Dev nD) : FVec Ideal S4x16x1024x2048 .f32 := m ((c : Thread nD τ).loc main_arg2)
abbrev argWd (c : Dev nD) : FVec Ideal S4x16x2048x1024 .f32 := m ((c : Thread nD τ).loc main_arg3)
abbrev argG (c : Dev nD) : FVec Ideal S4x16x32 .f32 := m ((c : Thread nD τ).loc main_arg4)

theorem xAt (c : Dev nD) (t : Fin cfg0.N) (r : Fin 128) (k : Fin 1024) (b : Fin 4) (e : Fin 16) (i : Fin 32)
    (hb : (b : ℕ) = r / 32) (he : (e : ℕ) = t.val / 4) (hi : (i : ℕ) = r % 32) :
    iblk m c 0 t (ix3 0 r k) = argX m c (ix4 b e i k) := by
  blk_simp [iblk]
  entry_read
  pointwise []
  blk_ext [idx_val t]

theorem wgAt (c : Dev nD) (t : Fin cfg0.N) (k : Fin 1024) (f : Fin 512) (e : Fin 16) (g : Fin 2048) (he : (e : ℕ) = t.val / 4)
    (hg : (g : ℕ) = t.val % 4 * 512 + f) : iblk m c 1 t (ix4 0 0 k f) = argWg m c (ix4 0 e k g) := by
  blk_simp [iblk]
  entry_read
  blk_ext [idx_val t]

theorem wuAt (c : Dev nD) (t : Fin cfg0.N) (k : Fin 1024) (f : Fin 512) (e : Fin 16) (g : Fin 2048) (he : (e : ℕ) = t.val / 4)
    (hg : (g : ℕ) = t.val % 4 * 512 + f) : iblk m c 2 t (ix4 0 0 k f) = argWu m c (ix4 0 e k g) := by
  blk_simp [iblk]
  entry_read
  blk_ext [idx_val t]

theorem wdAt (c : Dev nD) (t : Fin cfg0.N) (f : Fin 512) (d : Fin 1024) (e : Fin 16) (g : Fin 2048) (he : (e : ℕ) = t.val / 4)
    (hg : (g : ℕ) = t.val % 4 * 512 + f) : iblk m c 3 t (ix4 0 0 f d) = argWd m c (ix4 0 e g d) := by
  blk_simp [iblk]
  entry_read
  blk_ext [idx_val t]

theorem gateAt (c : Dev nD) (t : Fin cfg0.N) (r : Fin 128) (b : Fin 4) (e : Fin 16) (i : Fin 32)
    (hb : (b : ℕ) = r / 32) (he : (e : ℕ) = t.val / 4) (hi : (i : ℕ) = r % 32) :
    iblk m c 4 t (ix3 0 r 0) = argG m c (ix3 b e i) := by
  blk_simp [iblk]
  entry_read
  pointwise []
  blk_ext [idx_val t]

/-- The reference's term of hidden column `g`. -/
abbrev term (c : Dev nD) (b : Fin 4) (e : Fin 16) (i : Fin 32) (d : Fin 1024) (g : Fin 2048) : EReal :=
  Cert.Reference13Ideal.Ffn.hidden (argX m c) (argWg m c) (argWu m c) b e i g * argWd m c (ix4 0 e g d)

/-- A grid point's term is the reference's terms of the point's slice of the hidden width. -/
theorem partAt (c : Dev nD) (t : Fin cfg0.N) (r : Fin 128) (d : Fin 1024) (b : Fin 4) (e : Fin 16) (i : Fin 32) (s : Fin 4)
    (hb : (b : ℕ) = r / 32) (he : (e : ℕ) = t.val / 4) (hi : (i : ℕ) = r % 32) (hs : (s : ℕ) = t.val % 4) :
    part (iblk m c 0 t) (iblk m c 1 t) (iblk m c 2 t) (iblk m c 3 t) r d = ∑ f : Fin 512, term m c b e i d ⟨s * 512 + f, by omega⟩ := by
  refine Finset.sum_congr rfl fun f _ => ?_
  simp only [projB, xAt m c t r _ b e i hb he hi, wgAt m c t _ f e ⟨s * 512 + f, by omega⟩ he (by simp only [hs]),
    wuAt m c t _ f e ⟨s * 512 + f, by omega⟩ he (by simp only [hs]), wdAt m c t f d e ⟨s * 512 + f, by omega⟩ he (by simp only [hs])]

/-- At the last point of a run of four the block holds the gated sum of the run's four terms. -/
theorem point (c : Dev nD) (t : Fin cfg0.N) (h3 : t.val % 4 = 3) (y : S1x128x1024.Idx) (j : S16x128x1024.Idx)
    (hj0 : (j 0 : ℕ) = t.val / 4) (hj1 : (j 1 : ℕ) = y 1) (hj2 : (j 2 : ℕ) = y 2) :
    outsAt0 m c t.val t.isLt y
      = Cert.Reference13Ideal.Read.val_main_v18 (F := Ideal) (argX m c) (argWg m c) (argWu m c) (argWd m c) (argG m c) j := by
  have ht : t.val < 64 := lt_of_lt_of_eq t.isLt N_0
  idx_vars y
  idx_vars j
  obtain rfl : j1 = y1 := Fin.ext hj1
  obtain rfl : j2 = y2 := Fin.ext hj2
  obtain rfl : y0 = 0 := Subsingleton.elim _ _
  have hr : (j1 : ℕ) < 128 := j1.isLt
  rw [Cert.Reference13Ideal.Ffn.out _ _ _ _ _ j0 j1 j2 ⟨j1 / 32, by omega⟩ ⟨j1 % 32, by omega⟩ rfl rfl, lastAt m c t h3,
    nextAt m c ⟨t.val - 1, by omega⟩ (by simp only []; omega) (by simp only []; omega),
    nextAt m c ⟨t.val - 1 - 1, by omega⟩ (by simp only []; omega) (by simp only []; omega),
    firstAt m c ⟨t.val - 1 - 1 - 1, by omega⟩ (by simp only []; omega),
    gateAt m c t j1 ⟨j1 / 32, by omega⟩ j0 ⟨j1 % 32, by omega⟩ rfl hj0 rfl]
  refine Ideal.mul_congr ?_ rfl
  rw [partAt m c t j1 j2 ⟨j1 / 32, by omega⟩ j0 ⟨j1 % 32, by omega⟩ 3 rfl hj0 rfl h3.symm,
    partAt m c ⟨t.val - 1, by omega⟩ j1 j2 ⟨j1 / 32, by omega⟩ j0 ⟨j1 % 32, by omega⟩ 2 rfl (by simp only []; omega) rfl (by simp only []; omega),
    partAt m c ⟨t.val - 1 - 1, by omega⟩ j1 j2 ⟨j1 / 32, by omega⟩ j0 ⟨j1 % 32, by omega⟩ 1 rfl (by simp only []; omega) rfl (by simp only []; omega),
    partAt m c ⟨t.val - 1 - 1 - 1, by omega⟩ j1 j2 ⟨j1 / 32, by omega⟩ j0 ⟨j1 % 32, by omega⟩ 0 rfl (by simp only []; omega) rfl (by simp only []; omega)]
  refine (Fin.sum_univ_four (fun s : Fin 4 => ∑ f : Fin 512, term m c _ j0 _ j2 ⟨s * 512 + f, by omega⟩)).symm.trans ?_
  exact Fin.sum_mul_add_congr fun s k hl => rfl

/-- The kernel's result array is the reference's. -/
theorem final (c : Dev nD) : (dats m 0 c).arrAt 5 (cfgs 0).N
    = Cert.Reference13Ideal.Read.val_main_v18 (F := Ideal) (argX m c) (argWg m c) (argWu m c) (argWd m c) (argG m c) := by
  refine (dats m 0 c).arrAt_eq_of_covers 5 _ (by decide +kernel) fun t hf y => ?_
  blk_simp
  rw [after0_5]
  refine point m c t ((flush0_5 t).mp hf) y _ ?_ ?_ ?_
  all_goals (blk_simp [idx_val t] <;> try omega)

end Cert.Kernel13Ideal.Ffn

end
-- ==== Proof.CtxPostnormValue.lean ====
/- The context's norm after the experts: the kernel's array is the reference's. -/
module

public import proofs.«01_k».proof.Proof.Gen.Kernel14Ideal.Value
public import proofs.«01_k».proof.Proof.Gen.Reference14Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference14Ideal.Postnorm

open Cert.Reference14Ideal Cert.Reference14Ideal.Gen Cert.Reference14Ideal.Read Idealize.ShloMosaic Idealize.SL.Sem
open Cert.RowNorm

/-- The reference at an index. -/
theorem out (x0 x1 : FVec Ideal S4x256x1024 .f32) (x2 : FVec Ideal S4x1x1024 .f32) (x3 x4 : FVec Ideal S4x2x1024 .f32)
    (b : Fin 4) (l : Fin 256) (d : Fin 1024) :
    val_main_v32 (F := Ideal) x0 x1 x2 x3 x4 (ix3 b l d)
      = lnorm 0x44800000#32 (fun k => postSum (x1 (ix3 b l k)) (x2 (ix3 b 0 k)) (x0 (ix3 b l k))) (x3 (ix3 0 1 d)) (x4 (ix3 0 1 d)) d := by
  unfold val_main_v32 val_main_v31 val_main_v30 val_main_v29 val_main_v28 val_main_v27 val_main_v26 val_main_v25 val_main_v24 val_main_v23
    val_main_v22 val_main_cst_4 val_main_v21 val_main_v20 val_main_v19 val_main_v18 val_main_cst_3 val_main_v17 val_main_v16
    val_main_cst_2 val_main_v15 val_main_v14 val_main_v13 val_main_v12 val_main_v11 val_main_cst_1 val_main_v10 val_main_v9
    val_main_cst_0 val_main_v8 val_main_v7 val_main_v6 val_main_cst val_main_v5 val_main_v4 val_main_v3 val_main_v2 val_main_v1
    val_main_v0
  pointwise [lnorm, mean, postSum]

end Cert.Reference14Ideal.Postnorm

namespace Cert.Kernel14Ideal.Postnorm

open Cert.Kernel14Ideal Cert.Kernel14Ideal.Gen Idealize.ShloMosaic Idealize.ShloMosaic.TcCoe Idealize.SL.Sem
open Cert.RowNorm

variable (m : (ℓ : Loc nD τ sig) → Buf (Elt Ideal) ℓ)

/-- The arguments at their plain types: the update, the stream, the gates, the norm's weights and offsets. -/
abbrev argY (c : Dev nD) : FVec Ideal S4x256x1024 .f32 := m ((c : Thread nD τ).loc main_arg0)
abbrev argX (c : Dev nD) : FVec Ideal S4x256x1024 .f32 := m ((c : Thread nD τ).loc main_arg1)
abbrev argGate (c : Dev nD) : FVec Ideal S4x1x1024 .f32 := m ((c : Thread nD τ).loc main_arg2)
abbrev argG (c : Dev nD) : FVec Ideal S4x2x1024 .f32 := m ((c : Thread nD τ).loc main_arg3)
abbrev argB (c : Dev nD) : FVec Ideal S4x2x1024 .f32 := m ((c : Thread nD τ).loc main_arg4)

/-- The block each window holds: batch entry `t`, all its rows. -/
theorem idx_val : ∀ t : Fin cfg0.N, win0_0.index t = ![t.val, 0, 0] ∧ win0_1.index t = ![t.val, 0, 0]
    ∧ win0_2.index t = ![t.val, 0, 0] ∧ win0_3.index t = ![0, 0] ∧ win0_4.index t = ![0, 0]
    ∧ win0_5.index t = ![t.val, 0, 0] :=
  (by decide +kernel : ∀ t : Fin grid0.N, _)

theorem yAt (c : Dev nD) (t : Fin cfg0.N) (r : Fin 256) (k : Fin 1024) (b : Fin 4) (l : Fin 256) (hb : (b : ℕ) = t.val)
    (hl : (l : ℕ) = r) : iblk m c 0 t (ix3 0 r k) = argY m c (ix3 b l k) := by
  blk_simp [iblk]
  entry_read
  blk_ext [idx_val t]

theorem xAt (c : Dev nD) (t : Fin cfg0.N) (r : Fin 256) (k : Fin 1024) (b : Fin 4) (l : Fin 256) (hb : (b : ℕ) = t.val)
    (hl : (l : ℕ) = r) : iblk m c 1 t (ix3 0 r k) = argX m c (ix3 b l k) := by
  blk_simp [iblk]
  entry_read
  blk_ext [idx_val t]

theorem gateAt (c : Dev nD) (t : Fin cfg0.N) (k : Fin 1024) (b : Fin 4) (hb : (b : ℕ) = t.val) :
    iblk m c 2 t (ix3 0 0 k) = argGate m c (ix3 b 0 k) := by
  blk_simp [iblk]
  entry_read
  blk_ext [idx_val t]

theorem gAt (c : Dev nD) (t : Fin cfg0.N) (k : Fin 1024) : iblk m c 3 t (ix2 0 k) = argG m c (ix3 0 1 k) := by
  blk_simp [iblk]
  entry_read
  pointwise []
  blk_ext [idx_val t]

theorem bAt (c : Dev nD) (t : Fin cfg0.N) (k : Fin 1024) : iblk m c 4 t (ix2 0 k) = argB m c (ix3 0 1 k) := by
  blk_simp [iblk]
  entry_read
  pointwise []
  blk_ext [idx_val t]

/-- What one grid point stores, from its blocks. -/
theorem stored (y x : FVec Ideal S1x256x1024 .f32) (gate : FVec Ideal S1x1x1024 .f32) (g b : FVec Ideal S1x1024 .f32) (r : Fin 256) (d : Fin 1024) :
    out0_5 (F := Ideal) y x gate g b (ix3 0 r d)
      = lnorm 0x44800000#32 (fun k => postSum (x (ix3 0 r k)) (gate (ix3 0 0 k)) (y (ix3 0 r k))) (g (ix2 0 d)) (b (ix2 0 d)) d := by
  unfold out0_5
  rw [View.canon_unit_zero zero3]
  rw [View.ld_unit_zero zero3, View.ld_unit_zero zero3, View.ld_unit_zero zero3, View.ld_unit_zero zero2, View.ld_unit_zero zero2]
  pointwise [k0_pay1, k0_pay2, lnorm, mean, postSum]

/-- One element of a grid point's block is the reference's element there. -/
theorem point (c : Dev nD) (t : Fin cfg0.N) (y : S1x256x1024.Idx) (j : S4x256x1024.Idx) (hj0 : (j 0 : ℕ) = t.val)
    (hj1 : (j 1 : ℕ) = y 1) (hj2 : (j 2 : ℕ) = y 2) :
    out0_5 (F := Ideal) (iblk m c 0 t) (iblk m c 1 t) (iblk m c 2 t) (iblk m c 3 t) (iblk m c 4 t) y
      = Cert.Reference14Ideal.Read.val_main_v32 (F := Ideal) (argY m c) (argX m c) (argGate m c) (argG m c) (argB m c) j := by
  idx_vars y
  idx_vars j
  obtain rfl : j2 = y2 := Fin.ext hj2
  obtain rfl : y0 = 0 := Subsingleton.elim _ _
  refine (stored _ _ _ _ _ y1 j2).trans (Eq.trans ?_ (Cert.Reference14Ideal.Postnorm.out _ _ _ _ _ j0 j1 j2).symm)
  rw [gAt, bAt]
  refine congrArg (fun f => lnorm _ f _ _ _) (funext fun k => ?_)
  rw [yAt m c t y1 k j0 j1 hj0 hj1, xAt m c t y1 k j0 j1 hj0 hj1, gateAt m c t k j0 hj0]

/-- The kernel's result array is the reference's. -/
theorem final (c : Dev nD) : (dats m 0 c).arrAt 5 (cfgs 0).N
    = Cert.Reference14Ideal.Read.val_main_v32 (F := Ideal) (argY m c) (argX m c) (argGate m c) (argG m c) (argB m c) := by
  refine (dats m 0 c).arrAt_eq_of_covers 5 _ (by decide +kernel) fun t _ y => ?_
  blk_simp
  rw [after0_5]
  refine point m c t y _ ?_ ?_ ?_
  all_goals (blk_simp [idx_val t] <;> try omega)

end Cert.Kernel14Ideal.Postnorm

end
-- ==== Proof.CtxModMatmulValue.lean ====
/- The context's Hyena projection: the kernel's array is the reference's. -/
module

public import proofs.«01_k».proof.Proof.Gen.Kernel15Ideal.Value
public import proofs.«01_k».proof.Proof.Gen.Reference15Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference15Ideal.ModMatmul

open Cert.Reference15Ideal Cert.Reference15Ideal.Gen Cert.Reference15Ideal.Read Idealize.ShloMosaic Idealize.SL.Sem
open Cert.RowNorm

/-- The reference at an index. -/
theorem out (x0 : FVec Ideal S4x256x1024 .f32) (x1 x2 : FVec Ideal S4x1x1024 .f32) (x3 : FVec Ideal S2x1024x3072 .f32)
    (b : Fin 4) (l : Fin 256) (d : Fin 3072) :
    val_main_v8 (F := Ideal) x0 x1 x2 x3 (ix3 b l d)
      = ∑ k : Fin 1024, modEntry (x0 (ix3 b l k)) (x1 (ix3 b 0 k)) (x2 (ix3 b 0 k)) * x3 (ix3 0 k d) := by
  unfold val_main_v8 val_main_v7 val_main_v6 val_main_v5 val_main_v4 val_main_v3 val_main_v2 val_main_v1 val_main_v0 val_main_cst
  pointwise [modEntry]

end Cert.Reference15Ideal.ModMatmul

namespace Cert.Kernel15Ideal.ModMatmul

open Cert.Kernel15Ideal Cert.Kernel15Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the projection's weights. -/
abbrev argX (c : Dev nD) : FVec Ideal S4x256x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S2x1024x3072 .f32 := m ((c : Thread nD τ).loc main_arg3)

/-- The block each window holds: batch entry `t`, all its rows. -/
theorem idx_val : ∀ t : Fin cfg0.N, win0_0.index t = ![t.val, 0, 0] ∧ win0_1.index t = ![t.val, 0, 0]
    ∧ win0_2.index t = ![t.val, 0, 0] ∧ win0_3.index t = ![0, 0] ∧ win0_4.index t = ![t.val, 0, 0] :=
  (by decide +kernel : ∀ t : Fin grid0.N, _)

theorem xAt (c : Dev nD) (t : Fin cfg0.N) (r : Fin 256) (k : Fin 1024) (b : Fin 4) (l : Fin 256) (hb : (b : ℕ) = t.val)
    (hl : (l : ℕ) = r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val) :
    iblk m c 2 t (ix3 0 0 k) = argScale m c (ix3 b 0 k) := by
  blk_simp [iblk]
  entry_read
  blk_ext [idx_val t]

theorem wAt (c : Dev nD) (t : Fin cfg0.N) (k : Fin 1024) (d : Fin 3072) :
    iblk m c 3 t (ix2 k d) = argW m c (ix3 0 k d) := by
  blk_simp [iblk]
  entry_read
  pointwise []
  blk_ext [idx_val t]

/-- What one grid point stores, from its blocks. -/
theorem stored (x : FVec Ideal S1x256x1024 .f32) (shift scale : FVec Ideal S1x1x1024 .f32) (w : FVec Ideal S1024x3072 .bf16)
    (r : Fin 256) (d : Fin 3072) :
    out0_4 (F := Ideal) x shift scale w (ix3 0 r d)
      = ∑ k : Fin 1024, modEntry (x (ix3 0 r k)) (shift (ix3 0 0 k)) (scale (ix3 0 0 k)) * w (ix2 k d) := by
  unfold out0_4
  rw [View.canon_unit_zero zero3]
  rw [View.ld_unit_zero zero3, View.ld_unit_zero zero3, View.ld_unit_zero zero3, View.ld_unit_zero zero2]
  pointwise [k0_pay1, modEntry]

/-- One element of a grid point's block is the reference's element there. -/
theorem point (c : Dev nD) (t : Fin cfg0.N) (y : S1x256x3072.Idx) (j : S4x256x3072.Idx) (hj0 : (j 0 : ℕ) = t.val)
    (hj1 : (j 1 : ℕ) = y 1) (hj2 : (j 2 : ℕ) = y 2) :
    out0_4 (F := Ideal) (iblk m c 0 t) (iblk m c 1 t) (iblk m c 2 t) (iblk m c 3 t) y
      = Cert.Reference15Ideal.Read.val_main_v8 (F := Ideal) (argX m c) (argShift m c) (argScale m c) (argW m c) j := by
  idx_vars y
  idx_vars j
  obtain rfl : j2 = y2 := Fin.ext hj2
  obtain rfl : y0 = 0 := Subsingleton.elim _ _
  refine (stored _ _ _ _ y1 j2).trans (Eq.trans ?_ (Cert.Reference15Ideal.ModMatmul.out _ _ _ _ j0 j1 j2).symm)
  refine Finset.sum_congr rfl fun k _ => ?_
  rw [xAt m c t y1 k j0 j1 hj0 hj1, shiftAt m c t k j0 hj0, scaleAt m c t k j0 hj0, wAt m c t k j2]

/-- The kernel's result array is the reference's. -/
theorem final (c : Dev nD) : (dats m 0 c).arrAt 4 (cfgs 0).N
    = Cert.Reference15Ideal.Read.val_main_v8 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

end Cert.Kernel15Ideal.ModMatmul

end
-- ==== Proof.CtxMatmulPostnormValue.lean ====
/- The context's Hyena output projection and the norm after it: the kernel's array is the reference's. -/
module

public import proofs.«01_k».proof.Proof.Gen.Kernel16Ideal.Value
public import proofs.«01_k».proof.Proof.Gen.Reference16Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference16Ideal.MatmulPostnorm

open Cert.Reference16Ideal Cert.Reference16Ideal.Gen Cert.Reference16Ideal.Read Idealize.ShloMosaic Idealize.SL.Sem
open Cert.RowNorm

/-- One entry of the projection. -/
theorem proj (x0 : FVec Ideal S4x256x1024 .f32) (x1 : FVec Ideal S2x1024x1024 .f32) (b : Fin 4) (l : Fin 256) (d : Fin 1024) :
    val_main_v2 (F := Ideal) x0 x1 (ix3 b l d) = ∑ k : Fin 1024, x0 (ix3 b l k) * x1 (ix3 0 k d) := by
  unfold val_main_v2 val_main_v1 val_main_v0
  pointwise []

/-- The reference at an index. -/
theorem out (x0 : FVec Ideal S4x256x1024 .f32) (x1 : FVec Ideal S2x1024x1024 .f32) (x2 : FVec Ideal S4x256x1024 .f32)
    (x3 : FVec Ideal S4x1x1024 .f32) (x4 x5 : FVec Ideal S4x2x1024 .f32) (b : Fin 4) (l : Fin 256) (d : Fin 1024) :
    val_main_v35 (F := Ideal) x0 x1 x2 x3 x4 x5 (ix3 b l d)
      = lnorm 0x44800000#32 (fun k => postSum (x2 (ix3 b l k)) (x3 (ix3 b 0 k)) (∑ i : Fin 1024, x0 (ix3 b l i) * x1 (ix3 0 i k)))
          (x4 (ix3 0 0 d)) (x5 (ix3 0 0 d)) d := by
  unfold val_main_v35 val_main_v34 val_main_v33 val_main_v32 val_main_v31 val_main_v30 val_main_v29 val_main_v28 val_main_v27 val_main_v26
    val_main_v25 val_main_cst_4 val_main_v24 val_main_v23 val_main_v22 val_main_v21 val_main_cst_3 val_main_v20 val_main_v19
    val_main_cst_2 val_main_v18 val_main_v17 val_main_v16 val_main_v15 val_main_v14 val_main_cst_1 val_main_v13 val_main_v12
    val_main_cst_0 val_main_v11 val_main_v10 val_main_v9 val_main_cst val_main_v8 val_main_v7 val_main_v6 val_main_v5 val_main_v4
    val_main_v3
  simp only [← proj]
  pointwise [lnorm, mean, postSum]

end Cert.Reference16Ideal.MatmulPostnorm

namespace Cert.Kernel16Ideal.MatmulPostnorm

open Cert.Kernel16Ideal Cert.Kernel16Ideal.Gen Idealize.ShloMosaic Idealize.ShloMosaic.TcCoe Idealize.SL.Sem
open Cert.RowNorm

variable (m : (ℓ : Loc nD τ sig) → Buf (Elt Ideal) ℓ)

/-- The arguments at their plain types: the mixed rows, the projection's weights, the stream, the gates, the norm's weights and offsets. -/
abbrev argZ (c : Dev nD) : FVec Ideal S4x256x1024 .f32 := m ((c : Thread nD τ).loc main_arg0)
abbrev argW (c : Dev nD) : FVec Ideal S2x1024x1024 .f32 := m ((c : Thread nD τ).loc main_arg1)
abbrev argX (c : Dev nD) : FVec Ideal S4x256x1024 .f32 := m ((c : Thread nD τ).loc main_arg2)
abbrev argGate (c : Dev nD) : FVec Ideal S4x1x1024 .f32 := m ((c : Thread nD τ).loc main_arg3)
abbrev argG (c : Dev nD) : FVec Ideal S4x2x1024 .f32 := m ((c : Thread nD τ).loc main_arg4)
abbrev argB (c : Dev nD) : FVec Ideal S4x2x1024 .f32 := m ((c : Thread nD τ).loc main_arg5)

/-- The block each window holds: batch entry `t`, all its rows. -/
theorem idx_val : ∀ t : Fin cfg0.N, win0_0.index t = ![t.val, 0, 0] ∧ win0_1.index t = ![0, 0]
    ∧ win0_2.index t = ![t.val, 0, 0] ∧ win0_3.index t = ![t.val, 0, 0] ∧ win0_4.index t = ![0, 0]
    ∧ win0_5.index t = ![0, 0] ∧ win0_6.index t = ![t.val, 0, 0] :=
  (by decide +kernel : ∀ t : Fin grid0.N, _)

theorem zAt (c : Dev nD) (t : Fin cfg0.N) (r : Fin 256) (k : Fin 1024) (b : Fin 4) (l : Fin 256) (hb : (b : ℕ) = t.val)
    (hl : (l : ℕ) = r) :
    iblk m c 0 t (ix3 0 r k) = argZ m c (ix3 b l k) := by
  blk_simp [iblk]
  entry_read
  blk_ext [idx_val t]

theorem wAt (c : Dev nD) (t : Fin cfg0.N) (k : Fin 1024) (d : Fin 1024) :
    iblk m c 1 t (ix2 k d) = argW m c (ix3 0 k d) := by
  blk_simp [iblk]
  entry_read
  pointwise []
  blk_ext [idx_val t]

theorem xAt (c : Dev nD) (t : Fin cfg0.N) (r : Fin 256) (k : Fin 1024) (b : Fin 4) (l : Fin 256) (hb : (b : ℕ) = t.val)
    (hl : (l : ℕ) = r) :
    iblk m c 2 t (ix3 0 r k) = argX m c (ix3 b l k) := by
  blk_simp [iblk]
  entry_read
  blk_ext [idx_val t]

theorem gateAt (c : Dev nD) (t : Fin cfg0.N) (k : Fin 1024) (b : Fin 4) (hb : (b : ℕ) = t.val) :
    iblk m c 3 t (ix3 0 0 k) = argGate m c (ix3 b 0 k) := by
  blk_simp [iblk]
  entry_read
  blk_ext [idx_val t]

theorem gAt (c : Dev nD) (t : Fin cfg0.N) (k : Fin 1024) :
    iblk m c 4 t (ix2 0 k) = argG m c (ix3 0 0 k) := by
  blk_simp [iblk]
  entry_read
  pointwise []
  blk_ext [idx_val t]

theorem bAt (c : Dev nD) (t : Fin cfg0.N) (k : Fin 1024) :
    iblk m c 5 t (ix2 0 k) = argB m c (ix3 0 0 k) := by
  blk_simp [iblk]
  entry_read
  pointwise []
  blk_ext [idx_val t]

/-- What one grid point stores, from its blocks. -/
theorem stored (z : FVec Ideal S1x256x1024 .f32) (w : FVec Ideal S1024x1024 .bf16) (x : FVec Ideal S1x256x1024 .f32)
    (gate : FVec Ideal S1x1x1024 .f32) (g b : FVec Ideal S1x1024 .f32) (r : Fin 256) (d : Fin 1024) :
    out0_6 (F := Ideal) z w x gate g b (ix3 0 r d)
      = lnorm 0x44800000#32 (fun k => postSum (x (ix3 0 r k)) (gate (ix3 0 0 k)) (∑ i : Fin 1024, z (ix3 0 r i) * w (ix2 i k)))
          (g (ix2 0 d)) (b (ix2 0 d)) d := by
  unfold out0_6
  rw [View.canon_unit_zero zero3]
  rw [View.ld_unit_zero zero2, View.ld_unit_zero zero3, View.ld_unit_zero zero2, View.ld_unit_zero zero3, View.ld_unit_zero zero3,
    View.ld_unit_zero zero2]
  pointwise [k0_pay1, k0_pay2, k0_pay3, k0_pay4, lnorm, mean, postSum]

/-- One element of a grid point's block is the reference's element there. -/
theorem point (c : Dev nD) (t : Fin cfg0.N) (y : S1x256x1024.Idx) (j : S4x256x1024.Idx) (hj0 : (j 0 : ℕ) = t.val)
    (hj1 : (j 1 : ℕ) = y 1) (hj2 : (j 2 : ℕ) = y 2) :
    out0_6 (F := Ideal) (iblk m c 0 t) (iblk m c 1 t) (iblk m c 2 t) (iblk m c 3 t) (iblk m c 4 t) (iblk m c 5 t) y
      = Cert.Reference16Ideal.Read.val_main_v35 (F := Ideal) (argZ m c) (argW m c) (argX m c) (argGate m c) (argG m c) (argB m c) j := by
  idx_vars y
  idx_vars j
  obtain rfl : j2 = y2 := Fin.ext hj2
  obtain rfl : y0 = 0 := Subsingleton.elim _ _
  refine (stored _ _ _ _ _ _ y1 j2).trans (Eq.trans ?_ (Cert.Reference16Ideal.MatmulPostnorm.out _ _ _ _ _ _ j0 j1 j2).symm)
  rw [gAt, bAt]
  refine congrArg (fun f => lnorm _ f _ _ _) (funext fun k => ?_)
  rw [xAt m c t y1 k j0 j1 hj0 hj1, gateAt m c t k j0 hj0]
  refine congrArg (postSum _ _) ?_
  refine Finset.sum_congr rfl fun i _ => ?_
  rw [zAt m c t y1 i j0 j1 hj0 hj1, wAt m c t i k]

/-- The kernel's result array is the reference's. -/
theorem final (c : Dev nD) : (dats m 0 c).arrAt 6 (cfgs 0).N
    = Cert.Reference16Ideal.Read.val_main_v35 (F := Ideal) (argZ m c) (argW m c) (argX m c) (argGate m c) (argG m c) (argB m c) := by
  refine (dats m 0 c).arrAt_eq_of_covers 6 _ (by decide +kernel) fun t _ y => ?_
  blk_simp
  rw [after0_6]
  refine point m c t y _ ?_ ?_ ?_
  all_goals (blk_simp [idx_val t] <;> try omega)

end Cert.Kernel16Ideal.MatmulPostnorm

end
-- ==== Proof.CtxRouterValue.lean ====
/- The context's router: the kernel's array is the reference's. -/
module

public import proofs.«01_k».proof.Proof.Gen.Kernel17Ideal.Frame
public import proofs.«01_k».proof.Proof.Gen.Reference17Ideal.Read
public import proofs.«01_k».proof.Proof.RowNorm
public import proofs.«01_k».proof.Proof.SoftmaxSplit
public import Idealize.ShloMosaic.Lib.Pointwise
public import Idealize.ShloMosaic.Lib.Claim
public import Idealize.ShloMosaic.Lib.Pipeline.ValueKit

@[expose] public section

set_option maxRecDepth 16384

noncomputable section

namespace Cert.Reference17Ideal.Router

open Cert.Reference17Ideal Cert.Reference17Ideal.Gen Cert.Reference17Ideal.Read Idealize.ShloMosaic Idealize.SL.Sem
open Cert.RowNorm

/-- One logit. -/
theorem logit (x0 : FVec Ideal S4x256x1024 .f32) (x1 x2 : FVec Ideal S4x1x1024 .f32) (x3 : FVec Ideal S4x1024x16 .f32)
    (b : Fin 4) (l : Fin 256) (e : Fin 16) :
    val_main_v8 (F := Ideal) x0 x1 x2 x3 (ix3 b l e)
      = ∑ k : Fin 1024, modEntry (x0 (ix3 b l k)) (x1 (ix3 b 0 k)) (x2 (ix3 b 0 k)) * x3 (ix3 0 k e) := by
  unfold val_main_v8 val_main_v7 val_main_v6 val_main_v5 val_main_v4 val_main_v3 val_main_v2 val_main_v1 val_main_v0 val_main_cst
  pointwise [modEntry]

/-- A token's largest logit, over any array of logits. -/
theorem rowMax (x : FVec Ideal S4x256x16 .f32) (b : Fin 4) (l : Fin 256) :
    Host.reduce FloatOps.maximumf x (constant (F := Ideal) S_ .f32 0xFF800000#32) reducesTo_S4x256x16_S4x256_d2 h_S_ (ix2 b l)
      = Finset.fold max (Ideal.ofBits .f32 0xFF800000#32) (fun e => x (ix3 b l e)) Finset.univ := by
  pointwise []

/-- The softmax's numerators, over any array of logits and any array subtracted from its rows. -/
theorem numer (x : FVec Ideal S4x256x16 .f32) (y : FVec Ideal S4x256 .f32) (b : Fin 4) (l : Fin 256) (e : Fin 16) :
    Host.exp (F := Ideal) (subf x (broadcastInDim S4x256x16 ![0, 1, 2] bcast_S4x256x1_S4x256x16_0_1_2
        (broadcastInDim S4x256x1 ![0, 1] bcast_S4x256_S4x256x1_0_1
          (maximumf (broadcastInDim S4x256 ![] bcast_S_S4x256 (constant S_ .f32 0xFF800000#32)) y)))) (ix3 b l e)
      = Ideal.exp (x (ix3 b l e) - max (Ideal.ofBits .f32 0xFF800000#32) (y (ix2 b l))) := by
  pointwise []

/-- The softmax's numerators of this program's logits. -/
theorem expo (x0 : FVec Ideal S4x256x1024 .f32) (x1 x2 : FVec Ideal S4x1x1024 .f32) (x3 : FVec Ideal S4x1024x16 .f32)
    (b : Fin 4) (l : Fin 256) (e : Fin 16) :
    val_main_v15 (F := Ideal) x0 x1 x2 x3 (ix3 b l e) = expEntry (fun e => val_main_v8 (F := Ideal) x0 x1 x2 x3 (ix3 b l e)) e := by
  unfold val_main_v15 val_main_v14 val_main_v13 val_main_v12 val_main_v11 val_main_v10 val_main_cst_1 val_main_v9 val_main_cst_0
  refine (numer _ _ b l e).trans ?_
  rw [rowMax, SoftmaxSplit.ofBits_neg_inf, max_eq_right bot_le]
  rfl

/-- The reference at an index. -/
theorem out (x0 : FVec Ideal S4x256x1024 .f32) (x1 x2 : FVec Ideal S4x1x1024 .f32) (x3 : FVec Ideal S4x1024x16 .f32)
    (b : Fin 4) (e : Fin 16) (l : Fin 256) :
    val_main_v20 (F := Ideal) x0 x1 x2 x3 (ix3 b e l)
      = softEntry (fun e => ∑ k : Fin 1024, modEntry (x0 (ix3 b l k)) (x1 (ix3 b 0 k)) (x2 (ix3 b 0 k)) * x3 (ix3 0 k e)) e := by
  have h : val_main_v20 (F := Ideal) x0 x1 x2 x3 (ix3 b e l)
      = Ideal.div (val_main_v15 (F := Ideal) x0 x1 x2 x3 (ix3 b l e)) (∑ e, val_main_v15 (F := Ideal) x0 x1 x2 x3 (ix3 b l e)) := by
    unfold val_main_v20 val_main_v19 val_main_v18 val_main_v17 val_main_v16 val_main_cst_2
    pointwise []
  simp only [h, expo, logit, softEntry]

end Cert.Reference17Ideal.Router

namespace Cert.Kernel17Ideal.Router

open Cert.Kernel17Ideal Cert.Kernel17Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the router's weights. -/
abbrev argX (c : Dev nD) : FVec Ideal S4x256x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S4x1024x16 .f32 := m ((c : Thread nD τ).loc main_arg3)

/-- The block each window holds: batch entry `t`, all its tokens. -/
theorem idx_val : ∀ t : Fin cfg0.N, win0_0.index t = ![t.val, 0, 0] ∧ win0_1.index t = ![t.val, 0, 0]
    ∧ win0_2.index t = ![t.val, 0, 0] ∧ win0_3.index t = ![0, 0] ∧ win0_4.index t = ![t.val, 0, 0] :=
  (by decide +kernel : ∀ t : Fin grid0.N, _)

theorem xAt (c : Dev nD) (t : Fin cfg0.N) (r : Fin 256) (k : Fin 1024) (b : Fin 4) (l : Fin 256) (hb : (b : ℕ) = t.val)
    (hl : (l : ℕ) = r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val) :
    iblk m c 2 t (ix3 0 0 k) = argScale m c (ix3 b 0 k) := by
  blk_simp [iblk]
  entry_read
  blk_ext [idx_val t]

theorem weights (c : Dev nD) (e : Fin 16) (k : Fin 1024) : V m c main_v3 (ix2 e k) = argW m c (ix3 0 k e) := by
  simp only [V, V0, hostOps0, List.flatten_cons, List.flatten_nil, List.append_nil]
  entry_read
  pointwise []

theorem wAt (c : Dev nD) (t : Fin cfg0.N) (e : Fin 16) (k : Fin 1024) :
    iblk m c 3 t (ix2 e k) = argW m c (ix3 0 k e) := by
  refine Eq.trans ?_ (weights m c e k)
  blk_simp [iblk]
  blk_ext [idx_val t]

/-- What one grid point stores, from its blocks. -/
theorem stored (x : FVec Ideal S1x256x1024 .f32) (shift scale : FVec Ideal S1x1x1024 .f32) (w : FVec Ideal S16x1024 .bf16)
    (e : Fin 16) (r : Fin 256) :
    out0_4 (F := Ideal) x shift scale w (ix3 0 e r)
      = softEntry (fun e => ∑ k : Fin 1024, w (ix2 e k) * modEntry (x (ix3 0 r k)) (shift (ix3 0 0 k)) (scale (ix3 0 0 k))) e := by
  unfold out0_4
  rw [View.canon_unit_zero zero3]
  rw [View.ld_unit_zero zero3, View.ld_unit_zero zero3, View.ld_unit_zero zero3, View.ld_unit_zero zero2]
  pointwise [k0_pay1, modEntry, softEntry, expEntry, SoftmaxSplit.ofBits_neg_inf]

/-- One element of a grid point's block is the reference's element there. -/
theorem point (c : Dev nD) (t : Fin cfg0.N) (y : S1x16x256.Idx) (j : S4x16x256.Idx) (hj0 : (j 0 : ℕ) = t.val)
    (hj1 : (j 1 : ℕ) = y 1) (hj2 : (j 2 : ℕ) = y 2) :
    out0_4 (F := Ideal) (iblk m c 0 t) (iblk m c 1 t) (iblk m c 2 t) (iblk m c 3 t) y
      = Cert.Reference17Ideal.Read.val_main_v20 (F := Ideal) (argX m c) (argShift m c) (argScale m c) (argW m c) j := by
  idx_vars y
  idx_vars j
  obtain rfl : j1 = y1 := Fin.ext hj1
  obtain rfl : y0 = 0 := Subsingleton.elim _ _
  refine (stored _ _ _ _ j1 y2).trans (Eq.trans ?_ (Cert.Reference17Ideal.Router.out _ _ _ _ j0 j1 j2).symm)
  refine congrArg (fun f => softEntry f _) (funext fun e => Finset.sum_congr rfl fun k _ => ?_)
  rw [xAt m c t y2 k j0 j2 hj0 hj2, shiftAt m c t k j0 hj0, scaleAt m c t k j0 hj0, wAt m c t e k]
  exact mul_comm _ _

/-- The kernel's result array is the reference's. -/
theorem final (c : Dev nD) : (dats m 0 c).arrAt 4 (cfgs 0).N
    = Cert.Reference17Ideal.Read.val_main_v20 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

/-! ## The rows each expert takes: the host's choice, from the same array -/

/-- The router's array as the host finds it after the call. -/
theorem found (c : Dev nD) : Pipeline.withArrays (cfgs 0).spec c (V0 m c) (fun w => (dats m 0 c).arrAt w (cfgs 0).N) (Proc.devRef .tc main_v4)
    = Cert.Reference17Ideal.Read.val_main_v20 (F := Ideal) (argX m c) (argShift m c) (argScale m c) (argW m c) :=
  (Pipeline.withArrays_arr spec0 (by decide) c (V0 m c) (fun w => (dats m 0 c).arrAt w (cfgs 0).N) 4).trans (final m c)

/-- The chosen probabilities, the gates. -/
theorem gates (c : Dev nD) : Pipeline.afterTail₀ cfgs (dats m) 0 (V0 m) [hostOps1] c main_values
    = Cert.Reference17Ideal.Read.val_main_values (F := Ideal) (argX m c) (argShift m c) (argScale m c) (argW m c) := by
  unfold Pipeline.afterTail₀ Cert.Reference17Ideal.Read.val_main_values
  rw [← found m c]
  generalize Pipeline.withArrays (cfgs 0).spec c (V0 m c) (fun w => (dats m 0 c).arrAt w (cfgs 0).N) = W
  after_results
  rfl

/-- The chosen rows. -/
theorem rows (c : Dev nD) : Pipeline.afterTail₀ cfgs (dats m) 0 (V0 m) [hostOps1] c main_indices
    = Cert.Reference17Ideal.Read.val_main_indices (F := Ideal) (argX m c) (argShift m c) (argScale m c) (argW m c) := by
  unfold Pipeline.afterTail₀ Cert.Reference17Ideal.Read.val_main_indices
  rw [← found m c]
  generalize Pipeline.withArrays (cfgs 0).spec c (V0 m c) (fun w => (dats m 0 c).arrAt w (cfgs 0).N) = W
  after_results
  rfl

/-- The program leaves the reference's three arrays. -/
theorem run (ρ : Dev nD → PrngReg) : θ_run defs (onTc (τ := τ) (main (F := Ideal))) ⟨m, fun _ => 0, ρ⟩ fun r => ∀ c : Dev nD,
      r.2.mem ((c : Thread nD τ).loc main_v4) = Cert.Reference17Ideal.Read.val_main_v20 (F := Ideal) (argX m c) (argShift m c) (argScale m c) (argW m c)
      ∧ r.2.mem ((c : Thread nD τ).loc main_values) = Cert.Reference17Ideal.Read.val_main_values (F := Ideal) (argX m c) (argShift m c) (argScale m c) (argW m c)
      ∧ r.2.mem ((c : Thread nD τ).loc main_indices) = Cert.Reference17Ideal.Read.val_main_indices (F := Ideal) (argX m c) (argShift m c) (argScale m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).2 main_values (Pipeline.mem_restRefs_of main_values (by decide) (by decide))).trans (gates m c),
      ((h c).2 main_indices (Pipeline.mem_restRefs_of main_indices (by decide) (by decide))).trans (rows m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.Kernel17Ideal.Router

end
-- ==== Proof.CtxKvMatmulValue.lean ====
/- The context's projection to the keys and the values: the kernel's array is the reference's. -/
module

public import proofs.«01_k».proof.Proof.Gen.Kernel18Ideal.Value
public import proofs.«01_k».proof.Proof.Gen.Reference18Ideal.Read
public import proofs.«01_k».proof.Proof.RowNorm
public import Idealize.ShloMosaic.Lib.Pointwise
public import Idealize.ShloMosaic.Lib.Claim
public import Idealize.ShloMosaic.Lib.Pipeline.ValueKit

@[expose] public section

set_option maxRecDepth 16384

noncomputable section

namespace Cert.Reference18Ideal.QkvMatmul

open Cert.Reference18Ideal Cert.Reference18Ideal.Gen Cert.Reference18Ideal.Read Idealize.ShloMosaic Idealize.SL.Sem
open Cert.RowNorm

/-- The reference at an index. -/
theorem out (x0 : FVec Ideal S4x256x1024 .f32) (x1 x2 : FVec Ideal S4x1x1024 .f32) (x3 : FVec Ideal S1x1024x1536 .f32)
    (b : Fin 4) (l : Fin 256) (d : Fin 512) :
    val_main_v8 (F := Ideal) x0 x1 x2 x3 (ix3 b l d)
      = ∑ k : Fin 1024, modEntry (x0 (ix3 b l k)) (x1 (ix3 b 0 k)) (x2 (ix3 b 0 k)) * x3 (ix3 0 k (⟨1024 + d, by omega⟩ : Fin 1536)) := by
  unfold val_main_v8 val_main_v7 val_main_v6 val_main_v5 val_main_v4 val_main_v3 val_main_v2 val_main_v1 val_main_v0 val_main_cst
  pointwise [modEntry]

end Cert.Reference18Ideal.QkvMatmul

namespace Cert.Kernel18Ideal.QkvMatmul

open Cert.Kernel18Ideal Cert.Kernel18Ideal.Gen Idealize.ShloMosaic Idealize.ShloMosaic.TcCoe Idealize.SL.Sem
open Cert.RowNorm

variable (m : (ℓ : Loc nD τ sig) → Buf (Elt Ideal) ℓ)

/-- The arguments at their plain types: the stream, the shifts, the scales, the projection's weights. -/
abbrev argX (c : Dev nD) : FVec Ideal S4x256x1024 .f32 := m ((c : Thread nD τ).loc main_arg0)
abbrev argShift (c : Dev nD) : FVec Ideal S4x1x1024 .f32 := m ((c : Thread nD τ).loc main_arg1)
abbrev argScale (c : Dev nD) : FVec Ideal S4x1x1024 .f32 := m ((c : Thread nD τ).loc main_arg2)
abbrev argW (c : Dev nD) : FVec Ideal S1x1024x1536 .f32 := m ((c : Thread nD τ).loc main_arg3)

/-- The block each window holds: batch entry `t`, all its rows. -/
theorem idx_val : ∀ t : Fin cfg0.N, win0_0.index t = ![t.val, 0, 0] ∧ win0_1.index t = ![t.val, 0, 0]
    ∧ win0_2.index t = ![t.val, 0, 0] ∧ win0_3.index t = ![0, 0] ∧ win0_4.index t = ![t.val, 0, 0] :=
  (by decide +kernel : ∀ t : Fin grid0.N, _)

theorem xAt (c : Dev nD) (t : Fin cfg0.N) (r : Fin 256) (k : Fin 1024) (b : Fin 4) (l : Fin 256) (hb : (b : ℕ) = t.val)
    (hl : (l : ℕ) = r) :
    iblk m c 0 t (ix3 0 r k) = argX m c (ix3 b l k) := by
  blk_simp [iblk]
  entry_read
  blk_ext [idx_val t]

theorem shiftAt (c : Dev nD) (t : Fin cfg0.N) (k : Fin 1024) (b : Fin 4) (hb : (b : ℕ) = t.val) :
    iblk m c 1 t (ix3 0 0 k) = argShift m c (ix3 b 0 k) := by
  blk_simp [iblk]
  entry_read
  blk_ext [idx_val t]

theorem scaleAt (c : Dev nD) (t : Fin cfg0.N) (k : Fin 1024) (b : Fin 4) (hb : (b : ℕ) = t.val) :
    iblk m c 2 t (ix3 0 0 k) = argScale m c (ix3 b 0 k) := by
  blk_simp [iblk]
  entry_read
  blk_ext [idx_val t]

theorem wAt (c : Dev nD) (t : Fin cfg0.N) (k : Fin 1024) (d : Fin 512) :
    iblk m c 3 t (ix2 k d) = argW m c (ix3 0 k (⟨1024 + d, by omega⟩ : Fin 1536)) := by
  blk_simp [iblk]
  entry_read
  pointwise []
  blk_ext [idx_val t]

/-- What one grid point stores, from its blocks. -/
theorem stored (x : FVec Ideal S1x256x1024 .f32) (shift scale : FVec Ideal S1x1x1024 .f32) (w : FVec Ideal S1024x512 .bf16)
    (r : Fin 256) (d : Fin 512) :
    out0_4 (F := Ideal) x shift scale w (ix3 0 r d)
      = ∑ k : Fin 1024, modEntry (x (ix3 0 r k)) (shift (ix3 0 0 k)) (scale (ix3 0 0 k)) * w (ix2 k d) := by
  unfold out0_4
  rw [View.canon_unit_zero zero3]
  rw [View.ld_unit_zero zero3, View.ld_unit_zero zero3, View.ld_unit_zero zero3, View.ld_unit_zero zero2]
  pointwise [k0_pay1, modEntry]

/-- One element of a grid point's block is the reference's element there. -/
theorem point (c : Dev nD) (t : Fin cfg0.N) (y : S1x256x512.Idx) (j : S4x256x512.Idx) (hj0 : (j 0 : ℕ) = t.val)
    (hj1 : (j 1 : ℕ) = y 1) (hj2 : (j 2 : ℕ) = y 2) :
    out0_4 (F := Ideal) (iblk m c 0 t) (iblk m c 1 t) (iblk m c 2 t) (iblk m c 3 t) y
      = Cert.Reference18Ideal.Read.val_main_v8 (F := Ideal) (argX m c) (argShift m c) (argScale m c) (argW m c) j := by
  idx_vars y
  idx_vars j
  obtain rfl : j2 = y2 := Fin.ext hj2
  obtain rfl : y0 = 0 := Subsingleton.elim _ _
  refine (stored _ _ _ _ y1 j2).trans (Eq.trans ?_ (Cert.Reference18Ideal.QkvMatmul.out _ _ _ _ j0 j1 j2).symm)
  refine Finset.sum_congr rfl fun k _ => ?_
  rw [xAt m c t y1 k j0 j1 hj0 hj1, shiftAt m c t k j0 hj0, scaleAt m c t k j0 hj0, wAt m c t k j2]

/-- The kernel's result array is the reference's. -/
theorem final (c : Dev nD) : (dats m 0 c).arrAt 4 (cfgs 0).N
    = Cert.Reference18Ideal.Read.val_main_v8 (F := Ideal) (argX m c) (argShift m c) (argScale m c) (argW m c) := by
  refine (dats m 0 c).arrAt_eq_of_covers 4 _ (by decide +kernel) fun t _ y => ?_
  blk_simp
  rw [after0_4]
  refine point m c t y _ ?_ ?_ ?_
  all_goals (blk_simp [idx_val t] <;> try omega)

end Cert.Kernel18Ideal.QkvMatmul

end
-- ==== Proof.CtxShortConvValue.lean ====
/- The context's short convolution: the kernel's array is the reference's. -/
module

public import proofs.«01_k».proof.Proof.Gen.Kernel19Ideal.Value
public import proofs.«01_k».proof.Proof.Gen.Reference19Ideal.Read
public import proofs.«01_k».proof.Proof.RowNorm
public import Idealize.ShloMosaic.Lib.Pointwise
public import Idealize.ShloMosaic.Lib.Claim
public import Idealize.ShloMosaic.Lib.KernelVsHost
public import Idealize.ShloMosaic.Lib.WordCmp
public import Idealize.ShloMosaic.Lib.Pipeline.ValueKit

@[expose] public section

set_option maxRecDepth 16384

noncomputable section

namespace Cert.CtxShortConv

/-- The entry before `l` in a column of 256, zero before the first. -/
def before (col : Fin 256 → EReal) (l : Fin 256) : EReal :=
  if h : 1 ≤ (l : ℕ) then col ⟨l - 1, by omega⟩ else 0

/-- The entry after `l` in a column of 256, zero after the last. -/
def behind (col : Fin 256 → EReal) (l : Fin 256) : EReal :=
  if h : (l : ℕ) + 1 < 256 then col ⟨l + 1, h⟩ else 0

/-- Three taps around `l`, and the bias. -/
def taps (col : Fin 256 → EReal) (w0 w1 w2 bias : EReal) (l : Fin 256) : EReal :=
  before col l * w0 + col l * w1 + behind col l * w2 + bias

end Cert.CtxShortConv

namespace Cert.Reference19Ideal.ShortConv

open Cert.Reference19Ideal Cert.Reference19Ideal.Gen Cert.Reference19Ideal.Read Idealize.ShloMosaic Idealize.SL.Sem
open Cert.RowNorm Cert.CtxShortConv

/-- The padded column read one row back. -/
theorem before_eq (col : Fin 256 → EReal) (l : Fin 256) (z : EReal) (hz : z = 0) :
    (if h : 1 ≤ (l : ℕ) ∧ (l : ℕ) - 1 < 256 then col ⟨l - 1, h.2⟩ else z) = before col l := by
  subst hz
  unfold before
  by_cases h : 1 ≤ (l : ℕ)
  · rw [dif_pos h, dif_pos ⟨h, by omega⟩]
  · rw [dif_neg h, dif_neg fun h' => h h'.1]

/-- The padded column read one row ahead. -/
theorem behind_eq (col : Fin 256 → EReal) (l : Fin 256) (z : EReal) (hz : z = 0) :
    (if h : 1 ≤ 2 + (l : ℕ) ∧ 2 + (l : ℕ) - 1 < 256 then col ⟨2 + l - 1, h.2⟩ else z) = behind col l := by
  subst hz
  unfold behind
  by_cases h : (l : ℕ) + 1 < 256
  · rw [dif_pos h, dif_pos ⟨by omega, by omega⟩]
    exact congrArg col (Fin.ext (by show 2 + (l : ℕ) - 1 = l + 1; omega))
  · rw [dif_neg h, dif_neg fun h' => h (by omega)]

/-- The padding value is zero. -/
theorem pad_zero : (FloatOps.sitofp (F := Ideal) FTy.f32 (0#32) : EReal) = 0 := by
  simp [FloatOps.sitofp]

/-- The convolution at an index. -/
theorem conv (x : FVec Ideal S4x256x3072 .f32) (w : FVec Ideal S2x3x3072 .f32) (bias : FVec Ideal S2x3072 .f32)
    (b : Fin 4) (l : Fin 256) (d : Fin 3072) :
    val_main_v29 (F := Ideal) x w bias (ix3 b l d)
      = taps (fun r => x (ix3 b r d)) (w (ix3 0 0 d)) (w (ix3 0 1 d)) (w (ix3 0 2 d)) (bias (ix2 0 d)) l := by
  unfold val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2
    val_main_v1 val_main_v0 val_main_cst val_main_call0_v0 val_main_c
  pointwise []
  unfold taps
  rw [← before_eq (fun r => x (ix3 b r d)) l _ pad_zero, ← behind_eq (fun r => x (ix3 b r d)) l _ pad_zero]

/-- The three parts put one after another. -/
theorem stack (x : FVec Ideal S4x256x3072 .f32) (w : FVec Ideal S2x3x3072 .f32) (bias : FVec Ideal S2x3072 .f32)
    (s : Fin 3) (b : Fin 4) (l : Fin 256) (d : Fin 1024) (e : Fin 3072) (he : (e : ℕ) = s * 1024 + d) :
    val_main_v36 (F := Ideal) x w bias (ix4 s b l d) = val_main_v29 (F := Ideal) x w bias (ix3 b l e) := by
  unfold val_main_v36 val_main_v35 val_main_v34 val_main_v33 val_main_v32 val_main_v31 val_main_v30
  generalize val_main_v29 (F := Ideal) x w bias = y
  pointwise []
  split_ifs with h0 h1
  · exact congrArg (fun k => y (ix3 b l k)) (Fin.ext (by show (d : ℕ) = e; omega))
  · exact congrArg (fun k => y (ix3 b l k)) (Fin.ext (by show 1024 + (d : ℕ) = e; omega))
  · exact congrArg (fun k => y (ix3 b l k)) (Fin.ext (by show 2048 + (d : ℕ) = e; omega))

end Cert.Reference19Ideal.ShortConv

namespace Cert.Kernel19Ideal.ShortConv

open Cert.Kernel19Ideal Cert.Kernel19Ideal.Gen Idealize.ShloMosaic Idealize.ShloMosaic.TcCoe Idealize.SL.Sem
open Cert.RowNorm Cert.CtxShortConv

variable (m : (ℓ : Loc nD τ sig) → Buf (Elt Ideal) ℓ)

/-- The arguments at their plain types: the projected stream, the taps, the biases. -/
abbrev argP (c : Dev nD) : FVec Ideal S4x256x3072 .f32 := m ((c : Thread nD τ).loc main_arg0)
abbrev argW (c : Dev nD) : FVec Ideal S2x3x3072 .f32 := m ((c : Thread nD τ).loc main_arg1)
abbrev argB (c : Dev nD) : FVec Ideal S2x3072 .f32 := m ((c : Thread nD τ).loc main_arg2)

/-- The block each window holds: batch entry `t / 4 % 4`, columns `t / 16 * 4 + t % 4` of the twelve groups of 256. -/
theorem idx_val : ∀ t : Fin cfg0.N, win0_0.index t = ![t.val / 4 % 4, 0, t.val / 16 * 4 + t.val % 4]
    ∧ win0_1.index t = ![0, t.val / 16 * 4 + t.val % 4] ∧ win0_2.index t = ![0, t.val / 16 * 4 + t.val % 4]
    ∧ win0_3.index t = ![t.val / 16, t.val / 4 % 4, 0, t.val % 4] :=
  (by decide +kernel : ∀ t : Fin grid0.N, _)

theorem pAt (c : Dev nD) (t : Fin cfg0.N) (l : Fin 256) (d : Fin 256) (b : Fin 4) (e : Fin 3072) (hb : (b : ℕ) = t.val / 4 % 4)
    (he : (e : ℕ) = (t.val / 16 * 4 + t.val % 4) * 256 + d) :
    iblk m c 0 t (ix3 0 l d) = argP m c (ix3 b l e) := by
  blk_simp [iblk]
  entry_read
  blk_ext [idx_val t]

theorem wAt (c : Dev nD) (t : Fin cfg0.N) (k : Fin 3) (d : Fin 256) (e : Fin 3072)
    (he : (e : ℕ) = (t.val / 16 * 4 + t.val % 4) * 256 + d) :
    iblk m c 1 t (ix2 k d) = argW m c (ix3 0 k e) := by
  blk_simp [iblk]
  entry_read
  pointwise []
  blk_ext [idx_val t]

theorem bAt (c : Dev nD) (t : Fin cfg0.N) (d : Fin 256) (e : Fin 3072)
    (he : (e : ℕ) = (t.val / 16 * 4 + t.val % 4) * 256 + d) :
    iblk m c 2 t (ix2 0 d) = argB m c (ix2 0 e) := by
  blk_simp [iblk]
  entry_read
  pointwise []
  blk_ext [idx_val t]

/-- A column rotated one row down, past its first entry. -/
theorem rotated_down (x : FVec Ideal S256x256 .f32) (l : Fin 256) (d : Fin 256) (h : 1 ≤ (l : ℕ)) :
    dynamicRotate 0 1#32 none x rotates_S256x256_d0 (ix2 l d) = x (ix2 (⟨l - 1, by omega⟩ : Fin 256) d) := by
  refine dynamicRotate_apply 0 1#32 x rotates_S256x256_d0 (ix2 l d) _ fun b => ?_
  have := l.isLt
  match b with
  | ⟨0, _⟩ => show (l : ℕ) - 1 = ((l : ℕ) + 256 - 1 % 256) % 256; omega
  | ⟨1, _⟩ => rfl

/-- A column rotated one row up, before its last entry. -/
theorem rotated_up (x : FVec Ideal S256x256 .f32) (l : Fin 256) (d : Fin 256) (h : (l : ℕ) + 1 < 256) :
    dynamicRotate 0 255#32 none x rotates_S256x256_d0 (ix2 l d) = x (ix2 (⟨l + 1, h⟩ : Fin 256) d) := by
  refine dynamicRotate_apply 0 255#32 x rotates_S256x256_d0 (ix2 l d) _ fun b => ?_
  have := l.isLt
  match b with
  | ⟨0, _⟩ => show (l : ℕ) + 1 = ((l : ℕ) + 256 - 255 % 256) % 256; omega
  | ⟨1, _⟩ => rfl

/-- A choice by whether the row is the `k`-th. -/
theorem select_row (l : Fin 256) (k : ℕ) (hk : k < 256) (a b : EReal) :
    Scalar.select (IntOp.cmpi .eq (BitVec.ofNat 32 l) (BitVec.ofNat 32 k)) a b = if (l : ℕ) = k then a else b := by
  have := l.isLt
  rw [WordCmp.cmpi_eq_ofNat (by omega) (by omega)]
  by_cases h : (l : ℕ) = k <;> simp [h, Scalar.select]

/-- What one grid point stores, from its blocks. -/
theorem payload (x : FVec Ideal S1x256x256 .f32) (w : FVec Ideal S3x256 .f32) (bias : FVec Ideal S1x256 .f32)
    (l : Fin 256) (d : Fin 256) :
    k0_pay1 (F := Ideal) x w bias (ix4 0 0 l d)
      = taps (fun r => x (ix3 0 r d)) (w (ix2 0 d)) (w (ix2 1 d)) (w (ix2 2 d)) (bias (ix2 0 d)) l := by
  have hx : ∀ r : Fin 256, shapeCast S256x256 x shapeCasts_S1x256x256_S256x256 (ix2 r d) = x (ix3 0 r d) := fun r => by
    pointwise []
  have hdown := rotated_down (shapeCast S256x256 x shapeCasts_S1x256x256_S256x256) l d
  have hup := rotated_up (shapeCast S256x256 x shapeCasts_S1x256x256_S256x256) l d
  unfold k0_pay1
  generalize dynamicRotate 0 1#32 none (shapeCast S256x256 x shapeCasts_S1x256x256_S256x256) rotates_S256x256_d0 = down at hdown ⊢
  generalize dynamicRotate 0 255#32 none (shapeCast S256x256 x shapeCasts_S1x256x256_S256x256) rotates_S256x256_d0 = up at hup ⊢
  pointwise []
  unfold taps
  refine congrArg (· + bias (ix2 0 d)) (congrArg₂ (· + ·) (congrArg (· + x (ix3 0 l d) * w (ix2 1 d)) ?_) ?_)
  · refine (select_row l 0 (by omega) _ _).trans ?_
    unfold before
    by_cases h : 1 ≤ (l : ℕ)
    · rw [if_neg (by omega), dif_pos h, hdown h, hx]
    · rw [if_pos (by omega), dif_neg h, zero_mul]
  · refine (select_row l 255 (by omega) _ _).trans ?_
    unfold behind
    by_cases h : (l : ℕ) + 1 < 256
    · rw [if_neg (by omega), dif_pos h, hup h, hx]
    · rw [if_pos (by omega), dif_neg h, zero_mul]

theorem zero4 : (![0, 0, 0, 0] : Fin 4 → ℕ) = fun _ => 0 := by decide

theorem stored (x : FVec Ideal S1x256x256 .f32) (w : FVec Ideal S3x256 .f32) (bias : FVec Ideal S1x256 .f32)
    (l : Fin 256) (d : Fin 256) :
    out0_3 (F := Ideal) x w bias (ix4 0 0 l d)
      = taps (fun r => x (ix3 0 r d)) (w (ix2 0 d)) (w (ix2 1 d)) (w (ix2 2 d)) (bias (ix2 0 d)) l := by
  unfold out0_3
  rw [View.canon_unit_zero zero4]
  rw [View.ld_unit_zero zero3, View.ld_unit_zero zero2, View.ld_unit_zero zero2]
  exact payload x w bias l d

/-- One element of a grid point's block is the reference's element there. -/
theorem point (c : Dev nD) (t : Fin cfg0.N) (y : S1x1x256x256.Idx) (j : S3x4x256x1024.Idx) (hj0 : (j 0 : ℕ) = t.val / 16)
    (hj1 : (j 1 : ℕ) = t.val / 4 % 4) (hj2 : (j 2 : ℕ) = y 2) (hj3 : (j 3 : ℕ) = t.val % 4 * 256 + y 3) :
    out0_3 (F := Ideal) (iblk m c 0 t) (iblk m c 1 t) (iblk m c 2 t) y
      = Cert.Reference19Ideal.Read.val_main_v36 (F := Ideal) (argP m c) (argW m c) (argB m c) j := by
  idx_vars y
  idx_vars j
  obtain rfl : j2 = y2 := Fin.ext hj2
  obtain rfl : y0 = 0 := Subsingleton.elim _ _
  obtain rfl : y1 = 0 := Subsingleton.elim _ _
  change (j0 : ℕ) = _ at hj0
  change (j1 : ℕ) = _ at hj1
  change (j3 : ℕ) = t.val % 4 * 256 + (y3 : ℕ) at hj3
  have h0 := j0.isLt
  have h3 := j3.isLt
  have he : ((⟨j0 * 1024 + j3, by omega⟩ : Fin 3072) : ℕ) = (t.val / 16 * 4 + t.val % 4) * 256 + y3 := by
    show (j0 : ℕ) * 1024 + j3 = _
    omega
  refine (stored _ _ _ j2 y3).trans (Eq.trans ?_ ((Cert.Reference19Ideal.ShortConv.stack _ _ _ j0 j1 j2 j3 ⟨j0 * 1024 + j3, by omega⟩
    rfl).trans (Cert.Reference19Ideal.ShortConv.conv _ _ _ j1 j2 _)).symm)
  rw [wAt m c t 0 y3 _ he, wAt m c t 1 y3 _ he, wAt m c t 2 y3 _ he, bAt m c t y3 _ he]
  exact congrArg (fun col => taps col _ _ _ _ j2) (funext fun r => pAt m c t r y3 j1 _ hj1 he)

/-- The kernel's result array is the reference's. -/
theorem final (c : Dev nD) : (dats m 0 c).arrAt 3 (cfgs 0).N
    = Cert.Reference19Ideal.Read.val_main_v36 (F := Ideal) (argP m c) (argW m c) (argB m c) := by
  refine (dats m 0 c).arrAt_eq_of_covers 3 _ (by decide +kernel) fun t _ y => ?_
  blk_simp
  rw [after0_3]
  refine point m c t y _ ?_ ?_ ?_ ?_
  all_goals (blk_simp [idx_val t] <;> try omega)

end Cert.Kernel19Ideal.ShortConv

end
-- ==== Proof.lean ====
/- The certificate: each of the calls taken computes its reference's array over the extended reals. The values come from the
   modules named ...Value and from AttnFinite.lean; here the runs are put together with them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite_projections
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_finite_keys
public import Idealize.ShloMosaic.Adequacy
public import Idealize.ShloMosaic.Init
public import proofs.«01_k».proof.Proof.Gen.Pre_finite_scores
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.AttnFinite
public import proofs.«01_k».proof.Proof.FfnValue
public import proofs.«01_k».proof.Proof.PostnormValue
public import proofs.«01_k».proof.Proof.ModMatmulValue
public import proofs.«01_k».proof.Proof.MatmulPostnormValue
public import proofs.«01_k».proof.Proof.GmlpValue
public import proofs.«01_k».proof.Proof.HeadsPostnormValue
public import proofs.«01_k».proof.Proof.RouterValue
public import proofs.«01_k».proof.Proof.QkvMatmulValue
public import proofs.«01_k».proof.Proof.ShortConvValue
public import proofs.«01_k».proof.Proof.PrepValue
public import proofs.«01_k».proof.Proof.PrepCtxValue
public import proofs.«01_k».proof.Proof.CtxFfnValue
public import proofs.«01_k».proof.Proof.CtxPostnormValue
public import proofs.«01_k».proof.Proof.CtxModMatmulValue
public import proofs.«01_k».proof.Proof.CtxMatmulPostnormValue
public import proofs.«01_k».proof.Proof.CtxRouterValue
public import proofs.«01_k».proof.Proof.CtxKvMatmulValue
public import proofs.«01_k».proof.Proof.CtxShortConvValue
public import Idealize.ShloMosaic.Lib.Quiescent

@[expose] public section

set_option maxRecDepth 16384

noncomputable section

namespace Cert.Proof

open Idealize.ShloMosaic Idealize.ShloMosaic.TcCoe Idealize.SL.Sem

/-! ## The references: each runs, leaves its arguments and every counter as it found them -/

/-- The attention's reference: its run, the result dropped. -/
theorem referenceFrame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- The feed-forward's reference: its run, the result dropped. -/
theorem reference2Frame : Cert.quiescent_Reference2Ideal := fun m ρ _ =>
  (θ_run _ _ _).mono (fun r h => ⟨fun c => (h c).2, sem_eq_zero_of_no_sems (by decide) r.2⟩)
    (Cert.Reference2Ideal.Value.run (F := Ideal) m ρ)

/-! The other calls' references, in the same way. -/

theorem reference3Frame : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

theorem reference4Frame : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

theorem reference5Frame : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

theorem reference6Frame : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

theorem reference7Frame : Cert.quiescent_Reference7Ideal := fun m ρ _ =>
  (θ_run _ _ _).mono (fun r h => ⟨fun c => (h c).2, sem_eq_zero_of_no_sems (by decide) r.2⟩)
    (Cert.Reference7Ideal.Value.run (F := Ideal) m ρ)

theorem reference8Frame : Cert.quiescent_Reference8Ideal := fun m ρ _ =>
  (θ_run _ _ _).mono (fun r h => ⟨fun c => (h c).2.2.2, sem_eq_zero_of_no_sems (by decide) r.2⟩)
    (Cert.Reference8Ideal.Value.run (F := Ideal) m ρ)

theorem reference9Frame : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

theorem reference10Frame : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

theorem reference11Frame : Cert.quiescent_Reference11Ideal := fun m ρ _ =>
  (θ_run _ _ _).mono (fun r h => ⟨fun c => (h c).2.2.2, sem_eq_zero_of_no_sems (by decide) r.2⟩)
    (Cert.Reference11Ideal.Value.run (F := Ideal) m ρ)

theorem reference12Frame : Cert.quiescent_Reference12Ideal := fun m ρ _ =>
  (θ_run _ _ _).mono (fun r h => ⟨fun c => (h c).2.2, sem_eq_zero_of_no_sems (by decide) r.2⟩)
    (Cert.Reference12Ideal.Value.run (F := Ideal) m ρ)

theorem reference13Frame : Cert.quiescent_Reference13Ideal := fun m ρ _ =>
  (θ_run _ _ _).mono (fun r h => ⟨fun c => (h c).2, sem_eq_zero_of_no_sems (by decide) r.2⟩)
    (Cert.Reference13Ideal.Value.run (F := Ideal) m ρ)

theorem reference14Frame : Cert.quiescent_Reference14Ideal := fun m ρ _ =>
  (θ_run _ _ _).mono (fun r h => ⟨fun c => (h c).2, sem_eq_zero_of_no_sems (by decide) r.2⟩)
    (Cert.Reference14Ideal.Value.run (F := Ideal) m ρ)

theorem reference15Frame : Cert.quiescent_Reference15Ideal := fun m ρ _ =>
  (θ_run _ _ _).mono (fun r h => ⟨fun c => (h c).2, sem_eq_zero_of_no_sems (by decide) r.2⟩)
    (Cert.Reference15Ideal.Value.run (F := Ideal) m ρ)

theorem reference16Frame : Cert.quiescent_Reference16Ideal := fun m ρ _ =>
  (θ_run _ _ _).mono (fun r h => ⟨fun c => (h c).2, sem_eq_zero_of_no_sems (by decide) r.2⟩)
    (Cert.Reference16Ideal.Value.run (F := Ideal) m ρ)

theorem reference17Frame : Cert.quiescent_Reference17Ideal := fun m ρ _ =>
  (θ_run _ _ _).mono (fun r h => ⟨fun c => (h c).2.2.2, sem_eq_zero_of_no_sems (by decide) r.2⟩)
    (Cert.Reference17Ideal.Value.run (F := Ideal) m ρ)

theorem reference18Frame : Cert.quiescent_Reference18Ideal := fun m ρ _ =>
  (θ_run _ _ _).mono (fun r h => ⟨fun c => (h c).2, sem_eq_zero_of_no_sems (by decide) r.2⟩)
    (Cert.Reference18Ideal.Value.run (F := Ideal) m ρ)

theorem reference19Frame : Cert.quiescent_Reference19Ideal := fun m ρ _ =>
  (θ_run _ _ _).mono (fun r h => ⟨fun c => (h c).2, sem_eq_zero_of_no_sems (by decide) r.2⟩)
    (Cert.Reference19Ideal.Value.run (F := Ideal) m ρ)

/-! ## The value claims: both programs end with the reference's array -/

/-- The attention. -/
theorem attention : Cert.algebraic_KernelIdeal_ReferenceIdeal_pre_finite_scores := by
  intro m ρ m' ρ' hpre hag
  refine ⟨fun c => Cert.ReferenceIdeal.Read.val_main_v19 (F := Ideal) (Cert.KernelIdeal.Attn.argQ m c) (Cert.KernelIdeal.Attn.argCK m c)
      (Cert.KernelIdeal.Attn.argCV m c) (Cert.KernelIdeal.Attn.argK m c) (Cert.KernelIdeal.Attn.argV m c),
    (θ_run _ _ _).mono (fun _ h c => ⟨(h c).1.trans ?_, (h c).2⟩) (Cert.KernelIdeal.Value.run_blocks m ρ),
    (θ_run _ _ _).mono (fun _ h c => ⟨(h c).1.trans ?_, (h c).2⟩) (Cert.ReferenceIdeal.Value.run (F := Ideal) m' ρ')⟩
  · obtain ⟨hq, hck, hk⟩ := Cert.KernelIdeal.Attn.reals m hpre c
    exact Cert.KernelIdeal.Attn.final m c hq hck hk
  · obtain ⟨h0, h1, h2, h3, h4⟩ := hag c
    rw [Cert.ReferenceIdeal.Read.val_main_v19_eq, h0, h1, h2, h3, h4]

/-- The expert feed-forward. -/
theorem feedForward : Cert.algebraic_Kernel2Ideal_Reference2Ideal := by
  intro m ρ m' ρ' _ hag
  refine ⟨fun c => Cert.Reference2Ideal.Read.val_main_v18 (F := Ideal) (Cert.Kernel2Ideal.Ffn.argX m c) (Cert.Kernel2Ideal.Ffn.argWg m c)
      (Cert.Kernel2Ideal.Ffn.argWu m c) (Cert.Kernel2Ideal.Ffn.argWd m c) (Cert.Kernel2Ideal.Ffn.argG m c),
    (θ_run _ _ _).mono (fun _ h c => ⟨(h c).1.trans ?_, (h c).2⟩) (Cert.Kernel2Ideal.Value.run_blocks m ρ),
    (θ_run _ _ _).mono (fun _ h c => ⟨(h c).1.trans ?_, (h c).2⟩) (Cert.Reference2Ideal.Value.run (F := Ideal) m' ρ')⟩
  · exact Cert.Kernel2Ideal.Ffn.final m c
  · obtain ⟨h0, h1, h2, h3, h4⟩ := hag c
    rw [Cert.Reference2Ideal.Read.val_main_v18_eq, h0, h1, h2, h3, h4]

/-- The norm after the experts. -/
theorem postnorm : Cert.algebraic_Kernel3Ideal_Reference3Ideal := by
  intro m ρ m' ρ' _ hag
  refine ⟨fun c => Cert.Reference3Ideal.Read.val_main_v32 (F := Ideal)
      (Cert.Kernel3Ideal.Postnorm.argY m c) (Cert.Kernel3Ideal.Postnorm.argX m c) (Cert.Kernel3Ideal.Postnorm.argGate m c)
      (Cert.Kernel3Ideal.Postnorm.argG m c) (Cert.Kernel3Ideal.Postnorm.argB m c),
    (θ_run _ _ _).mono (fun _ h c => ⟨(h c).1.trans ?_, (h c).2⟩) (Cert.Kernel3Ideal.Value.run_blocks m ρ),
    (θ_run _ _ _).mono (fun _ h c => ⟨(h c).1.trans ?_, (h c).2⟩) (Cert.Reference3Ideal.Value.run (F := Ideal) m' ρ')⟩
  · exact Cert.Kernel3Ideal.Postnorm.final m c
  · obtain ⟨h0, h1, h2, h3, h4⟩ := hag c
    rw [Cert.Reference3Ideal.Read.val_main_v32_eq, h0, h1, h2, h3, h4]

/-- The Hyena mixer's input projection. -/
theorem hyenaIn : Cert.algebraic_Kernel4Ideal_Reference4Ideal := by
  intro m ρ m' ρ' _ hag
  refine ⟨fun c => Cert.Reference4Ideal.Read.val_main_v8 (F := Ideal)
      (Cert.Kernel4Ideal.ModMatmul.argX m c) (Cert.Kernel4Ideal.ModMatmul.argShift m c)
      (Cert.Kernel4Ideal.ModMatmul.argScale m c) (Cert.Kernel4Ideal.ModMatmul.argW m c),
    (θ_run _ _ _).mono (fun _ h c => ⟨(h c).1.trans ?_, (h c).2⟩) (Cert.Kernel4Ideal.Value.run_blocks m ρ),
    (θ_run _ _ _).mono (fun _ h c => ⟨(h c).1.trans ?_, (h c).2⟩) (Cert.Reference4Ideal.Value.run (F := Ideal) m' ρ')⟩
  · exact Cert.Kernel4Ideal.ModMatmul.final m c
  · obtain ⟨h0, h1, h2, h3⟩ := hag c
    rw [Cert.Reference4Ideal.Read.val_main_v8_eq, h0, h1, h2, h3]

/-- The Hyena mixer's output projection and the norm after it. -/
theorem hyenaOut : Cert.algebraic_Kernel5Ideal_Reference5Ideal := by
  intro m ρ m' ρ' _ hag
  refine ⟨fun c => Cert.Reference5Ideal.Read.val_main_v35 (F := Ideal)
      (Cert.Kernel5Ideal.MatmulPostnorm.argZ m c) (Cert.Kernel5Ideal.MatmulPostnorm.argW m c)
      (Cert.Kernel5Ideal.MatmulPostnorm.argX m c) (Cert.Kernel5Ideal.MatmulPostnorm.argGate m c)
      (Cert.Kernel5Ideal.MatmulPostnorm.argG m c) (Cert.Kernel5Ideal.MatmulPostnorm.argB m c),
    (θ_run _ _ _).mono (fun _ h c => ⟨(h c).1.trans ?_, (h c).2⟩) (Cert.Kernel5Ideal.Value.run_blocks m ρ),
    (θ_run _ _ _).mono (fun _ h c => ⟨(h c).1.trans ?_, (h c).2⟩) (Cert.Reference5Ideal.Value.run (F := Ideal) m' ρ')⟩
  · exact Cert.Kernel5Ideal.MatmulPostnorm.final m c
  · obtain ⟨h0, h1, h2, h3, h4, h5⟩ := hag c
    rw [Cert.Reference5Ideal.Read.val_main_v35_eq, h0, h1, h2, h3, h4, h5]

/-- The gMLP layer. -/
theorem gmlp : Cert.algebraic_Kernel6Ideal_Reference6Ideal := by
  intro m ρ m' ρ' _ hag
  refine ⟨fun c => Cert.Reference6Ideal.Read.val_main_v88 (F := Ideal)
      (Cert.Kernel6Ideal.Gmlp.argX m c) (Cert.Kernel6Ideal.Gmlp.argShift m c) (Cert.Kernel6Ideal.Gmlp.argScale m c)
      (Cert.Kernel6Ideal.Gmlp.argWin m c) (Cert.Kernel6Ideal.Gmlp.argCG m c) (Cert.Kernel6Ideal.Gmlp.argCB m c)
      (Cert.Kernel6Ideal.Gmlp.argWs m c) (Cert.Kernel6Ideal.Gmlp.argBs m c) (Cert.Kernel6Ideal.Gmlp.argWout m c)
      (Cert.Kernel6Ideal.Gmlp.argGate m c) (Cert.Kernel6Ideal.Gmlp.argG m c) (Cert.Kernel6Ideal.Gmlp.argB m c),
    (θ_run _ _ _).mono (fun _ h c => ⟨(h c).1.trans ?_, (h c).2⟩) (Cert.Kernel6Ideal.Gmlp.run_blocks m ρ),
    (θ_run _ _ _).mono (fun _ h c => ⟨(h c).1.trans ?_, (h c).2⟩) (Cert.Reference6Ideal.Value.run (F := Ideal) m' ρ')⟩
  · exact Cert.Kernel6Ideal.Gmlp.final m c
  · obtain ⟨h0, h1, h2, h3, h4, h5, h6, h7, h8, h9, h10, h11⟩ := hag c
    rw [Cert.Reference6Ideal.Read.val_main_v88_eq, h0, h1, h2, h3, h4, h5, h6, h7, h8, h9, h10, h11]

/-- The attention's output projection and the norm after it. -/
theorem attentionOut : Cert.algebraic_Kernel7Ideal_Reference7Ideal := by
  intro m ρ m' ρ' _ hag
  refine ⟨fun c => Cert.Reference7Ideal.Read.val_main_v37 (F := Ideal)
      (Cert.Kernel7Ideal.HeadsPostnorm.argO m c) (Cert.Kernel7Ideal.HeadsPostnorm.argW m c)
      (Cert.Kernel7Ideal.HeadsPostnorm.argX m c) (Cert.Kernel7Ideal.HeadsPostnorm.argGate m c)
      (Cert.Kernel7Ideal.HeadsPostnorm.argG m c) (Cert.Kernel7Ideal.HeadsPostnorm.argB m c),
    (θ_run _ _ _).mono (fun _ h c => ⟨(h c).1.trans ?_, (h c).2⟩) (Cert.Kernel7Ideal.Value.run_blocks m ρ),
    (θ_run _ _ _).mono (fun _ h c => ⟨(h c).1.trans ?_, (h c).2⟩) (Cert.Reference7Ideal.Value.run (F := Ideal) m' ρ')⟩
  · exact Cert.Kernel7Ideal.HeadsPostnorm.final m c
  · obtain ⟨h0, h1, h2, h3, h4, h5⟩ := hag c
    rw [Cert.Reference7Ideal.Read.val_main_v37_eq, h0, h1, h2, h3, h4, h5]

/-- The router. -/
theorem router : Cert.algebraic_Kernel8Ideal_Reference8Ideal := by
  intro m ρ m' ρ' _ hag
  refine ⟨fun c => Cert.Reference8Ideal.Read.val_main_v20 (F := Ideal)
      (Cert.Kernel8Ideal.Router.argX m c) (Cert.Kernel8Ideal.Router.argShift m c) (Cert.Kernel8Ideal.Router.argScale m c)
      (Cert.Kernel8Ideal.Router.argW m c),
    fun c => Cert.Reference8Ideal.Read.val_main_values (F := Ideal)
      (Cert.Kernel8Ideal.Router.argX m c) (Cert.Kernel8Ideal.Router.argShift m c) (Cert.Kernel8Ideal.Router.argScale m c)
      (Cert.Kernel8Ideal.Router.argW m c),
    fun c => Cert.Reference8Ideal.Read.val_main_indices (F := Ideal)
      (Cert.Kernel8Ideal.Router.argX m c) (Cert.Kernel8Ideal.Router.argShift m c) (Cert.Kernel8Ideal.Router.argScale m c)
      (Cert.Kernel8Ideal.Router.argW m c),
    Cert.Kernel8Ideal.Router.run m ρ,
    (θ_run _ _ _).mono (fun _ h c => ⟨(h c).1.trans ?_, (h c).2.1.trans ?_, (h c).2.2.1.trans ?_, (h c).2.2.2⟩)
      (Cert.Reference8Ideal.Value.run (F := Ideal) m' ρ')⟩
  all_goals obtain ⟨h0, h1, h2, h3⟩ := hag c
  · rw [Cert.Reference8Ideal.Read.val_main_v20_eq, h0, h1, h2, h3]
  · rw [Cert.Reference8Ideal.Read.val_main_values_eq, h0, h1, h2, h3]
  · rw [Cert.Reference8Ideal.Read.val_main_indices_eq, h0, h1, h2, h3]

/-- The attention's input projection. -/
theorem qkvProjection : Cert.algebraic_Kernel9Ideal_Reference9Ideal := by
  intro m ρ m' ρ' _ hag
  refine ⟨fun c => Cert.Reference9Ideal.Read.val_main_v7 (F := Ideal)
      (Cert.Kernel9Ideal.QkvMatmul.argX m c) (Cert.Kernel9Ideal.QkvMatmul.argShift m c) (Cert.Kernel9Ideal.QkvMatmul.argScale m c) (Cert.Kernel9Ideal.QkvMatmul.argW m c),
    (θ_run _ _ _).mono (fun _ h c => ⟨(h c).1.trans ?_, (h c).2⟩) (Cert.Kernel9Ideal.Value.run_blocks m ρ),
    (θ_run _ _ _).mono (fun _ h c => ⟨(h c).1.trans ?_, (h c).2⟩) (Cert.Reference9Ideal.Value.run (F := Ideal) m' ρ')⟩
  · exact Cert.Kernel9Ideal.QkvMatmul.final m c
  · obtain ⟨h0, h1, h2, h3⟩ := hag c
    rw [Cert.Reference9Ideal.Read.val_main_v7_eq, h0, h1, h2, h3]

/-- The Hyena mixer's short convolution. -/
theorem shortConv : Cert.algebraic_Kernel10Ideal_Reference10Ideal := by
  intro m ρ m' ρ' _ hag
  refine ⟨fun c => Cert.Reference10Ideal.Read.val_main_v36 (F := Ideal)
      (Cert.Kernel10Ideal.ShortConv.argP m c) (Cert.Kernel10Ideal.ShortConv.argW m c) (Cert.Kernel10Ideal.ShortConv.argB m c),
    (θ_run _ _ _).mono (fun _ h c => ⟨(h c).1.trans ?_, (h c).2⟩) (Cert.Kernel10Ideal.Value.run_blocks m ρ),
    (θ_run _ _ _).mono (fun _ h c => ⟨(h c).1.trans ?_, (h c).2⟩) (Cert.Reference10Ideal.Value.run (F := Ideal) m' ρ')⟩
  · exact Cert.Kernel10Ideal.ShortConv.final m c
  · obtain ⟨h0, h1, h2⟩ := hag c
    rw [Cert.Reference10Ideal.Read.val_main_v36_eq, h0, h1, h2]

/-- The queries', keys' and values' preparation: its three results. -/
theorem preparation : Cert.algebraic_Kernel11Ideal_Reference11Ideal_pre_finite_projections := by
  intro m ρ m' ρ' hpre hag
  refine ⟨fun c => Cert.Reference11Ideal.Read.val_main_v98 (F := Ideal) (Cert.Kernel11Ideal.Prep.argX m c) (Cert.Kernel11Ideal.Prep.argG m c),
    fun c => Cert.Reference11Ideal.Read.val_main_v100 (F := Ideal) (Cert.Kernel11Ideal.Prep.argX m c) (Cert.Kernel11Ideal.Prep.argH m c),
    fun c => Cert.Reference11Ideal.Read.val_main_v102 (F := Ideal) (Cert.Kernel11Ideal.Prep.argX m c),
    (θ_run _ _ _).mono (fun _ h c => ⟨(h c).1.trans ?_, (h c).2.1.trans ?_, (h c).2.2.1.trans ?_, (h c).2.2.2⟩)
      (Cert.Kernel11Ideal.Value.run_blocks m ρ),
    (θ_run _ _ _).mono (fun _ h c => ⟨(h c).1.trans ?_, (h c).2.1.trans ?_, (h c).2.2.1.trans ?_, (h c).2.2.2⟩)
      (Cert.Reference11Ideal.Value.run (F := Ideal) m' ρ')⟩
  · exact Cert.Kernel11Ideal.Prep.finalQ m hpre c
  · exact Cert.Kernel11Ideal.Prep.finalK m hpre c
  · exact Cert.Kernel11Ideal.Prep.finalV m c
  · obtain ⟨h0, h1, _⟩ := hag c
    rw [Cert.Reference11Ideal.Read.val_main_v98_eq, h0, h1]
  · obtain ⟨h0, _, h2⟩ := hag c
    rw [Cert.Reference11Ideal.Read.val_main_v100_eq, h0, h2]
  · obtain ⟨h0, _, _⟩ := hag c
    rw [Cert.Reference11Ideal.Read.val_main_v102_eq, h0]

/-- The preparation of the context's keys and values. -/
theorem contextPreparation : Cert.algebraic_Kernel12Ideal_Reference12Ideal_pre_finite_keys := by
  intro m ρ m' ρ' hpre hag
  refine ⟨fun c => Cert.Reference12Ideal.Read.val_main_v22 (F := Ideal) (Cert.Kernel12Ideal.Prep.argX m c) (Cert.Kernel12Ideal.Prep.argH m c),
    fun c => Cert.Reference12Ideal.Read.val_main_v24 (F := Ideal) (Cert.Kernel12Ideal.Prep.argX m c),
    (θ_run _ _ _).mono (fun _ h c => ⟨(h c).1.trans ?_, (h c).2.1.trans ?_, (h c).2.2⟩)
      (Cert.Kernel12Ideal.Value.run_blocks m ρ),
    (θ_run _ _ _).mono (fun _ h c => ⟨(h c).1.trans ?_, (h c).2.1.trans ?_, (h c).2.2⟩)
      (Cert.Reference12Ideal.Value.run (F := Ideal) m' ρ')⟩
  · exact Cert.Kernel12Ideal.Prep.finalK m hpre c
  · exact Cert.Kernel12Ideal.Prep.finalV m c
  · obtain ⟨h0, h1⟩ := hag c
    rw [Cert.Reference12Ideal.Read.val_main_v22_eq, h0, h1]
  · obtain ⟨h0, _⟩ := hag c
    rw [Cert.Reference12Ideal.Read.val_main_v24_eq, h0]

/-- The context's expert feed-forward. -/
theorem contextFeedForward : Cert.algebraic_Kernel13Ideal_Reference13Ideal := by
  intro m ρ m' ρ' _ hag
  refine ⟨fun c => Cert.Reference13Ideal.Read.val_main_v18 (F := Ideal) (Cert.Kernel13Ideal.Ffn.argX m c) (Cert.Kernel13Ideal.Ffn.argWg m c)
      (Cert.Kernel13Ideal.Ffn.argWu m c) (Cert.Kernel13Ideal.Ffn.argWd m c) (Cert.Kernel13Ideal.Ffn.argG m c),
    (θ_run _ _ _).mono (fun _ h c => ⟨(h c).1.trans ?_, (h c).2⟩) (Cert.Kernel13Ideal.Value.run_blocks m ρ),
    (θ_run _ _ _).mono (fun _ h c => ⟨(h c).1.trans ?_, (h c).2⟩) (Cert.Reference13Ideal.Value.run (F := Ideal) m' ρ')⟩
  · exact Cert.Kernel13Ideal.Ffn.final m c
  · obtain ⟨h0, h1, h2, h3, h4⟩ := hag c
    rw [Cert.Reference13Ideal.Read.val_main_v18_eq, h0, h1, h2, h3, h4]

/-- The context's norm after the experts. -/
theorem contextPostnorm : Cert.algebraic_Kernel14Ideal_Reference14Ideal := by
  intro m ρ m' ρ' _ hag
  refine ⟨fun c => Cert.Reference14Ideal.Read.val_main_v32 (F := Ideal)
      (Cert.Kernel14Ideal.Postnorm.argY m c) (Cert.Kernel14Ideal.Postnorm.argX m c) (Cert.Kernel14Ideal.Postnorm.argGate m c)
      (Cert.Kernel14Ideal.Postnorm.argG m c) (Cert.Kernel14Ideal.Postnorm.argB m c),
    (θ_run _ _ _).mono (fun _ h c => ⟨(h c).1.trans ?_, (h c).2⟩) (Cert.Kernel14Ideal.Value.run_blocks m ρ),
    (θ_run _ _ _).mono (fun _ h c => ⟨(h c).1.trans ?_, (h c).2⟩) (Cert.Reference14Ideal.Value.run (F := Ideal) m' ρ')⟩
  · exact Cert.Kernel14Ideal.Postnorm.final m c
  · obtain ⟨h0, h1, h2, h3, h4⟩ := hag c
    rw [Cert.Reference14Ideal.Read.val_main_v32_eq, h0, h1, h2, h3, h4]

/-- The context's Hyena input projection. -/
theorem contextHyenaIn : Cert.algebraic_Kernel15Ideal_Reference15Ideal := by
  intro m ρ m' ρ' _ hag
  refine ⟨fun c => Cert.Reference15Ideal.Read.val_main_v8 (F := Ideal)
      (Cert.Kernel15Ideal.ModMatmul.argX m c) (Cert.Kernel15Ideal.ModMatmul.argShift m c)
      (Cert.Kernel15Ideal.ModMatmul.argScale m c) (Cert.Kernel15Ideal.ModMatmul.argW m c),
    (θ_run _ _ _).mono (fun _ h c => ⟨(h c).1.trans ?_, (h c).2⟩) (Cert.Kernel15Ideal.Value.run_blocks m ρ),
    (θ_run _ _ _).mono (fun _ h c => ⟨(h c).1.trans ?_, (h c).2⟩) (Cert.Reference15Ideal.Value.run (F := Ideal) m' ρ')⟩
  · exact Cert.Kernel15Ideal.ModMatmul.final m c
  · obtain ⟨h0, h1, h2, h3⟩ := hag c
    rw [Cert.Reference15Ideal.Read.val_main_v8_eq, h0, h1, h2, h3]

/-- The context's Hyena output projection and norm. -/
theorem contextHyenaOut : Cert.algebraic_Kernel16Ideal_Reference16Ideal := by
  intro m ρ m' ρ' _ hag
  refine ⟨fun c => Cert.Reference16Ideal.Read.val_main_v35 (F := Ideal)
      (Cert.Kernel16Ideal.MatmulPostnorm.argZ m c) (Cert.Kernel16Ideal.MatmulPostnorm.argW m c)
      (Cert.Kernel16Ideal.MatmulPostnorm.argX m c) (Cert.Kernel16Ideal.MatmulPostnorm.argGate m c)
      (Cert.Kernel16Ideal.MatmulPostnorm.argG m c) (Cert.Kernel16Ideal.MatmulPostnorm.argB m c),
    (θ_run _ _ _).mono (fun _ h c => ⟨(h c).1.trans ?_, (h c).2⟩) (Cert.Kernel16Ideal.Value.run_blocks m ρ),
    (θ_run _ _ _).mono (fun _ h c => ⟨(h c).1.trans ?_, (h c).2⟩) (Cert.Reference16Ideal.Value.run (F := Ideal) m' ρ')⟩
  · exact Cert.Kernel16Ideal.MatmulPostnorm.final m c
  · obtain ⟨h0, h1, h2, h3, h4, h5⟩ := hag c
    rw [Cert.Reference16Ideal.Read.val_main_v35_eq, h0, h1, h2, h3, h4, h5]

/-- The context's router. -/
theorem contextRouter : Cert.algebraic_Kernel17Ideal_Reference17Ideal := by
  intro m ρ m' ρ' _ hag
  refine ⟨fun c => Cert.Reference17Ideal.Read.val_main_v20 (F := Ideal)
      (Cert.Kernel17Ideal.Router.argX m c) (Cert.Kernel17Ideal.Router.argShift m c) (Cert.Kernel17Ideal.Router.argScale m c)
      (Cert.Kernel17Ideal.Router.argW m c),
    fun c => Cert.Reference17Ideal.Read.val_main_values (F := Ideal)
      (Cert.Kernel17Ideal.Router.argX m c) (Cert.Kernel17Ideal.Router.argShift m c) (Cert.Kernel17Ideal.Router.argScale m c)
      (Cert.Kernel17Ideal.Router.argW m c),
    fun c => Cert.Reference17Ideal.Read.val_main_indices (F := Ideal)
      (Cert.Kernel17Ideal.Router.argX m c) (Cert.Kernel17Ideal.Router.argShift m c) (Cert.Kernel17Ideal.Router.argScale m c)
      (Cert.Kernel17Ideal.Router.argW m c),
    Cert.Kernel17Ideal.Router.run m ρ,
    (θ_run _ _ _).mono (fun _ h c => ⟨(h c).1.trans ?_, (h c).2.1.trans ?_, (h c).2.2.1.trans ?_, (h c).2.2.2⟩)
      (Cert.Reference17Ideal.Value.run (F := Ideal) m' ρ')⟩
  all_goals obtain ⟨h0, h1, h2, h3⟩ := hag c
  · rw [Cert.Reference17Ideal.Read.val_main_v20_eq, h0, h1, h2, h3]
  · rw [Cert.Reference17Ideal.Read.val_main_values_eq, h0, h1, h2, h3]
  · rw [Cert.Reference17Ideal.Read.val_main_indices_eq, h0, h1, h2, h3]

/-- The projection to the context's keys and values. -/
theorem contextProjection : Cert.algebraic_Kernel18Ideal_Reference18Ideal := by
  intro m ρ m' ρ' _ hag
  refine ⟨fun c => Cert.Reference18Ideal.Read.val_main_v8 (F := Ideal)
      (Cert.Kernel18Ideal.QkvMatmul.argX m c) (Cert.Kernel18Ideal.QkvMatmul.argShift m c) (Cert.Kernel18Ideal.QkvMatmul.argScale m c) (Cert.Kernel18Ideal.QkvMatmul.argW m c),
    (θ_run _ _ _).mono (fun _ h c => ⟨(h c).1.trans ?_, (h c).2⟩) (Cert.Kernel18Ideal.Value.run_blocks m ρ),
    (θ_run _ _ _).mono (fun _ h c => ⟨(h c).1.trans ?_, (h c).2⟩) (Cert.Reference18Ideal.Value.run (F := Ideal) m' ρ')⟩
  · exact Cert.Kernel18Ideal.QkvMatmul.final m c
  · obtain ⟨h0, h1, h2, h3⟩ := hag c
    rw [Cert.Reference18Ideal.Read.val_main_v8_eq, h0, h1, h2, h3]

/-- The context's short convolution. -/
theorem contextShortConv : Cert.algebraic_Kernel19Ideal_Reference19Ideal := by
  intro m ρ m' ρ' _ hag
  refine ⟨fun c => Cert.Reference19Ideal.Read.val_main_v36 (F := Ideal)
      (Cert.Kernel19Ideal.ShortConv.argP m c) (Cert.Kernel19Ideal.ShortConv.argW m c) (Cert.Kernel19Ideal.ShortConv.argB m c),
    (θ_run _ _ _).mono (fun _ h c => ⟨(h c).1.trans ?_, (h c).2⟩) (Cert.Kernel19Ideal.Value.run_blocks m ρ),
    (θ_run _ _ _).mono (fun _ h c => ⟨(h c).1.trans ?_, (h c).2⟩) (Cert.Reference19Ideal.Value.run (F := Ideal) m' ρ')⟩
  · exact Cert.Kernel19Ideal.ShortConv.final m c
  · obtain ⟨h0, h1, h2⟩ := hag c
    rw [Cert.Reference19Ideal.Read.val_main_v36_eq, h0, h1, h2]

/-! ## Everything claimed -/

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite_scores.Gen.facts, Cert.Pre_finite_projections.Gen.facts, Cert.Pre_finite_keys.Gen.facts,
    fun m ρ _ => Cert.Kernel.Gen.frame m ρ, fun m ρ _ => Cert.KernelIdeal.Gen.frame m ρ, fun m ρ _ => Cert.KernelIdeal.Gen.frame m ρ,
    referenceFrame, fun m ρ _ => referenceFrame m ρ trivial,
    fun m ρ _ => Cert.Kernel2.Gen.frame m ρ, fun m ρ _ => Cert.Kernel2Ideal.Gen.frame m ρ, reference2Frame,
    fun m ρ _ => Cert.Kernel3.Gen.frame m ρ, fun m ρ _ => Cert.Kernel3Ideal.Gen.frame m ρ, reference3Frame,
    fun m ρ _ => Cert.Kernel4.Gen.frame m ρ, fun m ρ _ => Cert.Kernel4Ideal.Gen.frame m ρ, reference4Frame,
    fun m ρ _ => Cert.Kernel5.Gen.frame m ρ, fun m ρ _ => Cert.Kernel5Ideal.Gen.frame m ρ, reference5Frame,
    fun m ρ _ => Cert.Kernel6.Gen.frame m ρ, fun m ρ _ => Cert.Kernel6Ideal.Gen.frame m ρ, reference6Frame,
    fun m ρ _ => Cert.Kernel7.Gen.frame m ρ, fun m ρ _ => Cert.Kernel7Ideal.Gen.frame m ρ, reference7Frame,
    fun m ρ _ => Cert.Kernel8.Gen.frame m ρ, fun m ρ _ => Cert.Kernel8Ideal.Gen.frame m ρ, reference8Frame,
    fun m ρ _ => Cert.Kernel9.Gen.frame m ρ, fun m ρ _ => Cert.Kernel9Ideal.Gen.frame m ρ, reference9Frame,
    fun m ρ _ => Cert.Kernel10.Gen.frame m ρ, fun m ρ _ => Cert.Kernel10Ideal.Gen.frame m ρ, reference10Frame,
    fun m ρ _ => Cert.Kernel11.Gen.frame m ρ, fun m ρ _ => Cert.Kernel11Ideal.Gen.frame m ρ,
    fun m ρ _ => Cert.Kernel11Ideal.Gen.frame m ρ, reference11Frame, fun m ρ _ => reference11Frame m ρ trivial,
    fun m ρ _ => Cert.Kernel12.Gen.frame m ρ, fun m ρ _ => Cert.Kernel12Ideal.Gen.frame m ρ,
    fun m ρ _ => Cert.Kernel12Ideal.Gen.frame m ρ, reference12Frame, fun m ρ _ => reference12Frame m ρ trivial,
    fun m ρ _ => Cert.Kernel13.Gen.frame m ρ, fun m ρ _ => Cert.Kernel13Ideal.Gen.frame m ρ, reference13Frame,
    fun m ρ _ => Cert.Kernel14.Gen.frame m ρ, fun m ρ _ => Cert.Kernel14Ideal.Gen.frame m ρ, reference14Frame,
    fun m ρ _ => Cert.Kernel15.Gen.frame m ρ, fun m ρ _ => Cert.Kernel15Ideal.Gen.frame m ρ, reference15Frame,
    fun m ρ _ => Cert.Kernel16.Gen.frame m ρ, fun m ρ _ => Cert.Kernel16Ideal.Gen.frame m ρ, reference16Frame,
    fun m ρ _ => Cert.Kernel17.Gen.frame m ρ, fun m ρ _ => Cert.Kernel17Ideal.Gen.frame m ρ, reference17Frame,
    fun m ρ _ => Cert.Kernel18.Gen.frame m ρ, fun m ρ _ => Cert.Kernel18Ideal.Gen.frame m ρ, reference18Frame,
    fun m ρ _ => Cert.Kernel19.Gen.frame m ρ, fun m ρ _ => Cert.Kernel19Ideal.Gen.frame m ρ, reference19Frame,
    trivial, attention, trivial, feedForward,
    trivial, postnorm, trivial, hyenaIn, trivial, hyenaOut, trivial, gmlp, trivial, attentionOut, trivial, router,
    trivial, qkvProjection, trivial, shortConv, trivial, preparation, trivial, contextPreparation,
    trivial, contextFeedForward, trivial, contextPostnorm, trivial, contextHyenaIn, trivial, contextHyenaOut,
    trivial, contextRouter, trivial, contextProjection, trivial, contextShortConv⟩

end Cert.Proof

end
